-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 1024, 512]⟩ ⟨3, ![4, 1024, 8192]⟩ 2 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4, 512]⟩ ⟨2, ![4, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x512 : Shape := ⟨3, ![4, 1024, 512]⟩
abbrev S4x512 : Shape := ⟨2, ![4, 512]⟩
abbrev S512x512 : Shape := ⟨2, ![512, 512]⟩
abbrev S4096x512 : Shape := ⟨2, ![4096, 512]⟩
abbrev S7x256x512 : Shape := ⟨3, ![7, 256, 512]⟩
abbrev S256x512 : Shape := ⟨2, ![256, 512]⟩
abbrev S2048x512 : Shape := ⟨2, ![2048, 512]⟩
abbrev S7 : Shape := ⟨1, ![7]⟩
abbrev S4 : Shape := ⟨1, ![4]⟩
abbrev S_ : Shape := ⟨0, ![]⟩
abbrev S1x256x512 : Shape := ⟨3, ![1, 256, 512]⟩
abbrev S1x8x512 : Shape := ⟨3, ![1, 8, 512]⟩
abbrev S8x512 : Shape := ⟨2, ![8, 512]⟩
abbrev S3x512 : Shape := ⟨2, ![3, 512]⟩
abbrev S259x512 : Shape := ⟨2, ![259, 512]⟩
abbrev S1x512 : Shape := ⟨2, ![1, 512]⟩
abbrev S512 : Shape := ⟨1, ![512]⟩
abbrev S1 : Shape := ⟨1, ![1]⟩
abbrev S1x128x512 : Shape := ⟨3, ![1, 128, 512]⟩
abbrev S128x512 : Shape := ⟨2, ![128, 512]⟩

abbrev nBuf : Space → Nat
  | .hbm => 4
  | .vmem => 10
  | .smem => 0
  | _ => 0

abbrev bufTy : (tb : Table) → Fin (tcTables nBuf tb) → BufTy
  | .hbm, ⟨0, _⟩ => ⟨S4x1024x512, .f32⟩
  | .hbm, ⟨1, _⟩ => ⟨S4x512, .f32⟩
  | .hbm, ⟨2, _⟩ => ⟨S512x512, .f32⟩
  | .hbm, ⟨3, _⟩ => ⟨S4096x512, .f32⟩
  | .local _ .vmem, ⟨0, _⟩ => ⟨S4x1024x512, .f32⟩
  | .local _ .vmem, ⟨1, _⟩ => ⟨S4x512, .f32⟩
  | .local _ .vmem, ⟨2, _⟩ => ⟨S512x512, .f32⟩
  | .local _ .vmem, ⟨3, _⟩ => ⟨S4096x512, .f32⟩
  | .local _ .vmem, ⟨4, _⟩ => ⟨S7x256x512, .bf16⟩
  | .local _ .vmem, ⟨5, _⟩ => ⟨S7x256x512, .bf16⟩
  | .local _ .vmem, ⟨6, _⟩ => ⟨S256x512, .bf16⟩
  | .local _ .vmem, ⟨7, _⟩ => ⟨S256x512, .bf16⟩
  | .local _ .vmem, ⟨8, _⟩ => ⟨S2048x512, .bf16⟩
  | .local _ .vmem, ⟨9, _⟩ => ⟨S2048x512, .bf16⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 124 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | _ => false

abbrev sig : RefSig :=
  (ofTc nBuf bufTy 1 124 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_110 : BitVec 32 := 1#32
  let v124 : BitVec 32 := Scalar.muli v92 c1_i32_110
  let v125 : BitVec 32 := Scalar.addi c0_i32_111 v124
  v125.toNat
def k0_dev2 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_113 : BitVec 32 := 1#32
  let v126 : BitVec 32 := Scalar.muli v62 c1_i32_113
  let v127 : BitVec 32 := Scalar.addi c0_i32_114 v126
  v127.toNat
def k0_dev3 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_107 : BitVec 32 := 15#32
  let v121 : BitVec 1 := Scalar.cmpi .eq v2 c15_i32_107
  let c14_i32_108 : BitVec 32 := 14#32
  let c14_i32_105 : BitVec 32 := 14#32
  let v119 : BitVec 1 := Scalar.cmpi .eq v2 c14_i32_105
  let c15_i32_106 : BitVec 32 := 15#32
  let c13_i32_103 : BitVec 32 := 13#32
  let v117 : BitVec 1 := Scalar.cmpi .eq v2 c13_i32_103
  let c12_i32_104 : BitVec 32 := 12#32
  let c12_i32_101 : BitVec 32 := 12#32
  let v115 : BitVec 1 := Scalar.cmpi .eq v2 c12_i32_101
  let c13_i32_102 : BitVec 32 := 13#32
  let c11_i32_99 : BitVec 32 := 11#32
  let v113 : BitVec 1 := Scalar.cmpi .eq v2 c11_i32_99
  let c10_i32_100 : BitVec 32 := 10#32
  let c10_i32_97 : BitVec 32 := 10#32
  let v111 : BitVec 1 := Scalar.cmpi .eq v2 c10_i32_97
  let c11_i32_98 : BitVec 32 := 11#32
  let c9_i32_95 : BitVec 32 := 9#32
  let v109 : BitVec 1 := Scalar.cmpi .eq v2 c9_i32_95
  let c8_i32_96 : BitVec 32 := 8#32
  let c8_i32_93 : BitVec 32 := 8#32
  let v107 : BitVec 1 := Scalar.cmpi .eq v2 c8_i32_93
  let c9_i32_94 : BitVec 32 := 9#32
  let c7_i32_91 : BitVec 32 := 7#32
  let v105 : BitVec 1 := Scalar.cmpi .eq v2 c7_i32_91
  let c6_i32_92 : BitVec 32 := 6#32
  let c6_i32_89 : BitVec 32 := 6#32
  let v103 : BitVec 1 := Scalar.cmpi .eq v2 c6_i32_89
  let c7_i32_90 : BitVec 32 := 7#32
  let c5_i32_87 : BitVec 32 := 5#32
  let v101 : BitVec 1 := Scalar.cmpi .eq v2 c5_i32_87
  let c4_i32_88 : BitVec 32 := 4#32
  let c4_i32_85 : BitVec 32 := 4#32
  let v99 : BitVec 1 := Scalar.cmpi .eq v2 c4_i32_85
  let c5_i32_86 : BitVec 32 := 5#32
  let c3_i32_83 : BitVec 32 := 3#32
  let v97 : BitVec 1 := Scalar.cmpi .eq v2 c3_i32_83
  let c2_i32_84 : BitVec 32 := 2#32
  let c2_i32_81 : BitVec 32 := 2#32
  let v95 : BitVec 1 := Scalar.cmpi .eq v2 c2_i32_81
  let c3_i32_82 : BitVec 32 := 3#32
  let c1_i32_78 : BitVec 32 := 1#32
  let v93 : BitVec 1 := Scalar.cmpi .eq v2 c1_i32_78
  let c0_i32_79 : BitVec 32 := 0#32
  let c1_i32_80 : BitVec 32 := 1#32
  let v94 : BitVec 32 := Scalar.select v93 c0_i32_79 c1_i32_80
  let v96 : BitVec 32 := Scalar.select v95 c3_i32_82 v94
  let v98 : BitVec 32 := Scalar.select v97 c2_i32_84 v96
  let v100 : BitVec 32 := Scalar.select v99 c5_i32_86 v98
  let v102 : BitVec 32 := Scalar.select v101 c4_i32_88 v100
  let v104 : BitVec 32 := Scalar.select v103 c7_i32_90 v102
  let v106 : BitVec 32 := Scalar.select v105 c6_i32_92 v104
  let v108 : BitVec 32 := Scalar.select v107 c9_i32_94 v106
  let v110 : BitVec 32 := Scalar.select v109 c8_i32_96 v108
  let v112 : BitVec 32 := Scalar.select v111 c11_i32_98 v110
  let v114 : BitVec 32 := Scalar.select v113 c10_i32_100 v112
  let v116 : BitVec 32 := Scalar.select v115 c13_i32_102 v114
  let v118 : BitVec 32 := Scalar.select v117 c12_i32_104 v116
  let v120 : BitVec 32 := Scalar.select v119 c15_i32_106 v118
  let v122 : BitVec 32 := Scalar.select v121 c14_i32_108 v120
  let c1_i32_116 : BitVec 32 := 1#32
  let v128 : BitVec 32 := Scalar.muli v122 c1_i32_116
  let v129 : BitVec 32 := Scalar.addi c0_i32_117 v128
  v129.toNat
def k0_mult1 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c0_i32_122 : BitVec 32 := 0#32
  let v135 : BitVec 32 := Scalar.addi v32 c0_i32_122
  let c16_i32_123 : BitVec 32 := 16#32
  let v136 : BitVec 32 := Scalar.addi v135 c16_i32_123
  let c8_i32_124 : BitVec 32 := 8#32
  let v137 : BitVec 32 := Scalar.remsi v136 c8_i32_124
  let c4_i32_127 : BitVec 32 := 4#32
  let v140 : BitVec 32 := Scalar.remsi v137 c4_i32_127
  let c256_i32 : BitVec 32 := 256#32
  let v141 : BitVec 32 := Scalar.muli v140 c256_i32
  v141
def k0_off1 (d0 : Dev nD) (c0_i32_122 : BitVec 32) (c0_i32_126 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let v135 : BitVec 32 := Scalar.addi v32 c0_i32_122
  let c16_i32_123 : BitVec 32 := 16#32
  let v136 : BitVec 32 := Scalar.addi v135 c16_i32_123
  let c8_i32_124 : BitVec 32 := 8#32
  let v137 : BitVec 32 := Scalar.remsi v136 c8_i32_124
  let c4_i32_125 : BitVec 32 := 4#32
  let v138 : BitVec 32 := Scalar.divsi v137 c4_i32_125
  let v139 : BitVec 32 := Scalar.addi v138 c0_i32_126
  let v143 : Index := Scalar.indexCast v139
  let c4_i32_127 : BitVec 32 := 4#32
  let v140 : BitVec 32 := Scalar.remsi v137 c4_i32_127
  let c256_i32 : BitVec 32 := 256#32
  let v141 : BitVec 32 := Scalar.muli v140 c256_i32
  let v142 : BitVec 32 := v141
  let v144 : Index := Scalar.indexCast v142
  let c0_128 : Index := 0#32
  ![v143.toNat, v144.toNat, 0]
def k0_off1_at (r : Fin 16) : BitVec 32 × BitVec 32 :=
  if r.val < 8 then
    if r.val < 4 then
      if r.val < 2 then
        if r.val < 1 then
          (0#32, 0#32)
        else
          (0#32, 2#32)
      else
        if r.val < 3 then
          (4294967295#32, 0#32)
        else
          (1#32, 2#32)
    else
      if r.val < 6 then
        if r.val < 5 then
          (4294967294#32, 0#32)
        else
          (2#32, 2#32)
      else
        if r.val < 7 then
          (4294967293#32, 0#32)
        else
          (3#32, 2#32)
  else
    if r.val < 12 then
      if r.val < 10 then
        if r.val < 9 then
          (4294967292#32, 0#32)
        else
          (4#32, 2#32)
      else
        if r.val < 11 then
          (4294967291#32, 0#32)
        else
          (5#32, 2#32)
    else
      if r.val < 14 then
        if r.val < 13 then
          (4294967290#32, 0#32)
        else
          (6#32, 2#32)
      else
        if r.val < 15 then
          (4294967289#32, 0#32)
        else
          (7#32, 2#32)
def k0_mult2 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c0_i32_122 : BitVec 32 := 0#32
  let v135 : BitVec 32 := Scalar.addi v32 c0_i32_122
  let c16_i32_123 : BitVec 32 := 16#32
  let v136 : BitVec 32 := Scalar.addi v135 c16_i32_123
  let c8_i32_124 : BitVec 32 := 8#32
  let v137 : BitVec 32 := Scalar.remsi v136 c8_i32_124
  let c4_i32_127 : BitVec 32 := 4#32
  let v140 : BitVec 32 := Scalar.remsi v137 c4_i32_127
  let c256_i32 : BitVec 32 := 256#32
  let v141 : BitVec 32 := Scalar.muli v140 c256_i32
  let v142 : BitVec 32 := v141
  let c8_i32_129 : BitVec 32 := 8#32
  let v147 : BitVec 32 := Scalar.subi v142 c8_i32_129
  let c0_i32_130 : BitVec 32 := 0#32
  let v148 : BitVec 32 := Scalar.maxsi v147 c0_i32_130
  v148
def k0_off2 (d0 : Dev nD) (c0_i32_122 : BitVec 32) (c0_i32_126 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let v135 : BitVec 32 := Scalar.addi v32 c0_i32_122
  let c16_i32_123 : BitVec 32 := 16#32
  let v136 : BitVec 32 := Scalar.addi v135 c16_i32_123
  let c8_i32_124 : BitVec 32 := 8#32
  let v137 : BitVec 32 := Scalar.remsi v136 c8_i32_124
  let c4_i32_125 : BitVec 32 := 4#32
  let v138 : BitVec 32 := Scalar.divsi v137 c4_i32_125
  let v139 : BitVec 32 := Scalar.addi v138 c0_i32_126
  let v150 : Index := Scalar.indexCast v139
  let c4_i32_127 : BitVec 32 := 4#32
  let v140 : BitVec 32 := Scalar.remsi v137 c4_i32_127
  let c256_i32 : BitVec 32 := 256#32
  let v141 : BitVec 32 := Scalar.muli v140 c256_i32
  let v142 : BitVec 32 := v141
  let c8_i32_129 : BitVec 32 := 8#32
  let v147 : BitVec 32 := Scalar.subi v142 c8_i32_129
  let c0_i32_130 : BitVec 32 := 0#32
  let v148 : BitVec 32 := Scalar.maxsi v147 c0_i32_130
  let v149 : BitVec 32 := v148
  let v151 : Index := Scalar.indexCast v149
  let c0_131 : Index := 0#32
  ![v150.toNat, v151.toNat, 0]
def k0_off2_at (r : Fin 16) : BitVec 32 × BitVec 32 :=
  if r.val < 8 then
    if r.val < 4 then
      if r.val < 2 then
        if r.val < 1 then
          (0#32, 0#32)
        else
          (0#32, 2#32)
      else
        if r.val < 3 then
          (4294967295#32, 0#32)
        else
          (1#32, 2#32)
    else
      if r.val < 6 then
        if r.val < 5 then
          (4294967294#32, 0#32)
        else
          (2#32, 2#32)
      else
        if r.val < 7 then
          (4294967293#32, 0#32)
        else
          (3#32, 2#32)
  else
    if r.val < 12 then
      if r.val < 10 then
        if r.val < 9 then
          (4294967292#32, 0#32)
        else
          (4#32, 2#32)
      else
        if r.val < 11 then
          (4294967291#32, 0#32)
        else
          (5#32, 2#32)
    else
      if r.val < 14 then
        if r.val < 13 then
          (4294967290#32, 0#32)
        else
          (6#32, 2#32)
      else
        if r.val < 15 then
          (4294967289#32, 0#32)
        else
          (7#32, 2#32)
def k0_off3 (d0 : Dev nD) (c0_i32_122 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let v135 : BitVec 32 := Scalar.addi v32 c0_i32_122
  let c16_i32_123 : BitVec 32 := 16#32
  let v136 : BitVec 32 := Scalar.addi v135 c16_i32_123
  let c8_i32_124 : BitVec 32 := 8#32
  let v137 : BitVec 32 := Scalar.remsi v136 c8_i32_124
  let c256_i32_136 : BitVec 32 := 256#32
  let v195 : BitVec 32 := Scalar.muli v137 c256_i32_136
  let v196 : Index := Scalar.indexCast v195
  let c0_137 : Index := 0#32
  ![v196.toNat, 0]
def k0_off3_at (r : Fin 15) : BitVec 32 :=
  if r.val < 7 then
    if r.val < 3 then
      if r.val < 1 then
        0#32
      else
        if r.val < 2 then
          4294967295#32
        else
          1#32
    else
      if r.val < 5 then
        if r.val < 4 then
          4294967294#32
        else
          2#32
      else
        if r.val < 6 then
          4294967293#32
        else
          3#32
  else
    if r.val < 11 then
      if r.val < 9 then
        if r.val < 8 then
          4294967292#32
        else
          4#32
      else
        if r.val < 10 then
          4294967291#32
        else
          5#32
    else
      if r.val < 13 then
        if r.val < 12 then
          4294967290#32
        else
          6#32
      else
        if r.val < 14 then
          4294967289#32
        else
          7#32
def k0_mult3 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c0_i32_138 : BitVec 32 := 0#32
  let v200 : BitVec 32 := Scalar.addi v32 c0_i32_138
  let c16_i32_139 : BitVec 32 := 16#32
  let v201 : BitVec 32 := Scalar.addi v200 c16_i32_139
  let c8_i32_140 : BitVec 32 := 8#32
  let v202 : BitVec 32 := Scalar.remsi v201 c8_i32_140
  let c4_i32_143 : BitVec 32 := 4#32
  let v205 : BitVec 32 := Scalar.remsi v202 c4_i32_143
  let c256_i32_144 : BitVec 32 := 256#32
  let v206 : BitVec 32 := Scalar.muli v205 c256_i32_144
  v206
def k0_mult4 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c0_i32_138 : BitVec 32 := 0#32
  let v200 : BitVec 32 := Scalar.addi v32 c0_i32_138
  let c16_i32_139 : BitVec 32 := 16#32
  let v201 : BitVec 32 := Scalar.addi v200 c16_i32_139
  let c8_i32_140 : BitVec 32 := 8#32
  let v202 : BitVec 32 := Scalar.remsi v201 c8_i32_140
  let c4_i32_143 : BitVec 32 := 4#32
  let v205 : BitVec 32 := Scalar.remsi v202 c4_i32_143
  let c256_i32_144 : BitVec 32 := 256#32
  let v206 : BitVec 32 := Scalar.muli v205 c256_i32_144
  let v207 : BitVec 32 := v206
  let c8_i32_146 : BitVec 32 := 8#32
  let v212 : BitVec 32 := Scalar.subi v207 c8_i32_146
  let c0_i32_147 : BitVec 32 := 0#32
  let v213 : BitVec 32 := Scalar.maxsi v212 c0_i32_147
  v213
def k0_off4 (d0 : Dev nD) (c0_i32_156 : BitVec 32) (c0_i32_164 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let v265 : BitVec 32 := Scalar.addi v32 c0_i32_156
  let c16_i32_157 : BitVec 32 := 16#32
  let v266 : BitVec 32 := Scalar.addi v265 c16_i32_157
  let c8_i32_158 : BitVec 32 := 8#32
  let v267 : BitVec 32 := Scalar.remsi v266 c8_i32_158
  let c256_i32_159 : BitVec 32 := 256#32
  let v268 : BitVec 32 := Scalar.muli v267 c256_i32_159
  let v273 : BitVec 32 := Scalar.addi v268 c0_i32_164
  let c0_i32_174 : BitVec 32 := 0#32
  ![v273.toNat, 0]
def k0_off4_at (r : Fin 30) : BitVec 32 × BitVec 32 :=
  if r.val < 15 then
    if r.val < 7 then
      if r.val < 3 then
        if r.val < 1 then
          (0#32, 0#32)
        else
          if r.val < 2 then
            (0#32, 128#32)
          else
            (4294967295#32, 0#32)
      else
        if r.val < 5 then
          if r.val < 4 then
            (4294967295#32, 128#32)
          else
            (1#32, 0#32)
        else
          if r.val < 6 then
            (1#32, 128#32)
          else
            (4294967294#32, 0#32)
    else
      if r.val < 11 then
        if r.val < 9 then
          if r.val < 8 then
            (4294967294#32, 128#32)
          else
            (2#32, 0#32)
        else
          if r.val < 10 then
            (2#32, 128#32)
          else
            (4294967293#32, 0#32)
      else
        if r.val < 13 then
          if r.val < 12 then
            (4294967293#32, 128#32)
          else
            (3#32, 0#32)
        else
          if r.val < 14 then
            (3#32, 128#32)
          else
            (4294967292#32, 0#32)
  else
    if r.val < 22 then
      if r.val < 18 then
        if r.val < 16 then
          (4294967292#32, 128#32)
        else
          if r.val < 17 then
            (4#32, 0#32)
          else
            (4#32, 128#32)
      else
        if r.val < 20 then
          if r.val < 19 then
            (4294967291#32, 0#32)
          else
            (4294967291#32, 128#32)
        else
          if r.val < 21 then
            (5#32, 0#32)
          else
            (5#32, 128#32)
    else
      if r.val < 26 then
        if r.val < 24 then
          if r.val < 23 then
            (4294967290#32, 0#32)
          else
            (4294967290#32, 128#32)
        else
          if r.val < 25 then
            (6#32, 0#32)
          else
            (6#32, 128#32)
      else
        if r.val < 28 then
          if r.val < 27 then
            (4294967289#32, 0#32)
          else
            (4294967289#32, 128#32)
        else
          if r.val < 29 then
            (7#32, 0#32)
          else
            (7#32, 128#32)
def k0_dev4 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_170 : BitVec 32 := 1#32
  let v277 : BitVec 32 := Scalar.muli v62 c1_i32_170
  let v278 : BitVec 32 := Scalar.addi c0_i32_171 v277
  v278.toNat
def k0_dev5 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_178 : BitVec 32 := 1#32
  let v286 : BitVec 32 := Scalar.muli v62 c1_i32_178
  let v287 : BitVec 32 := Scalar.addi c0_i32_179 v286
  v287.toNat
def k0_dev6 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_186 : BitVec 32 := 1#32
  let v295 : BitVec 32 := Scalar.muli v92 c1_i32_186
  let v296 : BitVec 32 := Scalar.addi c0_i32_187 v295
  v296.toNat
def k0_dev7 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_194 : BitVec 32 := 1#32
  let v304 : BitVec 32 := Scalar.muli v92 c1_i32_194
  let v305 : BitVec 32 := Scalar.addi c0_i32_195 v304
  v305.toNat
def k0_mult5 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c_m1_i32 : BitVec 32 := 4294967295#32
  let v313 : BitVec 32 := Scalar.addi v32 c_m1_i32
  let c16_i32_199 : BitVec 32 := 16#32
  let v314 : BitVec 32 := Scalar.addi v313 c16_i32_199
  let c8_i32_200 : BitVec 32 := 8#32
  let v315 : BitVec 32 := Scalar.remsi v314 c8_i32_200
  let c4_i32_203 : BitVec 32 := 4#32
  let v318 : BitVec 32 := Scalar.remsi v315 c4_i32_203
  let c256_i32_204 : BitVec 32 := 256#32
  let v319 : BitVec 32 := Scalar.muli v318 c256_i32_204
  v319
def k0_mult6 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c_m1_i32 : BitVec 32 := 4294967295#32
  let v313 : BitVec 32 := Scalar.addi v32 c_m1_i32
  let c16_i32_199 : BitVec 32 := 16#32
  let v314 : BitVec 32 := Scalar.addi v313 c16_i32_199
  let c8_i32_200 : BitVec 32 := 8#32
  let v315 : BitVec 32 := Scalar.remsi v314 c8_i32_200
  let c4_i32_203 : BitVec 32 := 4#32
  let v318 : BitVec 32 := Scalar.remsi v315 c4_i32_203
  let c256_i32_204 : BitVec 32 := 256#32
  let v319 : BitVec 32 := Scalar.muli v318 c256_i32_204
  let v320 : BitVec 32 := v319
  let c8_i32_206 : BitVec 32 := 8#32
  let v325 : BitVec 32 := Scalar.subi v320 c8_i32_206
  let c0_i32_207 : BitVec 32 := 0#32
  let v326 : BitVec 32 := Scalar.maxsi v325 c0_i32_207
  v326
def k0_mult7 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c1_i32_216 : BitVec 32 := 1#32
  let v378 : BitVec 32 := Scalar.addi v32 c1_i32_216
  let c16_i32_217 : BitVec 32 := 16#32
  let v379 : BitVec 32 := Scalar.addi v378 c16_i32_217
  let c8_i32_218 : BitVec 32 := 8#32
  let v380 : BitVec 32 := Scalar.remsi v379 c8_i32_218
  let c4_i32_221 : BitVec 32 := 4#32
  let v383 : BitVec 32 := Scalar.remsi v380 c4_i32_221
  let c256_i32_222 : BitVec 32 := 256#32
  let v384 : BitVec 32 := Scalar.muli v383 c256_i32_222
  v384
def k0_mult8 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c1_i32_216 : BitVec 32 := 1#32
  let v378 : BitVec 32 := Scalar.addi v32 c1_i32_216
  let c16_i32_217 : BitVec 32 := 16#32
  let v379 : BitVec 32 := Scalar.addi v378 c16_i32_217
  let c8_i32_218 : BitVec 32 := 8#32
  let v380 : BitVec 32 := Scalar.remsi v379 c8_i32_218
  let c4_i32_221 : BitVec 32 := 4#32
  let v383 : BitVec 32 := Scalar.remsi v380 c4_i32_221
  let c256_i32_222 : BitVec 32 := 256#32
  let v384 : BitVec 32 := Scalar.muli v383 c256_i32_222
  let v385 : BitVec 32 := v384
  let c8_i32_224 : BitVec 32 := 8#32
  let v390 : BitVec 32 := Scalar.subi v385 c8_i32_224
  let c0_i32_225 : BitVec 32 := 0#32
  let v391 : BitVec 32 := Scalar.maxsi v390 c0_i32_225
  v391
def k0_off5 (d0 : Dev nD) (c_m1_i32_234 : BitVec 32) (c0_i32_250 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let v443 : BitVec 32 := Scalar.addi v32 c_m1_i32_234
  let c16_i32_235 : BitVec 32 := 16#32
  let v444 : BitVec 32 := Scalar.addi v443 c16_i32_235
  let c8_i32_236 : BitVec 32 := 8#32
  let v445 : BitVec 32 := Scalar.remsi v444 c8_i32_236
  let c256_i32_237 : BitVec 32 := 256#32
  let v446 : BitVec 32 := Scalar.muli v445 c256_i32_237
  let v458 : BitVec 32 := Scalar.addi v446 c0_i32_250
  let v459 : Index := Scalar.indexCast v458
  let c0_251 : Index := 0#32
  ![v459.toNat, 0]
def k0_off5_at (r : Fin 28) : BitVec 32 × BitVec 32 :=
  if r.val < 14 then
    if r.val < 7 then
      if r.val < 3 then
        if r.val < 1 then
          (4294967295#32, 0#32)
        else
          if r.val < 2 then
            (4294967295#32, 128#32)
          else
            (1#32, 0#32)
      else
        if r.val < 5 then
          if r.val < 4 then
            (1#32, 128#32)
          else
            (4294967294#32, 0#32)
        else
          if r.val < 6 then
            (4294967294#32, 128#32)
          else
            (2#32, 0#32)
    else
      if r.val < 10 then
        if r.val < 8 then
          (2#32, 128#32)
        else
          if r.val < 9 then
            (4294967293#32, 0#32)
          else
            (4294967293#32, 128#32)
      else
        if r.val < 12 then
          if r.val < 11 then
            (3#32, 0#32)
          else
            (3#32, 128#32)
        else
          if r.val < 13 then
            (4294967292#32, 0#32)
          else
            (4294967292#32, 128#32)
  else
    if r.val < 21 then
      if r.val < 17 then
        if r.val < 15 then
          (4#32, 0#32)
        else
          if r.val < 16 then
            (4#32, 128#32)
          else
            (4294967291#32, 0#32)
      else
        if r.val < 19 then
          if r.val < 18 then
            (4294967291#32, 128#32)
          else
            (5#32, 0#32)
        else
          if r.val < 20 then
            (5#32, 128#32)
          else
            (4294967290#32, 0#32)
    else
      if r.val < 24 then
        if r.val < 22 then
          (4294967290#32, 128#32)
        else
          if r.val < 23 then
            (6#32, 0#32)
          else
            (6#32, 128#32)
      else
        if r.val < 26 then
          if r.val < 25 then
            (4294967289#32, 0#32)
          else
            (4294967289#32, 128#32)
        else
          if r.val < 27 then
            (7#32, 0#32)
          else
            (7#32, 128#32)
def k0_dev8 (d0 : Dev nD) : Nat :=
  let c0_i32_313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_312 : BitVec 32 := 1#32
  let v531 : BitVec 32 := Scalar.muli v62 c1_i32_312
  let v532 : BitVec 32 := Scalar.addi c0_i32_313 v531
  v532.toNat
def k0_dev9 (d0 : Dev nD) : Nat :=
  let c0_i32_321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_320 : BitVec 32 := 1#32
  let v540 : BitVec 32 := Scalar.muli v62 c1_i32_320
  let v541 : BitVec 32 := Scalar.addi c0_i32_321 v540
  v541.toNat
def k0_dev10 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_328 : BitVec 32 := 1#32
  let v549 : BitVec 32 := Scalar.muli v92 c1_i32_328
  let v550 : BitVec 32 := Scalar.addi c0_i32_329 v549
  v550.toNat
def k0_dev11 (d0 : Dev nD) : Nat :=
  let c0_i32_337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_336 : BitVec 32 := 1#32
  let v558 : BitVec 32 := Scalar.muli v92 c1_i32_336
  let v559 : BitVec 32 := Scalar.addi c0_i32_337 v558
  v559.toNat
def k0_mult9 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c_m2_i32 : BitVec 32 := 4294967294#32
  let v567 : BitVec 32 := Scalar.addi v32 c_m2_i32
  let c16_i32_341 : BitVec 32 := 16#32
  let v568 : BitVec 32 := Scalar.addi v567 c16_i32_341
  let c8_i32_342 : BitVec 32 := 8#32
  let v569 : BitVec 32 := Scalar.remsi v568 c8_i32_342
  let c4_i32_345 : BitVec 32 := 4#32
  let v572 : BitVec 32 := Scalar.remsi v569 c4_i32_345
  let c256_i32_346 : BitVec 32 := 256#32
  let v573 : BitVec 32 := Scalar.muli v572 c256_i32_346
  v573
def k0_mult10 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c_m2_i32 : BitVec 32 := 4294967294#32
  let v567 : BitVec 32 := Scalar.addi v32 c_m2_i32
  let c16_i32_341 : BitVec 32 := 16#32
  let v568 : BitVec 32 := Scalar.addi v567 c16_i32_341
  let c8_i32_342 : BitVec 32 := 8#32
  let v569 : BitVec 32 := Scalar.remsi v568 c8_i32_342
  let c4_i32_345 : BitVec 32 := 4#32
  let v572 : BitVec 32 := Scalar.remsi v569 c4_i32_345
  let c256_i32_346 : BitVec 32 := 256#32
  let v573 : BitVec 32 := Scalar.muli v572 c256_i32_346
  let v574 : BitVec 32 := v573
  let c8_i32_348 : BitVec 32 := 8#32
  let v579 : BitVec 32 := Scalar.subi v574 c8_i32_348
  let c0_i32_349 : BitVec 32 := 0#32
  let v580 : BitVec 32 := Scalar.maxsi v579 c0_i32_349
  v580
def k0_mult11 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c2_i32_358 : BitVec 32 := 2#32
  let v632 : BitVec 32 := Scalar.addi v32 c2_i32_358
  let c16_i32_359 : BitVec 32 := 16#32
  let v633 : BitVec 32 := Scalar.addi v632 c16_i32_359
  let c8_i32_360 : BitVec 32 := 8#32
  let v634 : BitVec 32 := Scalar.remsi v633 c8_i32_360
  let c4_i32_363 : BitVec 32 := 4#32
  let v637 : BitVec 32 := Scalar.remsi v634 c4_i32_363
  let c256_i32_364 : BitVec 32 := 256#32
  let v638 : BitVec 32 := Scalar.muli v637 c256_i32_364
  v638
def k0_mult12 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c2_i32_358 : BitVec 32 := 2#32
  let v632 : BitVec 32 := Scalar.addi v32 c2_i32_358
  let c16_i32_359 : BitVec 32 := 16#32
  let v633 : BitVec 32 := Scalar.addi v632 c16_i32_359
  let c8_i32_360 : BitVec 32 := 8#32
  let v634 : BitVec 32 := Scalar.remsi v633 c8_i32_360
  let c4_i32_363 : BitVec 32 := 4#32
  let v637 : BitVec 32 := Scalar.remsi v634 c4_i32_363
  let c256_i32_364 : BitVec 32 := 256#32
  let v638 : BitVec 32 := Scalar.muli v637 c256_i32_364
  let v639 : BitVec 32 := v638
  let c8_i32_366 : BitVec 32 := 8#32
  let v644 : BitVec 32 := Scalar.subi v639 c8_i32_366
  let c0_i32_367 : BitVec 32 := 0#32
  let v645 : BitVec 32 := Scalar.maxsi v644 c0_i32_367
  v645
def k0_dev12 (d0 : Dev nD) : Nat :=
  let c0_i32_455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_454 : BitVec 32 := 1#32
  let v785 : BitVec 32 := Scalar.muli v62 c1_i32_454
  let v786 : BitVec 32 := Scalar.addi c0_i32_455 v785
  v786.toNat
def k0_dev13 (d0 : Dev nD) : Nat :=
  let c0_i32_463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_462 : BitVec 32 := 1#32
  let v794 : BitVec 32 := Scalar.muli v62 c1_i32_462
  let v795 : BitVec 32 := Scalar.addi c0_i32_463 v794
  v795.toNat
def k0_dev14 (d0 : Dev nD) : Nat :=
  let c0_i32_471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_470 : BitVec 32 := 1#32
  let v803 : BitVec 32 := Scalar.muli v92 c1_i32_470
  let v804 : BitVec 32 := Scalar.addi c0_i32_471 v803
  v804.toNat
def k0_dev15 (d0 : Dev nD) : Nat :=
  let c0_i32_479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_478 : BitVec 32 := 1#32
  let v812 : BitVec 32 := Scalar.muli v92 c1_i32_478
  let v813 : BitVec 32 := Scalar.addi c0_i32_479 v812
  v813.toNat
def k0_mult13 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c_m3_i32 : BitVec 32 := 4294967293#32
  let v821 : BitVec 32 := Scalar.addi v32 c_m3_i32
  let c16_i32_483 : BitVec 32 := 16#32
  let v822 : BitVec 32 := Scalar.addi v821 c16_i32_483
  let c8_i32_484 : BitVec 32 := 8#32
  let v823 : BitVec 32 := Scalar.remsi v822 c8_i32_484
  let c4_i32_487 : BitVec 32 := 4#32
  let v826 : BitVec 32 := Scalar.remsi v823 c4_i32_487
  let c256_i32_488 : BitVec 32 := 256#32
  let v827 : BitVec 32 := Scalar.muli v826 c256_i32_488
  v827
def k0_mult14 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c_m3_i32 : BitVec 32 := 4294967293#32
  let v821 : BitVec 32 := Scalar.addi v32 c_m3_i32
  let c16_i32_483 : BitVec 32 := 16#32
  let v822 : BitVec 32 := Scalar.addi v821 c16_i32_483
  let c8_i32_484 : BitVec 32 := 8#32
  let v823 : BitVec 32 := Scalar.remsi v822 c8_i32_484
  let c4_i32_487 : BitVec 32 := 4#32
  let v826 : BitVec 32 := Scalar.remsi v823 c4_i32_487
  let c256_i32_488 : BitVec 32 := 256#32
  let v827 : BitVec 32 := Scalar.muli v826 c256_i32_488
  let v828 : BitVec 32 := v827
  let c8_i32_490 : BitVec 32 := 8#32
  let v833 : BitVec 32 := Scalar.subi v828 c8_i32_490
  let c0_i32_491 : BitVec 32 := 0#32
  let v834 : BitVec 32 := Scalar.maxsi v833 c0_i32_491
  v834
def k0_mult15 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c3_i32_500 : BitVec 32 := 3#32
  let v886 : BitVec 32 := Scalar.addi v32 c3_i32_500
  let c16_i32_501 : BitVec 32 := 16#32
  let v887 : BitVec 32 := Scalar.addi v886 c16_i32_501
  let c8_i32_502 : BitVec 32 := 8#32
  let v888 : BitVec 32 := Scalar.remsi v887 c8_i32_502
  let c4_i32_505 : BitVec 32 := 4#32
  let v891 : BitVec 32 := Scalar.remsi v888 c4_i32_505
  let c256_i32_506 : BitVec 32 := 256#32
  let v892 : BitVec 32 := Scalar.muli v891 c256_i32_506
  v892
def k0_mult16 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c3_i32_500 : BitVec 32 := 3#32
  let v886 : BitVec 32 := Scalar.addi v32 c3_i32_500
  let c16_i32_501 : BitVec 32 := 16#32
  let v887 : BitVec 32 := Scalar.addi v886 c16_i32_501
  let c8_i32_502 : BitVec 32 := 8#32
  let v888 : BitVec 32 := Scalar.remsi v887 c8_i32_502
  let c4_i32_505 : BitVec 32 := 4#32
  let v891 : BitVec 32 := Scalar.remsi v888 c4_i32_505
  let c256_i32_506 : BitVec 32 := 256#32
  let v892 : BitVec 32 := Scalar.muli v891 c256_i32_506
  let v893 : BitVec 32 := v892
  let c8_i32_508 : BitVec 32 := 8#32
  let v898 : BitVec 32 := Scalar.subi v893 c8_i32_508
  let c0_i32_509 : BitVec 32 := 0#32
  let v899 : BitVec 32 := Scalar.maxsi v898 c0_i32_509
  v899
def k0_dev16 (d0 : Dev nD) : Nat :=
  let c0_i32_597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_596 : BitVec 32 := 1#32
  let v1039 : BitVec 32 := Scalar.muli v62 c1_i32_596
  let v1040 : BitVec 32 := Scalar.addi c0_i32_597 v1039
  v1040.toNat
def k0_dev17 (d0 : Dev nD) : Nat :=
  let c0_i32_605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_604 : BitVec 32 := 1#32
  let v1048 : BitVec 32 := Scalar.muli v62 c1_i32_604
  let v1049 : BitVec 32 := Scalar.addi c0_i32_605 v1048
  v1049.toNat
def k0_dev18 (d0 : Dev nD) : Nat :=
  let c0_i32_613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_612 : BitVec 32 := 1#32
  let v1057 : BitVec 32 := Scalar.muli v92 c1_i32_612
  let v1058 : BitVec 32 := Scalar.addi c0_i32_613 v1057
  v1058.toNat
def k0_dev19 (d0 : Dev nD) : Nat :=
  let c0_i32_621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_620 : BitVec 32 := 1#32
  let v1066 : BitVec 32 := Scalar.muli v92 c1_i32_620
  let v1067 : BitVec 32 := Scalar.addi c0_i32_621 v1066
  v1067.toNat
def k0_mult17 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c_m4_i32 : BitVec 32 := 4294967292#32
  let v1075 : BitVec 32 := Scalar.addi v32 c_m4_i32
  let c16_i32_625 : BitVec 32 := 16#32
  let v1076 : BitVec 32 := Scalar.addi v1075 c16_i32_625
  let c8_i32_626 : BitVec 32 := 8#32
  let v1077 : BitVec 32 := Scalar.remsi v1076 c8_i32_626
  let c4_i32_629 : BitVec 32 := 4#32
  let v1080 : BitVec 32 := Scalar.remsi v1077 c4_i32_629
  let c256_i32_630 : BitVec 32 := 256#32
  let v1081 : BitVec 32 := Scalar.muli v1080 c256_i32_630
  v1081
def k0_mult18 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c_m4_i32 : BitVec 32 := 4294967292#32
  let v1075 : BitVec 32 := Scalar.addi v32 c_m4_i32
  let c16_i32_625 : BitVec 32 := 16#32
  let v1076 : BitVec 32 := Scalar.addi v1075 c16_i32_625
  let c8_i32_626 : BitVec 32 := 8#32
  let v1077 : BitVec 32 := Scalar.remsi v1076 c8_i32_626
  let c4_i32_629 : BitVec 32 := 4#32
  let v1080 : BitVec 32 := Scalar.remsi v1077 c4_i32_629
  let c256_i32_630 : BitVec 32 := 256#32
  let v1081 : BitVec 32 := Scalar.muli v1080 c256_i32_630
  let v1082 : BitVec 32 := v1081
  let c8_i32_632 : BitVec 32 := 8#32
  let v1087 : BitVec 32 := Scalar.subi v1082 c8_i32_632
  let c0_i32_633 : BitVec 32 := 0#32
  let v1088 : BitVec 32 := Scalar.maxsi v1087 c0_i32_633
  v1088
def k0_mult19 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c4_i32_642 : BitVec 32 := 4#32
  let v1140 : BitVec 32 := Scalar.addi v32 c4_i32_642
  let c16_i32_643 : BitVec 32 := 16#32
  let v1141 : BitVec 32 := Scalar.addi v1140 c16_i32_643
  let c8_i32_644 : BitVec 32 := 8#32
  let v1142 : BitVec 32 := Scalar.remsi v1141 c8_i32_644
  let c4_i32_647 : BitVec 32 := 4#32
  let v1145 : BitVec 32 := Scalar.remsi v1142 c4_i32_647
  let c256_i32_648 : BitVec 32 := 256#32
  let v1146 : BitVec 32 := Scalar.muli v1145 c256_i32_648
  v1146
def k0_mult20 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c4_i32_642 : BitVec 32 := 4#32
  let v1140 : BitVec 32 := Scalar.addi v32 c4_i32_642
  let c16_i32_643 : BitVec 32 := 16#32
  let v1141 : BitVec 32 := Scalar.addi v1140 c16_i32_643
  let c8_i32_644 : BitVec 32 := 8#32
  let v1142 : BitVec 32 := Scalar.remsi v1141 c8_i32_644
  let c4_i32_647 : BitVec 32 := 4#32
  let v1145 : BitVec 32 := Scalar.remsi v1142 c4_i32_647
  let c256_i32_648 : BitVec 32 := 256#32
  let v1146 : BitVec 32 := Scalar.muli v1145 c256_i32_648
  let v1147 : BitVec 32 := v1146
  let c8_i32_650 : BitVec 32 := 8#32
  let v1152 : BitVec 32 := Scalar.subi v1147 c8_i32_650
  let c0_i32_651 : BitVec 32 := 0#32
  let v1153 : BitVec 32 := Scalar.maxsi v1152 c0_i32_651
  v1153
def k0_dev20 (d0 : Dev nD) : Nat :=
  let c0_i32_739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_738 : BitVec 32 := 1#32
  let v1293 : BitVec 32 := Scalar.muli v62 c1_i32_738
  let v1294 : BitVec 32 := Scalar.addi c0_i32_739 v1293
  v1294.toNat
def k0_dev21 (d0 : Dev nD) : Nat :=
  let c0_i32_747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_746 : BitVec 32 := 1#32
  let v1302 : BitVec 32 := Scalar.muli v62 c1_i32_746
  let v1303 : BitVec 32 := Scalar.addi c0_i32_747 v1302
  v1303.toNat
def k0_dev22 (d0 : Dev nD) : Nat :=
  let c0_i32_755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_754 : BitVec 32 := 1#32
  let v1311 : BitVec 32 := Scalar.muli v92 c1_i32_754
  let v1312 : BitVec 32 := Scalar.addi c0_i32_755 v1311
  v1312.toNat
def k0_dev23 (d0 : Dev nD) : Nat :=
  let c0_i32_763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_762 : BitVec 32 := 1#32
  let v1320 : BitVec 32 := Scalar.muli v92 c1_i32_762
  let v1321 : BitVec 32 := Scalar.addi c0_i32_763 v1320
  v1321.toNat
def k0_mult21 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c_m5_i32 : BitVec 32 := 4294967291#32
  let v1329 : BitVec 32 := Scalar.addi v32 c_m5_i32
  let c16_i32_767 : BitVec 32 := 16#32
  let v1330 : BitVec 32 := Scalar.addi v1329 c16_i32_767
  let c8_i32_768 : BitVec 32 := 8#32
  let v1331 : BitVec 32 := Scalar.remsi v1330 c8_i32_768
  let c4_i32_771 : BitVec 32 := 4#32
  let v1334 : BitVec 32 := Scalar.remsi v1331 c4_i32_771
  let c256_i32_772 : BitVec 32 := 256#32
  let v1335 : BitVec 32 := Scalar.muli v1334 c256_i32_772
  v1335
def k0_mult22 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c_m5_i32 : BitVec 32 := 4294967291#32
  let v1329 : BitVec 32 := Scalar.addi v32 c_m5_i32
  let c16_i32_767 : BitVec 32 := 16#32
  let v1330 : BitVec 32 := Scalar.addi v1329 c16_i32_767
  let c8_i32_768 : BitVec 32 := 8#32
  let v1331 : BitVec 32 := Scalar.remsi v1330 c8_i32_768
  let c4_i32_771 : BitVec 32 := 4#32
  let v1334 : BitVec 32 := Scalar.remsi v1331 c4_i32_771
  let c256_i32_772 : BitVec 32 := 256#32
  let v1335 : BitVec 32 := Scalar.muli v1334 c256_i32_772
  let v1336 : BitVec 32 := v1335
  let c8_i32_774 : BitVec 32 := 8#32
  let v1341 : BitVec 32 := Scalar.subi v1336 c8_i32_774
  let c0_i32_775 : BitVec 32 := 0#32
  let v1342 : BitVec 32 := Scalar.maxsi v1341 c0_i32_775
  v1342
def k0_mult23 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c5_i32_784 : BitVec 32 := 5#32
  let v1394 : BitVec 32 := Scalar.addi v32 c5_i32_784
  let c16_i32_785 : BitVec 32 := 16#32
  let v1395 : BitVec 32 := Scalar.addi v1394 c16_i32_785
  let c8_i32_786 : BitVec 32 := 8#32
  let v1396 : BitVec 32 := Scalar.remsi v1395 c8_i32_786
  let c4_i32_789 : BitVec 32 := 4#32
  let v1399 : BitVec 32 := Scalar.remsi v1396 c4_i32_789
  let c256_i32_790 : BitVec 32 := 256#32
  let v1400 : BitVec 32 := Scalar.muli v1399 c256_i32_790
  v1400
def k0_mult24 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c5_i32_784 : BitVec 32 := 5#32
  let v1394 : BitVec 32 := Scalar.addi v32 c5_i32_784
  let c16_i32_785 : BitVec 32 := 16#32
  let v1395 : BitVec 32 := Scalar.addi v1394 c16_i32_785
  let c8_i32_786 : BitVec 32 := 8#32
  let v1396 : BitVec 32 := Scalar.remsi v1395 c8_i32_786
  let c4_i32_789 : BitVec 32 := 4#32
  let v1399 : BitVec 32 := Scalar.remsi v1396 c4_i32_789
  let c256_i32_790 : BitVec 32 := 256#32
  let v1400 : BitVec 32 := Scalar.muli v1399 c256_i32_790
  let v1401 : BitVec 32 := v1400
  let c8_i32_792 : BitVec 32 := 8#32
  let v1406 : BitVec 32 := Scalar.subi v1401 c8_i32_792
  let c0_i32_793 : BitVec 32 := 0#32
  let v1407 : BitVec 32 := Scalar.maxsi v1406 c0_i32_793
  v1407
def k0_dev24 (d0 : Dev nD) : Nat :=
  let c0_i32_881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_880 : BitVec 32 := 1#32
  let v1547 : BitVec 32 := Scalar.muli v62 c1_i32_880
  let v1548 : BitVec 32 := Scalar.addi c0_i32_881 v1547
  v1548.toNat
def k0_dev25 (d0 : Dev nD) : Nat :=
  let c0_i32_889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_888 : BitVec 32 := 1#32
  let v1556 : BitVec 32 := Scalar.muli v62 c1_i32_888
  let v1557 : BitVec 32 := Scalar.addi c0_i32_889 v1556
  v1557.toNat
def k0_dev26 (d0 : Dev nD) : Nat :=
  let c0_i32_897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_896 : BitVec 32 := 1#32
  let v1565 : BitVec 32 := Scalar.muli v92 c1_i32_896
  let v1566 : BitVec 32 := Scalar.addi c0_i32_897 v1565
  v1566.toNat
def k0_dev27 (d0 : Dev nD) : Nat :=
  let c0_i32_905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_904 : BitVec 32 := 1#32
  let v1574 : BitVec 32 := Scalar.muli v92 c1_i32_904
  let v1575 : BitVec 32 := Scalar.addi c0_i32_905 v1574
  v1575.toNat
def k0_mult25 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c_m6_i32 : BitVec 32 := 4294967290#32
  let v1583 : BitVec 32 := Scalar.addi v32 c_m6_i32
  let c16_i32_909 : BitVec 32 := 16#32
  let v1584 : BitVec 32 := Scalar.addi v1583 c16_i32_909
  let c8_i32_910 : BitVec 32 := 8#32
  let v1585 : BitVec 32 := Scalar.remsi v1584 c8_i32_910
  let c4_i32_913 : BitVec 32 := 4#32
  let v1588 : BitVec 32 := Scalar.remsi v1585 c4_i32_913
  let c256_i32_914 : BitVec 32 := 256#32
  let v1589 : BitVec 32 := Scalar.muli v1588 c256_i32_914
  v1589
def k0_mult26 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c_m6_i32 : BitVec 32 := 4294967290#32
  let v1583 : BitVec 32 := Scalar.addi v32 c_m6_i32
  let c16_i32_909 : BitVec 32 := 16#32
  let v1584 : BitVec 32 := Scalar.addi v1583 c16_i32_909
  let c8_i32_910 : BitVec 32 := 8#32
  let v1585 : BitVec 32 := Scalar.remsi v1584 c8_i32_910
  let c4_i32_913 : BitVec 32 := 4#32
  let v1588 : BitVec 32 := Scalar.remsi v1585 c4_i32_913
  let c256_i32_914 : BitVec 32 := 256#32
  let v1589 : BitVec 32 := Scalar.muli v1588 c256_i32_914
  let v1590 : BitVec 32 := v1589
  let c8_i32_916 : BitVec 32 := 8#32
  let v1595 : BitVec 32 := Scalar.subi v1590 c8_i32_916
  let c0_i32_917 : BitVec 32 := 0#32
  let v1596 : BitVec 32 := Scalar.maxsi v1595 c0_i32_917
  v1596
def k0_mult27 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c6_i32_926 : BitVec 32 := 6#32
  let v1648 : BitVec 32 := Scalar.addi v32 c6_i32_926
  let c16_i32_927 : BitVec 32 := 16#32
  let v1649 : BitVec 32 := Scalar.addi v1648 c16_i32_927
  let c8_i32_928 : BitVec 32 := 8#32
  let v1650 : BitVec 32 := Scalar.remsi v1649 c8_i32_928
  let c4_i32_931 : BitVec 32 := 4#32
  let v1653 : BitVec 32 := Scalar.remsi v1650 c4_i32_931
  let c256_i32_932 : BitVec 32 := 256#32
  let v1654 : BitVec 32 := Scalar.muli v1653 c256_i32_932
  v1654
def k0_mult28 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c6_i32_926 : BitVec 32 := 6#32
  let v1648 : BitVec 32 := Scalar.addi v32 c6_i32_926
  let c16_i32_927 : BitVec 32 := 16#32
  let v1649 : BitVec 32 := Scalar.addi v1648 c16_i32_927
  let c8_i32_928 : BitVec 32 := 8#32
  let v1650 : BitVec 32 := Scalar.remsi v1649 c8_i32_928
  let c4_i32_931 : BitVec 32 := 4#32
  let v1653 : BitVec 32 := Scalar.remsi v1650 c4_i32_931
  let c256_i32_932 : BitVec 32 := 256#32
  let v1654 : BitVec 32 := Scalar.muli v1653 c256_i32_932
  let v1655 : BitVec 32 := v1654
  let c8_i32_934 : BitVec 32 := 8#32
  let v1660 : BitVec 32 := Scalar.subi v1655 c8_i32_934
  let c0_i32_935 : BitVec 32 := 0#32
  let v1661 : BitVec 32 := Scalar.maxsi v1660 c0_i32_935
  v1661
def k0_dev28 (d0 : Dev nD) : Nat :=
  let c0_i32_1023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_1022 : BitVec 32 := 1#32
  let v1801 : BitVec 32 := Scalar.muli v62 c1_i32_1022
  let v1802 : BitVec 32 := Scalar.addi c0_i32_1023 v1801
  v1802.toNat
def k0_dev29 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_1030 : BitVec 32 := 1#32
  let v1810 : BitVec 32 := Scalar.muli v62 c1_i32_1030
  let v1811 : BitVec 32 := Scalar.addi c0_i32_1031 v1810
  v1811.toNat
def k0_dev30 (d0 : Dev nD) : Nat :=
  let c0_i32_1039 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_1038 : BitVec 32 := 1#32
  let v1819 : BitVec 32 := Scalar.muli v92 c1_i32_1038
  let v1820 : BitVec 32 := Scalar.addi c0_i32_1039 v1819
  v1820.toNat
def k0_dev31 (d0 : Dev nD) : Nat :=
  let c0_i32_1047 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_1046 : BitVec 32 := 1#32
  let v1828 : BitVec 32 := Scalar.muli v92 c1_i32_1046
  let v1829 : BitVec 32 := Scalar.addi c0_i32_1047 v1828
  v1829.toNat
def k0_mult29 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c_m7_i32 : BitVec 32 := 4294967289#32
  let v1837 : BitVec 32 := Scalar.addi v32 c_m7_i32
  let c16_i32_1051 : BitVec 32 := 16#32
  let v1838 : BitVec 32 := Scalar.addi v1837 c16_i32_1051
  let c8_i32_1052 : BitVec 32 := 8#32
  let v1839 : BitVec 32 := Scalar.remsi v1838 c8_i32_1052
  let c4_i32_1055 : BitVec 32 := 4#32
  let v1842 : BitVec 32 := Scalar.remsi v1839 c4_i32_1055
  let c256_i32_1056 : BitVec 32 := 256#32
  let v1843 : BitVec 32 := Scalar.muli v1842 c256_i32_1056
  v1843
def k0_mult30 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c_m7_i32 : BitVec 32 := 4294967289#32
  let v1837 : BitVec 32 := Scalar.addi v32 c_m7_i32
  let c16_i32_1051 : BitVec 32 := 16#32
  let v1838 : BitVec 32 := Scalar.addi v1837 c16_i32_1051
  let c8_i32_1052 : BitVec 32 := 8#32
  let v1839 : BitVec 32 := Scalar.remsi v1838 c8_i32_1052
  let c4_i32_1055 : BitVec 32 := 4#32
  let v1842 : BitVec 32 := Scalar.remsi v1839 c4_i32_1055
  let c256_i32_1056 : BitVec 32 := 256#32
  let v1843 : BitVec 32 := Scalar.muli v1842 c256_i32_1056
  let v1844 : BitVec 32 := v1843
  let c8_i32_1058 : BitVec 32 := 8#32
  let v1849 : BitVec 32 := Scalar.subi v1844 c8_i32_1058
  let c0_i32_1059 : BitVec 32 := 0#32
  let v1850 : BitVec 32 := Scalar.maxsi v1849 c0_i32_1059
  v1850
def k0_mult31 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c7_i32_1068 : BitVec 32 := 7#32
  let v1902 : BitVec 32 := Scalar.addi v32 c7_i32_1068
  let c16_i32_1069 : BitVec 32 := 16#32
  let v1903 : BitVec 32 := Scalar.addi v1902 c16_i32_1069
  let c8_i32_1070 : BitVec 32 := 8#32
  let v1904 : BitVec 32 := Scalar.remsi v1903 c8_i32_1070
  let c4_i32_1073 : BitVec 32 := 4#32
  let v1907 : BitVec 32 := Scalar.remsi v1904 c4_i32_1073
  let c256_i32_1074 : BitVec 32 := 256#32
  let v1908 : BitVec 32 := Scalar.muli v1907 c256_i32_1074
  v1908
def k0_mult32 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let c7_i32_1068 : BitVec 32 := 7#32
  let v1902 : BitVec 32 := Scalar.addi v32 c7_i32_1068
  let c16_i32_1069 : BitVec 32 := 16#32
  let v1903 : BitVec 32 := Scalar.addi v1902 c16_i32_1069
  let c8_i32_1070 : BitVec 32 := 8#32
  let v1904 : BitVec 32 := Scalar.remsi v1903 c8_i32_1070
  let c4_i32_1073 : BitVec 32 := 4#32
  let v1907 : BitVec 32 := Scalar.remsi v1904 c4_i32_1073
  let c256_i32_1074 : BitVec 32 := 256#32
  let v1908 : BitVec 32 := Scalar.muli v1907 c256_i32_1074
  let v1909 : BitVec 32 := v1908
  let c8_i32_1076 : BitVec 32 := 8#32
  let v1914 : BitVec 32 := Scalar.subi v1909 c8_i32_1076
  let c0_i32_1077 : BitVec 32 := 0#32
  let v1915 : BitVec 32 := Scalar.maxsi v1914 c0_i32_1077
  v1915
def k0_off6 (d0 : Dev nD) (c_m7_i32_1086 : BitVec 32) (c0_i32_1102 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let v1967 : BitVec 32 := Scalar.addi v32 c_m7_i32_1086
  let c16_i32_1087 : BitVec 32 := 16#32
  let v1968 : BitVec 32 := Scalar.addi v1967 c16_i32_1087
  let c8_i32_1088 : BitVec 32 := 8#32
  let v1969 : BitVec 32 := Scalar.remsi v1968 c8_i32_1088
  let c256_i32_1089 : BitVec 32 := 256#32
  let v1970 : BitVec 32 := Scalar.muli v1969 c256_i32_1089
  let v1982 : BitVec 32 := Scalar.addi v1970 c0_i32_1102
  let v1993 : Index := Scalar.indexCast v1982
  let c0_1107 : Index := 0#32
  ![v1993.toNat, 0]
def k0_dev32 (d0 : Dev nD) : Nat :=
  let c0_i32_1111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_107 : BitVec 32 := 15#32
  let v121 : BitVec 1 := Scalar.cmpi .eq v2 c15_i32_107
  let c14_i32_108 : BitVec 32 := 14#32
  let c14_i32_105 : BitVec 32 := 14#32
  let v119 : BitVec 1 := Scalar.cmpi .eq v2 c14_i32_105
  let c15_i32_106 : BitVec 32 := 15#32
  let c13_i32_103 : BitVec 32 := 13#32
  let v117 : BitVec 1 := Scalar.cmpi .eq v2 c13_i32_103
  let c12_i32_104 : BitVec 32 := 12#32
  let c12_i32_101 : BitVec 32 := 12#32
  let v115 : BitVec 1 := Scalar.cmpi .eq v2 c12_i32_101
  let c13_i32_102 : BitVec 32 := 13#32
  let c11_i32_99 : BitVec 32 := 11#32
  let v113 : BitVec 1 := Scalar.cmpi .eq v2 c11_i32_99
  let c10_i32_100 : BitVec 32 := 10#32
  let c10_i32_97 : BitVec 32 := 10#32
  let v111 : BitVec 1 := Scalar.cmpi .eq v2 c10_i32_97
  let c11_i32_98 : BitVec 32 := 11#32
  let c9_i32_95 : BitVec 32 := 9#32
  let v109 : BitVec 1 := Scalar.cmpi .eq v2 c9_i32_95
  let c8_i32_96 : BitVec 32 := 8#32
  let c8_i32_93 : BitVec 32 := 8#32
  let v107 : BitVec 1 := Scalar.cmpi .eq v2 c8_i32_93
  let c9_i32_94 : BitVec 32 := 9#32
  let c7_i32_91 : BitVec 32 := 7#32
  let v105 : BitVec 1 := Scalar.cmpi .eq v2 c7_i32_91
  let c6_i32_92 : BitVec 32 := 6#32
  let c6_i32_89 : BitVec 32 := 6#32
  let v103 : BitVec 1 := Scalar.cmpi .eq v2 c6_i32_89
  let c7_i32_90 : BitVec 32 := 7#32
  let c5_i32_87 : BitVec 32 := 5#32
  let v101 : BitVec 1 := Scalar.cmpi .eq v2 c5_i32_87
  let c4_i32_88 : BitVec 32 := 4#32
  let c4_i32_85 : BitVec 32 := 4#32
  let v99 : BitVec 1 := Scalar.cmpi .eq v2 c4_i32_85
  let c5_i32_86 : BitVec 32 := 5#32
  let c3_i32_83 : BitVec 32 := 3#32
  let v97 : BitVec 1 := Scalar.cmpi .eq v2 c3_i32_83
  let c2_i32_84 : BitVec 32 := 2#32
  let c2_i32_81 : BitVec 32 := 2#32
  let v95 : BitVec 1 := Scalar.cmpi .eq v2 c2_i32_81
  let c3_i32_82 : BitVec 32 := 3#32
  let c1_i32_78 : BitVec 32 := 1#32
  let v93 : BitVec 1 := Scalar.cmpi .eq v2 c1_i32_78
  let c0_i32_79 : BitVec 32 := 0#32
  let c1_i32_80 : BitVec 32 := 1#32
  let v94 : BitVec 32 := Scalar.select v93 c0_i32_79 c1_i32_80
  let v96 : BitVec 32 := Scalar.select v95 c3_i32_82 v94
  let v98 : BitVec 32 := Scalar.select v97 c2_i32_84 v96
  let v100 : BitVec 32 := Scalar.select v99 c5_i32_86 v98
  let v102 : BitVec 32 := Scalar.select v101 c4_i32_88 v100
  let v104 : BitVec 32 := Scalar.select v103 c7_i32_90 v102
  let v106 : BitVec 32 := Scalar.select v105 c6_i32_92 v104
  let v108 : BitVec 32 := Scalar.select v107 c9_i32_94 v106
  let v110 : BitVec 32 := Scalar.select v109 c8_i32_96 v108
  let v112 : BitVec 32 := Scalar.select v111 c11_i32_98 v110
  let v114 : BitVec 32 := Scalar.select v113 c10_i32_100 v112
  let v116 : BitVec 32 := Scalar.select v115 c13_i32_102 v114
  let v118 : BitVec 32 := Scalar.select v117 c12_i32_104 v116
  let v120 : BitVec 32 := Scalar.select v119 c15_i32_106 v118
  let v122 : BitVec 32 := Scalar.select v121 c14_i32_108 v120
  let c1_i32_1110 : BitVec 32 := 1#32
  let v1995 : BitVec 32 := Scalar.muli v122 c1_i32_1110
  let v1996 : BitVec 32 := Scalar.addi c0_i32_1111 v1995
  v1996.toNat
def k0_dev33 (d0 : Dev nD) : Nat :=
  let c0_i32_1133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_107 : BitVec 32 := 15#32
  let v121 : BitVec 1 := Scalar.cmpi .eq v2 c15_i32_107
  let c14_i32_108 : BitVec 32 := 14#32
  let c14_i32_105 : BitVec 32 := 14#32
  let v119 : BitVec 1 := Scalar.cmpi .eq v2 c14_i32_105
  let c15_i32_106 : BitVec 32 := 15#32
  let c13_i32_103 : BitVec 32 := 13#32
  let v117 : BitVec 1 := Scalar.cmpi .eq v2 c13_i32_103
  let c12_i32_104 : BitVec 32 := 12#32
  let c12_i32_101 : BitVec 32 := 12#32
  let v115 : BitVec 1 := Scalar.cmpi .eq v2 c12_i32_101
  let c13_i32_102 : BitVec 32 := 13#32
  let c11_i32_99 : BitVec 32 := 11#32
  let v113 : BitVec 1 := Scalar.cmpi .eq v2 c11_i32_99
  let c10_i32_100 : BitVec 32 := 10#32
  let c10_i32_97 : BitVec 32 := 10#32
  let v111 : BitVec 1 := Scalar.cmpi .eq v2 c10_i32_97
  let c11_i32_98 : BitVec 32 := 11#32
  let c9_i32_95 : BitVec 32 := 9#32
  let v109 : BitVec 1 := Scalar.cmpi .eq v2 c9_i32_95
  let c8_i32_96 : BitVec 32 := 8#32
  let c8_i32_93 : BitVec 32 := 8#32
  let v107 : BitVec 1 := Scalar.cmpi .eq v2 c8_i32_93
  let c9_i32_94 : BitVec 32 := 9#32
  let c7_i32_91 : BitVec 32 := 7#32
  let v105 : BitVec 1 := Scalar.cmpi .eq v2 c7_i32_91
  let c6_i32_92 : BitVec 32 := 6#32
  let c6_i32_89 : BitVec 32 := 6#32
  let v103 : BitVec 1 := Scalar.cmpi .eq v2 c6_i32_89
  let c7_i32_90 : BitVec 32 := 7#32
  let c5_i32_87 : BitVec 32 := 5#32
  let v101 : BitVec 1 := Scalar.cmpi .eq v2 c5_i32_87
  let c4_i32_88 : BitVec 32 := 4#32
  let c4_i32_85 : BitVec 32 := 4#32
  let v99 : BitVec 1 := Scalar.cmpi .eq v2 c4_i32_85
  let c5_i32_86 : BitVec 32 := 5#32
  let c3_i32_83 : BitVec 32 := 3#32
  let v97 : BitVec 1 := Scalar.cmpi .eq v2 c3_i32_83
  let c2_i32_84 : BitVec 32 := 2#32
  let c2_i32_81 : BitVec 32 := 2#32
  let v95 : BitVec 1 := Scalar.cmpi .eq v2 c2_i32_81
  let c3_i32_82 : BitVec 32 := 3#32
  let c1_i32_78 : BitVec 32 := 1#32
  let v93 : BitVec 1 := Scalar.cmpi .eq v2 c1_i32_78
  let c0_i32_79 : BitVec 32 := 0#32
  let c1_i32_80 : BitVec 32 := 1#32
  let v94 : BitVec 32 := Scalar.select v93 c0_i32_79 c1_i32_80
  let v96 : BitVec 32 := Scalar.select v95 c3_i32_82 v94
  let v98 : BitVec 32 := Scalar.select v97 c2_i32_84 v96
  let v100 : BitVec 32 := Scalar.select v99 c5_i32_86 v98
  let v102 : BitVec 32 := Scalar.select v101 c4_i32_88 v100
  let v104 : BitVec 32 := Scalar.select v103 c7_i32_90 v102
  let v106 : BitVec 32 := Scalar.select v105 c6_i32_92 v104
  let v108 : BitVec 32 := Scalar.select v107 c9_i32_94 v106
  let v110 : BitVec 32 := Scalar.select v109 c8_i32_96 v108
  let v112 : BitVec 32 := Scalar.select v111 c11_i32_98 v110
  let v114 : BitVec 32 := Scalar.select v113 c10_i32_100 v112
  let v116 : BitVec 32 := Scalar.select v115 c13_i32_102 v114
  let v118 : BitVec 32 := Scalar.select v117 c12_i32_104 v116
  let v120 : BitVec 32 := Scalar.select v119 c15_i32_106 v118
  let v122 : BitVec 32 := Scalar.select v121 c14_i32_108 v120
  let c1_i32_1132 : BitVec 32 := 1#32
  let v2023 : BitVec 32 := Scalar.muli v122 c1_i32_1132
  let v2024 : BitVec 32 := Scalar.addi c0_i32_1133 v2023
  v2024.toNat
def k0_off7 (d0 : Dev nD) (c7_i32_1090 : BitVec 32) (c0_i32_1145 : BitVec 32) : Fin 2 → Nat :=
  let c2048_i32 : BitVec 32 := 2048#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let v1971 : BitVec 32 := Scalar.addi v32 c7_i32_1090
  let c16_i32_1091 : BitVec 32 := 16#32
  let v1972 : BitVec 32 := Scalar.addi v1971 c16_i32_1091
  let c8_i32_1092 : BitVec 32 := 8#32
  let v1973 : BitVec 32 := Scalar.remsi v1972 c8_i32_1092
  let c256_i32_1093 : BitVec 32 := 256#32
  let v1974 : BitVec 32 := Scalar.muli v1973 c256_i32_1093
  let v2038 : BitVec 32 := Scalar.addi v1974 c0_i32_1145
  let v2049 : BitVec 32 := Scalar.addi c2048_i32 v2038
  let v2050 : Index := Scalar.indexCast v2049
  let c0_1151 : Index := 0#32
  ![v2050.toNat, 0]
def k0_dev34 (d0 : Dev nD) : Nat :=
  let c0_i32_1155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_107 : BitVec 32 := 15#32
  let v121 : BitVec 1 := Scalar.cmpi .eq v2 c15_i32_107
  let c14_i32_108 : BitVec 32 := 14#32
  let c14_i32_105 : BitVec 32 := 14#32
  let v119 : BitVec 1 := Scalar.cmpi .eq v2 c14_i32_105
  let c15_i32_106 : BitVec 32 := 15#32
  let c13_i32_103 : BitVec 32 := 13#32
  let v117 : BitVec 1 := Scalar.cmpi .eq v2 c13_i32_103
  let c12_i32_104 : BitVec 32 := 12#32
  let c12_i32_101 : BitVec 32 := 12#32
  let v115 : BitVec 1 := Scalar.cmpi .eq v2 c12_i32_101
  let c13_i32_102 : BitVec 32 := 13#32
  let c11_i32_99 : BitVec 32 := 11#32
  let v113 : BitVec 1 := Scalar.cmpi .eq v2 c11_i32_99
  let c10_i32_100 : BitVec 32 := 10#32
  let c10_i32_97 : BitVec 32 := 10#32
  let v111 : BitVec 1 := Scalar.cmpi .eq v2 c10_i32_97
  let c11_i32_98 : BitVec 32 := 11#32
  let c9_i32_95 : BitVec 32 := 9#32
  let v109 : BitVec 1 := Scalar.cmpi .eq v2 c9_i32_95
  let c8_i32_96 : BitVec 32 := 8#32
  let c8_i32_93 : BitVec 32 := 8#32
  let v107 : BitVec 1 := Scalar.cmpi .eq v2 c8_i32_93
  let c9_i32_94 : BitVec 32 := 9#32
  let c7_i32_91 : BitVec 32 := 7#32
  let v105 : BitVec 1 := Scalar.cmpi .eq v2 c7_i32_91
  let c6_i32_92 : BitVec 32 := 6#32
  let c6_i32_89 : BitVec 32 := 6#32
  let v103 : BitVec 1 := Scalar.cmpi .eq v2 c6_i32_89
  let c7_i32_90 : BitVec 32 := 7#32
  let c5_i32_87 : BitVec 32 := 5#32
  let v101 : BitVec 1 := Scalar.cmpi .eq v2 c5_i32_87
  let c4_i32_88 : BitVec 32 := 4#32
  let c4_i32_85 : BitVec 32 := 4#32
  let v99 : BitVec 1 := Scalar.cmpi .eq v2 c4_i32_85
  let c5_i32_86 : BitVec 32 := 5#32
  let c3_i32_83 : BitVec 32 := 3#32
  let v97 : BitVec 1 := Scalar.cmpi .eq v2 c3_i32_83
  let c2_i32_84 : BitVec 32 := 2#32
  let c2_i32_81 : BitVec 32 := 2#32
  let v95 : BitVec 1 := Scalar.cmpi .eq v2 c2_i32_81
  let c3_i32_82 : BitVec 32 := 3#32
  let c1_i32_78 : BitVec 32 := 1#32
  let v93 : BitVec 1 := Scalar.cmpi .eq v2 c1_i32_78
  let c0_i32_79 : BitVec 32 := 0#32
  let c1_i32_80 : BitVec 32 := 1#32
  let v94 : BitVec 32 := Scalar.select v93 c0_i32_79 c1_i32_80
  let v96 : BitVec 32 := Scalar.select v95 c3_i32_82 v94
  let v98 : BitVec 32 := Scalar.select v97 c2_i32_84 v96
  let v100 : BitVec 32 := Scalar.select v99 c5_i32_86 v98
  let v102 : BitVec 32 := Scalar.select v101 c4_i32_88 v100
  let v104 : BitVec 32 := Scalar.select v103 c7_i32_90 v102
  let v106 : BitVec 32 := Scalar.select v105 c6_i32_92 v104
  let v108 : BitVec 32 := Scalar.select v107 c9_i32_94 v106
  let v110 : BitVec 32 := Scalar.select v109 c8_i32_96 v108
  let v112 : BitVec 32 := Scalar.select v111 c11_i32_98 v110
  let v114 : BitVec 32 := Scalar.select v113 c10_i32_100 v112
  let v116 : BitVec 32 := Scalar.select v115 c13_i32_102 v114
  let v118 : BitVec 32 := Scalar.select v117 c12_i32_104 v116
  let v120 : BitVec 32 := Scalar.select v119 c15_i32_106 v118
  let v122 : BitVec 32 := Scalar.select v121 c14_i32_108 v120
  let c1_i32_1154 : BitVec 32 := 1#32
  let v2052 : BitVec 32 := Scalar.muli v122 c1_i32_1154
  let v2053 : BitVec 32 := Scalar.addi c0_i32_1155 v2052
  v2053.toNat
def k0_dev35 (d0 : Dev nD) : Nat :=
  let c0_i32_1178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_107 : BitVec 32 := 15#32
  let v121 : BitVec 1 := Scalar.cmpi .eq v2 c15_i32_107
  let c14_i32_108 : BitVec 32 := 14#32
  let c14_i32_105 : BitVec 32 := 14#32
  let v119 : BitVec 1 := Scalar.cmpi .eq v2 c14_i32_105
  let c15_i32_106 : BitVec 32 := 15#32
  let c13_i32_103 : BitVec 32 := 13#32
  let v117 : BitVec 1 := Scalar.cmpi .eq v2 c13_i32_103
  let c12_i32_104 : BitVec 32 := 12#32
  let c12_i32_101 : BitVec 32 := 12#32
  let v115 : BitVec 1 := Scalar.cmpi .eq v2 c12_i32_101
  let c13_i32_102 : BitVec 32 := 13#32
  let c11_i32_99 : BitVec 32 := 11#32
  let v113 : BitVec 1 := Scalar.cmpi .eq v2 c11_i32_99
  let c10_i32_100 : BitVec 32 := 10#32
  let c10_i32_97 : BitVec 32 := 10#32
  let v111 : BitVec 1 := Scalar.cmpi .eq v2 c10_i32_97
  let c11_i32_98 : BitVec 32 := 11#32
  let c9_i32_95 : BitVec 32 := 9#32
  let v109 : BitVec 1 := Scalar.cmpi .eq v2 c9_i32_95
  let c8_i32_96 : BitVec 32 := 8#32
  let c8_i32_93 : BitVec 32 := 8#32
  let v107 : BitVec 1 := Scalar.cmpi .eq v2 c8_i32_93
  let c9_i32_94 : BitVec 32 := 9#32
  let c7_i32_91 : BitVec 32 := 7#32
  let v105 : BitVec 1 := Scalar.cmpi .eq v2 c7_i32_91
  let c6_i32_92 : BitVec 32 := 6#32
  let c6_i32_89 : BitVec 32 := 6#32
  let v103 : BitVec 1 := Scalar.cmpi .eq v2 c6_i32_89
  let c7_i32_90 : BitVec 32 := 7#32
  let c5_i32_87 : BitVec 32 := 5#32
  let v101 : BitVec 1 := Scalar.cmpi .eq v2 c5_i32_87
  let c4_i32_88 : BitVec 32 := 4#32
  let c4_i32_85 : BitVec 32 := 4#32
  let v99 : BitVec 1 := Scalar.cmpi .eq v2 c4_i32_85
  let c5_i32_86 : BitVec 32 := 5#32
  let c3_i32_83 : BitVec 32 := 3#32
  let v97 : BitVec 1 := Scalar.cmpi .eq v2 c3_i32_83
  let c2_i32_84 : BitVec 32 := 2#32
  let c2_i32_81 : BitVec 32 := 2#32
  let v95 : BitVec 1 := Scalar.cmpi .eq v2 c2_i32_81
  let c3_i32_82 : BitVec 32 := 3#32
  let c1_i32_78 : BitVec 32 := 1#32
  let v93 : BitVec 1 := Scalar.cmpi .eq v2 c1_i32_78
  let c0_i32_79 : BitVec 32 := 0#32
  let c1_i32_80 : BitVec 32 := 1#32
  let v94 : BitVec 32 := Scalar.select v93 c0_i32_79 c1_i32_80
  let v96 : BitVec 32 := Scalar.select v95 c3_i32_82 v94
  let v98 : BitVec 32 := Scalar.select v97 c2_i32_84 v96
  let v100 : BitVec 32 := Scalar.select v99 c5_i32_86 v98
  let v102 : BitVec 32 := Scalar.select v101 c4_i32_88 v100
  let v104 : BitVec 32 := Scalar.select v103 c7_i32_90 v102
  let v106 : BitVec 32 := Scalar.select v105 c6_i32_92 v104
  let v108 : BitVec 32 := Scalar.select v107 c9_i32_94 v106
  let v110 : BitVec 32 := Scalar.select v109 c8_i32_96 v108
  let v112 : BitVec 32 := Scalar.select v111 c11_i32_98 v110
  let v114 : BitVec 32 := Scalar.select v113 c10_i32_100 v112
  let v116 : BitVec 32 := Scalar.select v115 c13_i32_102 v114
  let v118 : BitVec 32 := Scalar.select v117 c12_i32_104 v116
  let v120 : BitVec 32 := Scalar.select v119 c15_i32_106 v118
  let v122 : BitVec 32 := Scalar.select v121 c14_i32_108 v120
  let c1_i32_1177 : BitVec 32 := 1#32
  let v2081 : BitVec 32 := Scalar.muli v122 c1_i32_1177
  let v2082 : BitVec 32 := Scalar.addi c0_i32_1178 v2081
  v2082.toNat
def k0_dev36 (d0 : Dev nD) : Nat :=
  let c0_i32_1213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_1212 : BitVec 32 := 1#32
  let v2122 : BitVec 32 := Scalar.muli v62 c1_i32_1212
  let v2123 : BitVec 32 := Scalar.addi c0_i32_1213 v2122
  v2123.toNat
def k0_dev37 (d0 : Dev nD) : Nat :=
  let c0_i32_1239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_1238 : BitVec 32 := 1#32
  let v2155 : BitVec 32 := Scalar.muli v62 c1_i32_1238
  let v2156 : BitVec 32 := Scalar.addi c0_i32_1239 v2155
  v2156.toNat
def k0_dev38 (d0 : Dev nD) : Nat :=
  let c0_i32_1267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_1266 : BitVec 32 := 1#32
  let v2190 : BitVec 32 := Scalar.muli v92 c1_i32_1266
  let v2191 : BitVec 32 := Scalar.addi c0_i32_1267 v2190
  v2191.toNat
def k0_dev39 (d0 : Dev nD) : Nat :=
  let c0_i32_1295 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_1294 : BitVec 32 := 1#32
  let v2225 : BitVec 32 := Scalar.muli v92 c1_i32_1294
  let v2226 : BitVec 32 := Scalar.addi c0_i32_1295 v2225
  v2226.toNat
def k0_dev40 (d0 : Dev nD) : Nat :=
  let c0_i32_1316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_1315 : BitVec 32 := 1#32
  let v2248 : BitVec 32 := Scalar.muli v62 c1_i32_1315
  let v2249 : BitVec 32 := Scalar.addi c0_i32_1316 v2248
  v2249.toNat
def k0_dev41 (d0 : Dev nD) : Nat :=
  let c0_i32_1329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_1328 : BitVec 32 := 1#32
  let v2263 : BitVec 32 := Scalar.muli v62 c1_i32_1328
  let v2264 : BitVec 32 := Scalar.addi c0_i32_1329 v2263
  v2264.toNat
def k0_dev42 (d0 : Dev nD) : Nat :=
  let c0_i32_1342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_1341 : BitVec 32 := 1#32
  let v2278 : BitVec 32 := Scalar.muli v92 c1_i32_1341
  let v2279 : BitVec 32 := Scalar.addi c0_i32_1342 v2278
  v2279.toNat
def k0_dev43 (d0 : Dev nD) : Nat :=
  let c0_i32_1355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_1354 : BitVec 32 := 1#32
  let v2293 : BitVec 32 := Scalar.muli v92 c1_i32_1354
  let v2294 : BitVec 32 := Scalar.addi c0_i32_1355 v2293
  v2294.toNat
def k0_off8 (d0 : Dev nD) (c0_i32_1298 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let v2233 : BitVec 32 := Scalar.addi v32 c0_i32_1298
  let c16_i32_1299 : BitVec 32 := 16#32
  let v2234 : BitVec 32 := Scalar.addi v2233 c16_i32_1299
  let c8_i32_1300 : BitVec 32 := 8#32
  let v2235 : BitVec 32 := Scalar.remsi v2234 c8_i32_1300
  let c256_i32_1301 : BitVec 32 := 256#32
  let v2236 : BitVec 32 := Scalar.muli v2235 c256_i32_1301
  let v2304 : Index := Scalar.indexCast v2236
  let c0_1359 : Index := 0#32
  ![v2304.toNat, 0]
def k0_off8_at (r : Fin 7) : BitVec 32 :=
  if r.val < 3 then
    if r.val < 1 then
      0#32
    else
      if r.val < 2 then
        4294967295#32
      else
        4294967294#32
  else
    if r.val < 5 then
      if r.val < 4 then
        4294967293#32
      else
        4294967292#32
    else
      if r.val < 6 then
        4294967291#32
      else
        4294967290#32
def k0_off9 (d0 : Dev nD) (c0_i32_1302 : BitVec 32) : Fin 2 → Nat :=
  let c2048_i32_1361 : BitVec 32 := 2048#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v31 : BitVec 1 := Scalar.cmpi .eq v2 c15_i32
  let c4_i32_15 : BitVec 32 := 4#32
  let c14_i32 : BitVec 32 := 14#32
  let v29 : BitVec 1 := Scalar.cmpi .eq v2 c14_i32
  let c4_i32_14 : BitVec 32 := 4#32
  let c13_i32 : BitVec 32 := 13#32
  let v27 : BitVec 1 := Scalar.cmpi .eq v2 c13_i32
  let c3_i32_13 : BitVec 32 := 3#32
  let c12_i32 : BitVec 32 := 12#32
  let v25 : BitVec 1 := Scalar.cmpi .eq v2 c12_i32
  let c3_i32_12 : BitVec 32 := 3#32
  let c11_i32 : BitVec 32 := 11#32
  let v23 : BitVec 1 := Scalar.cmpi .eq v2 c11_i32
  let c5_i32_11 : BitVec 32 := 5#32
  let c10_i32 : BitVec 32 := 10#32
  let v21 : BitVec 1 := Scalar.cmpi .eq v2 c10_i32
  let c5_i32_10 : BitVec 32 := 5#32
  let c9_i32 : BitVec 32 := 9#32
  let v19 : BitVec 1 := Scalar.cmpi .eq v2 c9_i32
  let c2_i32_9 : BitVec 32 := 2#32
  let c8_i32 : BitVec 32 := 8#32
  let v17 : BitVec 1 := Scalar.cmpi .eq v2 c8_i32
  let c2_i32_8 : BitVec 32 := 2#32
  let c7_i32_6 : BitVec 32 := 7#32
  let v15 : BitVec 1 := Scalar.cmpi .eq v2 c7_i32_6
  let c6_i32_7 : BitVec 32 := 6#32
  let c6_i32 : BitVec 32 := 6#32
  let v13 : BitVec 1 := Scalar.cmpi .eq v2 c6_i32
  let c6_i32_5 : BitVec 32 := 6#32
  let c5_i32 : BitVec 32 := 5#32
  let v11 : BitVec 1 := Scalar.cmpi .eq v2 c5_i32
  let c1_i32_4 : BitVec 32 := 1#32
  let c4_i32 : BitVec 32 := 4#32
  let v9 : BitVec 1 := Scalar.cmpi .eq v2 c4_i32
  let c1_i32_3 : BitVec 32 := 1#32
  let c3_i32 : BitVec 32 := 3#32
  let v7 : BitVec 1 := Scalar.cmpi .eq v2 c3_i32
  let c7_i32_2 : BitVec 32 := 7#32
  let c2_i32 : BitVec 32 := 2#32
  let v5 : BitVec 1 := Scalar.cmpi .eq v2 c2_i32
  let c7_i32 : BitVec 32 := 7#32
  let c1_i32_0 : BitVec 32 := 1#32
  let v3 : BitVec 1 := Scalar.cmpi .eq v2 c1_i32_0
  let c0_i32 : BitVec 32 := 0#32
  let c0_i32_1 : BitVec 32 := 0#32
  let v4 : BitVec 32 := Scalar.select v3 c0_i32 c0_i32_1
  let v6 : BitVec 32 := Scalar.select v5 c7_i32 v4
  let v8 : BitVec 32 := Scalar.select v7 c7_i32_2 v6
  let v10 : BitVec 32 := Scalar.select v9 c1_i32_3 v8
  let v12 : BitVec 32 := Scalar.select v11 c1_i32_4 v10
  let v14 : BitVec 32 := Scalar.select v13 c6_i32_5 v12
  let v16 : BitVec 32 := Scalar.select v15 c6_i32_7 v14
  let v18 : BitVec 32 := Scalar.select v17 c2_i32_8 v16
  let v20 : BitVec 32 := Scalar.select v19 c2_i32_9 v18
  let v22 : BitVec 32 := Scalar.select v21 c5_i32_10 v20
  let v24 : BitVec 32 := Scalar.select v23 c5_i32_11 v22
  let v26 : BitVec 32 := Scalar.select v25 c3_i32_12 v24
  let v28 : BitVec 32 := Scalar.select v27 c3_i32_13 v26
  let v30 : BitVec 32 := Scalar.select v29 c4_i32_14 v28
  let v32 : BitVec 32 := Scalar.select v31 c4_i32_15 v30
  let v2237 : BitVec 32 := Scalar.addi v32 c0_i32_1302
  let c16_i32_1303 : BitVec 32 := 16#32
  let v2238 : BitVec 32 := Scalar.addi v2237 c16_i32_1303
  let c8_i32_1304 : BitVec 32 := 8#32
  let v2239 : BitVec 32 := Scalar.remsi v2238 c8_i32_1304
  let c256_i32_1305 : BitVec 32 := 256#32
  let v2240 : BitVec 32 := Scalar.muli v2239 c256_i32_1305
  let v2309 : BitVec 32 := Scalar.addi c2048_i32_1361 v2240
  let v2310 : Index := Scalar.indexCast v2309
  let c0_1362 : Index := 0#32
  ![v2310.toNat, 0]
def k0_dev44 (d0 : Dev nD) : Nat :=
  let c0_i32_1381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_1380 : BitVec 32 := 1#32
  let v2327 : BitVec 32 := Scalar.muli v62 c1_i32_1380
  let v2328 : BitVec 32 := Scalar.addi c0_i32_1381 v2327
  v2328.toNat
def k0_dev45 (d0 : Dev nD) : Nat :=
  let c0_i32_1394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_1393 : BitVec 32 := 1#32
  let v2342 : BitVec 32 := Scalar.muli v62 c1_i32_1393
  let v2343 : BitVec 32 := Scalar.addi c0_i32_1394 v2342
  v2343.toNat
def k0_dev46 (d0 : Dev nD) : Nat :=
  let c0_i32_1407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_1406 : BitVec 32 := 1#32
  let v2357 : BitVec 32 := Scalar.muli v92 c1_i32_1406
  let v2358 : BitVec 32 := Scalar.addi c0_i32_1407 v2357
  v2358.toNat
def k0_dev47 (d0 : Dev nD) : Nat :=
  let c0_i32_1420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_1419 : BitVec 32 := 1#32
  let v2372 : BitVec 32 := Scalar.muli v92 c1_i32_1419
  let v2373 : BitVec 32 := Scalar.addi c0_i32_1420 v2372
  v2373.toNat
def k0_dev48 (d0 : Dev nD) : Nat :=
  let c0_i32_1446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_1445 : BitVec 32 := 1#32
  let v2406 : BitVec 32 := Scalar.muli v62 c1_i32_1445
  let v2407 : BitVec 32 := Scalar.addi c0_i32_1446 v2406
  v2407.toNat
def k0_dev49 (d0 : Dev nD) : Nat :=
  let c0_i32_1459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_1458 : BitVec 32 := 1#32
  let v2421 : BitVec 32 := Scalar.muli v62 c1_i32_1458
  let v2422 : BitVec 32 := Scalar.addi c0_i32_1459 v2421
  v2422.toNat
def k0_dev50 (d0 : Dev nD) : Nat :=
  let c0_i32_1472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_1471 : BitVec 32 := 1#32
  let v2436 : BitVec 32 := Scalar.muli v92 c1_i32_1471
  let v2437 : BitVec 32 := Scalar.addi c0_i32_1472 v2436
  v2437.toNat
def k0_dev51 (d0 : Dev nD) : Nat :=
  let c0_i32_1485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_1484 : BitVec 32 := 1#32
  let v2451 : BitVec 32 := Scalar.muli v92 c1_i32_1484
  let v2452 : BitVec 32 := Scalar.addi c0_i32_1485 v2451
  v2452.toNat
def k0_dev52 (d0 : Dev nD) : Nat :=
  let c0_i32_1511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_1510 : BitVec 32 := 1#32
  let v2485 : BitVec 32 := Scalar.muli v62 c1_i32_1510
  let v2486 : BitVec 32 := Scalar.addi c0_i32_1511 v2485
  v2486.toNat
def k0_dev53 (d0 : Dev nD) : Nat :=
  let c0_i32_1524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_1523 : BitVec 32 := 1#32
  let v2500 : BitVec 32 := Scalar.muli v62 c1_i32_1523
  let v2501 : BitVec 32 := Scalar.addi c0_i32_1524 v2500
  v2501.toNat
def k0_dev54 (d0 : Dev nD) : Nat :=
  let c0_i32_1537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_1536 : BitVec 32 := 1#32
  let v2515 : BitVec 32 := Scalar.muli v92 c1_i32_1536
  let v2516 : BitVec 32 := Scalar.addi c0_i32_1537 v2515
  v2516.toNat
def k0_dev55 (d0 : Dev nD) : Nat :=
  let c0_i32_1550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_1549 : BitVec 32 := 1#32
  let v2530 : BitVec 32 := Scalar.muli v92 c1_i32_1549
  let v2531 : BitVec 32 := Scalar.addi c0_i32_1550 v2530
  v2531.toNat
def k0_dev56 (d0 : Dev nD) : Nat :=
  let c0_i32_1576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_1575 : BitVec 32 := 1#32
  let v2564 : BitVec 32 := Scalar.muli v62 c1_i32_1575
  let v2565 : BitVec 32 := Scalar.addi c0_i32_1576 v2564
  v2565.toNat
def k0_dev57 (d0 : Dev nD) : Nat :=
  let c0_i32_1589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_1588 : BitVec 32 := 1#32
  let v2579 : BitVec 32 := Scalar.muli v62 c1_i32_1588
  let v2580 : BitVec 32 := Scalar.addi c0_i32_1589 v2579
  v2580.toNat
def k0_dev58 (d0 : Dev nD) : Nat :=
  let c0_i32_1602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_1601 : BitVec 32 := 1#32
  let v2594 : BitVec 32 := Scalar.muli v92 c1_i32_1601
  let v2595 : BitVec 32 := Scalar.addi c0_i32_1602 v2594
  v2595.toNat
def k0_dev59 (d0 : Dev nD) : Nat :=
  let c0_i32_1615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_1614 : BitVec 32 := 1#32
  let v2609 : BitVec 32 := Scalar.muli v92 c1_i32_1614
  let v2610 : BitVec 32 := Scalar.addi c0_i32_1615 v2609
  v2610.toNat
def k0_dev60 (d0 : Dev nD) : Nat :=
  let c0_i32_1641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_1640 : BitVec 32 := 1#32
  let v2643 : BitVec 32 := Scalar.muli v62 c1_i32_1640
  let v2644 : BitVec 32 := Scalar.addi c0_i32_1641 v2643
  v2644.toNat
def k0_dev61 (d0 : Dev nD) : Nat :=
  let c0_i32_1654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c1_i32_20 : BitVec 32 := 1#32
  let c1_i32_16 : BitVec 32 := 1#32
  let v33 : BitVec 1 := Scalar.cmpi .eq v2 c1_i32_16
  let c5_i32_17 : BitVec 32 := 5#32
  let c4_i32_18 : BitVec 32 := 4#32
  let v34 : BitVec 32 := Scalar.select v33 c5_i32_17 c4_i32_18
  let v36 : BitVec 32 := Scalar.select v35 c1_i32_20 v34
  let v38 : BitVec 32 := Scalar.select v37 c0_i32_22 v36
  let v40 : BitVec 32 := Scalar.select v39 c8_i32_24 v38
  let v42 : BitVec 32 := Scalar.select v41 c9_i32_26 v40
  let v44 : BitVec 32 := Scalar.select v43 c2_i32_28 v42
  let v46 : BitVec 32 := Scalar.select v45 c3_i32_30 v44
  let v48 : BitVec 32 := Scalar.select v47 c12_i32_32 v46
  let v50 : BitVec 32 := Scalar.select v49 c13_i32_34 v48
  let v52 : BitVec 32 := Scalar.select v51 c6_i32_36 v50
  let v54 : BitVec 32 := Scalar.select v53 c7_i32_38 v52
  let v56 : BitVec 32 := Scalar.select v55 c15_i32_40 v54
  let v58 : BitVec 32 := Scalar.select v57 c14_i32_42 v56
  let v60 : BitVec 32 := Scalar.select v59 c10_i32_44 v58
  let v62 : BitVec 32 := Scalar.select v61 c11_i32_46 v60
  let c1_i32_1653 : BitVec 32 := 1#32
  let v2658 : BitVec 32 := Scalar.muli v62 c1_i32_1653
  let v2659 : BitVec 32 := Scalar.addi c0_i32_1654 v2658
  v2659.toNat
def k0_dev62 (d0 : Dev nD) : Nat :=
  let c0_i32_1667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_1666 : BitVec 32 := 1#32
  let v2673 : BitVec 32 := Scalar.muli v92 c1_i32_1666
  let v2674 : BitVec 32 := Scalar.addi c0_i32_1667 v2673
  v2674.toNat
def k0_dev63 (d0 : Dev nD) : Nat :=
  let c0_i32_1680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c2_i32_48 : BitVec 32 := 2#32
  let c3_i32_49 : BitVec 32 := 3#32
  let v64 : BitVec 32 := Scalar.select v63 c2_i32_48 c3_i32_49
  let v66 : BitVec 32 := Scalar.select v65 c6_i32_51 v64
  let v68 : BitVec 32 := Scalar.select v67 c7_i32_53 v66
  let v70 : BitVec 32 := Scalar.select v69 c0_i32_55 v68
  let v72 : BitVec 32 := Scalar.select v71 c1_i32_57 v70
  let v74 : BitVec 32 := Scalar.select v73 c10_i32_59 v72
  let v76 : BitVec 32 := Scalar.select v75 c11_i32_61 v74
  let v78 : BitVec 32 := Scalar.select v77 c4_i32_63 v76
  let v80 : BitVec 32 := Scalar.select v79 c5_i32_65 v78
  let v82 : BitVec 32 := Scalar.select v81 c14_i32_67 v80
  let v84 : BitVec 32 := Scalar.select v83 c15_i32_69 v82
  let v86 : BitVec 32 := Scalar.select v85 c8_i32_71 v84
  let v88 : BitVec 32 := Scalar.select v87 c9_i32_73 v86
  let v90 : BitVec 32 := Scalar.select v89 c13_i32_75 v88
  let v92 : BitVec 32 := Scalar.select v91 c12_i32_77 v90
  let c1_i32_1679 : BitVec 32 := 1#32
  let v2688 : BitVec 32 := Scalar.muli v92 c1_i32_1679
  let v2689 : BitVec 32 := Scalar.addi c0_i32_1680 v2688
  v2689.toNat
abbrev stage0_0 : Fin 1 → Memref sig .tc .vmem S4x1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x1024x8192 : Shape := ⟨3, ![4, 1024, 8192]⟩
abbrev S4x8192 : Shape := ⟨2, ![4, 8192]⟩
abbrev S8192x512 : Shape := ⟨2, ![8192, 512]⟩
abbrev S_ : Shape := ⟨0, ![]⟩
abbrev S4x3x8192 : Shape := ⟨3, ![4, 3, 8192]⟩
abbrev S4x1027x8192 : Shape := ⟨3, ![4, 1027, 8192]⟩
abbrev S1x8192 : Shape := ⟨2, ![1, 8192]⟩
abbrev S8192 : Shape := ⟨1, ![8192]⟩
abbrev S1x1x8192 : Shape := ⟨3, ![1, 1, 8192]⟩
abbrev S4x1024x512 : Shape := ⟨3, ![4, 1024, 512]⟩
abbrev S4096x512 : Shape := ⟨2, ![4096, 512]⟩

abbrev nBuf : Space → Nat
  | .hbm => 44
  | .vmem => 0
  | .smem => 0
  | _ => 0

abbrev bufTy : (tb : Table) → Fin (tcTables nBuf tb) → BufTy
  | .hbm, ⟨0, _⟩ => ⟨S4x1024x8192, .f32⟩
  | .hbm, ⟨1, _⟩ => ⟨S4x8192, .f32⟩
  | .hbm, ⟨2, _⟩ => ⟨S8192x512, .f32⟩
  | .hbm, ⟨3, _⟩ => ⟨S_, .f32⟩
  | .hbm, ⟨4, _⟩ => ⟨S4x3x8192, .f32⟩
  | .hbm, ⟨5, _⟩ => ⟨S4x1027x8192, .f32⟩
  | .hbm, ⟨6, _⟩ => ⟨S_, .f32⟩
  | .hbm, ⟨7, _⟩ => ⟨S4x1024x8192, .f32⟩
  | .hbm, ⟨8, _⟩ => ⟨S4x1024x8192, .f32⟩
  | .hbm, ⟨9, _⟩ => ⟨S1x8192, .f32⟩
  | .hbm, ⟨10, _⟩ => ⟨S8192, .f32⟩
  | .hbm, ⟨11, _⟩ => ⟨S1x1x8192, .f32⟩
  | .hbm, ⟨12, _⟩ => ⟨S4x1024x8192, .f32⟩
  | .hbm, ⟨13, _⟩ => ⟨S4x1024x8192, .f32⟩
  | .hbm, ⟨14, _⟩ => ⟨S4x1024x8192, .f32⟩
  | .hbm, ⟨15, _⟩ => ⟨S4x1024x8192, .f32⟩
  | .hbm, ⟨16, _⟩ => ⟨S1x8192, .f32⟩
  | .hbm, ⟨17, _⟩ => ⟨S8192, .f32⟩
  | .hbm, ⟨18, _⟩ => ⟨S1x1x8192, .f32⟩
  | .hbm, ⟨19, _⟩ => ⟨S4x1024x8192, .f32⟩
  | .hbm, ⟨20, _⟩ => ⟨S4x1024x8192, .f32⟩
  | .hbm, ⟨21, _⟩ => ⟨S4x1024x8192, .f32⟩
  | .hbm, ⟨22, _⟩ => ⟨S4x1024x8192, .f32⟩
  | .hbm, ⟨23, _⟩ => ⟨S1x8192, .f32⟩
  | .hbm, ⟨24, _⟩ => ⟨S8192, .f32⟩
  | .hbm, ⟨25, _⟩ => ⟨S1x1x8192, .f32⟩
  | .hbm, ⟨26, _⟩ => ⟨S4x1024x8192, .f32⟩
  | .hbm, ⟨27, _⟩ => ⟨S4x1024x8192, .f32⟩
  | .hbm, ⟨28, _⟩ => ⟨S4x1024x8192, .f32⟩
  | .hbm, ⟨29, _⟩ => ⟨S4x1024x8192, .f32⟩
  | .hbm, ⟨30, _⟩ => ⟨S1x8192, .f32⟩
  | .hbm, ⟨31, _⟩ => ⟨S8192, .f32⟩
  | .hbm, ⟨32, _⟩ => ⟨S1x1x8192, .f32⟩
  | .hbm, ⟨33, _⟩ => ⟨S4x1024x8192, .f32⟩
  | .hbm, ⟨34, _⟩ => ⟨S4x1024x8192, .f32⟩
  | .hbm, ⟨35, _⟩ => ⟨S4x1024x8192, .f32⟩
  | .hbm, ⟨36, _⟩ => ⟨S4x1024x8192, .f32⟩
  | .hbm, ⟨37, _⟩ => ⟨S4x1024x8192, .f32⟩
  | .hbm, ⟨38, _⟩ => ⟨S_, .f32⟩
  | .hbm, ⟨39, _⟩ => ⟨S4x1024x8192, .f32⟩
  | .hbm, ⟨40, _⟩ => ⟨S4x1024x8192, .f32⟩
  | .hbm, ⟨41, _⟩ => ⟨S4x1024x8192, .f32⟩
  | .hbm, ⟨42, _⟩ => ⟨S4x1024x512, .f32⟩
  | .hbm, ⟨43, _⟩ => ⟨S4096x512, .f32⟩
  | _, _ => ⟨S4x1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩

abbrev nD : Nat := 1
abbrev τ : Topo := Topo.v7x

variable {F : FTy → Type} [FloatOps F]
-- ==== Proof.Ring.lean ====
module

public import proofs.«01_k».proof.Proof.Gen.KernelIdeal.Skeleton

/-!
# The two rings

The sixteen devices form two rings of eight. A device has a position in its ring, two neighbours
there, and a partner at the same position of the other ring. Direction `false` is the clockwise
half of the rows (to the right neighbour), `true` the counterclockwise half (to the left one).
The closed forms of the addresses the body computes from its device number are here too.
-/

@[expose] public section

set_option maxRecDepth 100000
set_option synthInstance.maxSize 4096

noncomputable section

namespace Cert.KernelIdeal.Rings

open Idealize.ShloMosaic Idealize.SL.Sem
open Cert.KernelIdeal Cert.KernelIdeal.Gen

/-- Position of a device in its ring. -/
def posT : List ℕ := [0, 0, 7, 7, 1, 1, 6, 6, 2, 2, 5, 5, 3, 3, 4, 4]
def pos (c : Dev nD) : ℕ := posT.getD c.val 0

/-- Which ring a device is on. -/
def ringOfT : List Bool := [false, true, true, false, false, true, true, false, false, true, true, false, false, true, true, false]
def ringOf (c : Dev nD) : Bool := ringOfT.getD c.val false

/-- The device at a position of a ring. -/
def devT (r : Bool) : List (Dev nD) := if r then [1, 5, 9, 13, 14, 10, 6, 2] else [0, 4, 8, 12, 15, 11, 7, 3]
def devAt (r : Bool) (q : ℕ) : Dev nD := (devT r).getD (q % 8) 0

/-- The device a direction's transfers go to, the one they come from, and the partner. -/
def nx (d : Bool) (c : Dev nD) : Dev nD := devAt (ringOf c) (pos c + if d then 7 else 1)
def pv (d : Bool) (c : Dev nD) : Dev nD := nx (!d) c
def partner (c : Dev nD) : Dev nD := devAt (!ringOf c) (pos c)

/-- The chunk sent at step `k` of direction `d`. -/
def ck (d : Bool) (c : Dev nD) (k : ℕ) : ℕ := (pos c + if d then k else 7 * k) % 8

theorem ck_lt (d : Bool) (c : Dev nD) (k : ℕ) : ck d c k < 8 := Nat.mod_lt _ (by decide)

theorem pv_nx (d : Bool) (c : Dev nD) : pv d (nx d c) = c := by revert d c; decide +kernel
theorem nx_pv (d : Bool) (c : Dev nD) : nx d (pv d c) = c := by revert d c; decide +kernel
theorem partner_partner (c : Dev nD) : partner (partner c) = c := by revert c; decide +kernel
theorem pos_lt (c : Dev nD) : pos c < 8 := by revert c; decide +kernel
theorem pos_nx (d : Bool) (c : Dev nD) : pos (nx d c) = (pos c + if d then 7 else 1) % 8 := by revert d c; decide +kernel
theorem pos_partner (c : Dev nD) : pos (partner c) = pos c := by revert c; decide +kernel

theorem ck_nx (d : Bool) (c : Dev nD) (k : ℕ) : ck d (nx d c) (k + 1) = ck d c k := by
  unfold ck; rw [pos_nx]; cases d <;> simp <;> omega
theorem ck_partner (d : Bool) (c : Dev nD) (k : ℕ) : ck d (partner c) k = ck d c k := by
  unfold ck; rw [pos_partner]
theorem ck_pv (d : Bool) (c : Dev nD) (k : ℕ) : ck d (pv d c) k = ck d c (k + 1) := by
  conv_rhs => rw [← nx_pv d c]
  rw [ck_nx]
theorem ck_add8 (d : Bool) (c : Dev nD) (k : ℕ) : ck d c (k + 8) = ck d c k := by
  unfold ck; cases d <;> simp <;> omega

/-- The step below eight at which a chunk is sent. -/
def stepOf (d : Bool) (c : Dev nD) (κ : ℕ) : ℕ := (if d then κ + 8 - pos c else pos c + 8 - κ) % 8

theorem stepOf_ck (d : Bool) (c : Dev nD) (k : ℕ) : stepOf d c (ck d c k) = k % 8 := by
  have := pos_lt c; unfold stepOf ck; cases d <;> simp <;> omega
theorem ck_stepOf (d : Bool) (c : Dev nD) (κ : ℕ) (h : κ < 8) : ck d c (stepOf d c κ) = κ := by
  have := pos_lt c; unfold stepOf ck; cases d <;> simp <;> omega
theorem stepOf_lt (d : Bool) (c : Dev nD) (κ : ℕ) : stepOf d c κ < 8 := Nat.mod_lt _ (by decide)

/-- Words of the addresses: the chunk shift of a step, the row of a half. -/
def wdN (d : Bool) (k : ℕ) : ℕ := ((if d then k + 4294967295 else 4294967297 - k)) % 4294967296
def wd (d : Bool) (k : ℕ) : BitVec 32 := BitVec.ofNat 32 (wdN d k)
def wu (u : Bool) : BitVec 32 := BitVec.ofNat 32 (if u then 128 else 0)
def wb (d : Bool) : BitVec 32 := BitVec.ofNat 32 (if d then 2 else 0)

/-- Row of half `u` of a chunk, as a number. -/
def ur (u : Bool) : ℕ := if u then 128 else 0
def dr (d : Bool) : ℕ := if d then 2048 else 0

def off12 (d : Bool) : Dev nD → BitVec 32 → BitVec 32 → Fin 2 → ℕ := match d with
  | false => k0_off6
  | true => k0_off7
def off25 (d : Bool) : Dev nD → BitVec 32 → Fin 2 → ℕ := match d with
  | false => k0_off8
  | true => k0_off9

theorem off1_eq (c : Dev nD) (d : Bool) (k : Fin 9) : k0_off1 c (wd d k) (wb d) =
    ![ck d c (k + 7) / 4 + (if d then 2 else 0), 256 * (ck d c (k + 7) % 4), 0] := by
  revert c d k; decide +kernel
theorem off2_eq (c : Dev nD) (d : Bool) (k : Fin 9) : k0_off2 c (wd d k) (wb d) =
    ![ck d c (k + 7) / 4 + (if d then 2 else 0), 256 * (ck d c (k + 7) % 4) - 8, 0] := by
  revert c d k; decide +kernel
theorem off3_eq (c : Dev nD) (d : Bool) (k : Fin 9) : k0_off3 c (wd d k) = ![256 * ck d c (k + 7), 0] := by
  revert c d k; decide +kernel
theorem off4_eq (c : Dev nD) (d : Bool) (k : Fin 9) (u : Bool) :
    k0_off4 c (wd d k) (wu u) = ![256 * ck d c (k + 7) + ur u, 0] := by
  revert c d k u; decide +kernel
theorem off5_eq (c : Dev nD) (d : Bool) (k : Fin 9) (u : Bool) :
    k0_off5 c (wd d k) (wu u) = ![256 * ck d c (k + 7) + ur u, 0] := by
  revert c d k u; decide +kernel
theorem off12_eq (c : Dev nD) (d : Bool) (k : Fin 9) (u : Bool) :
    off12 d c (wd d k) (wu u) = ![dr d + 256 * ck d c (k + 7) + ur u, 0] := by
  revert c d k u; decide +kernel
theorem off25_eq (c : Dev nD) (d : Bool) (k : Fin 9) : off25 d c (wd d k) = ![dr d + 256 * ck d c (k + 7), 0] := by
  revert c d k; decide +kernel

/-- The side conditions of the accesses at the steps' addresses. -/
theorem inb1 (c : Dev nD) (d : Bool) (k : Fin 9) : ∀ a, k0_off1 c (wd d k) (wb d) a + S1x256x512.size a ≤ S4x1024x512.size a := by
  revert c d k; decide +kernel
theorem inb2 (c : Dev nD) (d : Bool) (k : Fin 9) : ∀ a, k0_off2 c (wd d k) (wb d) a + S1x8x512.size a ≤ S4x1024x512.size a := by
  revert c d k; decide +kernel
theorem inb3 (c : Dev nD) (d : Bool) (k : Fin 9) : ∀ a, k0_off3 c (wd d k) a + S256x512.size a ≤ S2048x512.size a := by
  revert c d k; decide +kernel
theorem inb4 (c : Dev nD) (d : Bool) (k : Fin 9) (u : Bool) : ∀ a, k0_off4 c (wd d k) (wu u) a + S128x512.size a ≤ S2048x512.size a := by
  revert c d k u; decide +kernel
theorem inb5 (c : Dev nD) (d : Bool) (k : Fin 9) (u : Bool) : ∀ a, k0_off5 c (wd d k) (wu u) a + S128x512.size a ≤ S2048x512.size a := by
  revert c d k u; decide +kernel
theorem inb12 (c : Dev nD) (d : Bool) (k : Fin 9) (u : Bool) : ∀ a, off12 d c (wd d k) (wu u) a + S128x512.size a ≤ S4096x512.size a := by
  revert c d k u; decide +kernel
theorem inb25 (c : Dev nD) (d : Bool) (k : Fin 9) : ∀ a, off25 d c (wd d k) a + S256x512.size a ≤ S4096x512.size a := by
  revert c d k; decide +kernel
theorem inbSt (s : Fin 7) (u : Bool) : ∀ a, (![s.val, ur u, 0] : Fin 3 → ℕ) a + S1x128x512.size a ≤ S7x256x512.size a := by
  revert s u; decide +kernel
theorem inbEx (u : Bool) : ∀ a, (![ur u, 0] : Fin 2 → ℕ) a + S128x512.size a ≤ S256x512.size a := by
  revert u; decide +kernel
theorem inbSem (s : Fin 7) : ∀ a, (![s.val] : Fin 1 → ℕ) a + S1.size a ≤ S7.size a := by
  revert s; decide +kernel
theorem inbSem4 (s : Fin 4) : ∀ a, (![s.val] : Fin 1 → ℕ) a + S1.size a ≤ S4.size a := by
  revert s; decide +kernel

theorem pack3 (c : Dev nD) (d : Bool) (k : Fin 9) :
    (Rect.unit (s := S2048x512) (k0_off3 c (wd d k)) S256x512.size (inb3 c d k)).PackedRows (EltTy.packing .bf16) := by
  revert c d k; decide +kernel
theorem words4 (c : Dev nD) (d : Bool) (k : Fin 9) (u : Bool) :
    (Rect.unit (s := S2048x512) (k0_off4 c (wd d k) (wu u)) S128x512.size (inb4 c d k u)).WholeWords (EltTy.packing .bf16) := by
  revert c d k u; decide +kernel
theorem pack5 (c : Dev nD) (d : Bool) (k : Fin 9) (u : Bool) :
    (Rect.unit (s := S2048x512) (k0_off5 c (wd d k) (wu u)) S128x512.size (inb5 c d k u)).PackedRows (EltTy.packing .bf16) := by
  revert c d k u; decide +kernel
theorem wordsSt (s : Fin 7) (u : Bool) :
    (Rect.unit (s := S7x256x512) ![s.val, ur u, 0] S1x128x512.size (inbSt s u)).WholeWords (EltTy.packing .bf16) := by
  revert s u; decide +kernel
theorem wordsEx (u : Bool) :
    (Rect.unit (s := S256x512) ![ur u, 0] S128x512.size (inbEx u)).WholeWords (EltTy.packing .bf16) := by
  revert u; decide +kernel

end Cert.KernelIdeal.Rings
-- ==== Proof.Prog.lean ====
module

public import proofs.«01_k».proof.Proof.Ring

/-!
# The body as a sequence of named steps
-/

@[expose] public section

set_option maxRecDepth 100000
set_option synthInstance.maxSize 4096

noncomputable section

namespace Cert.KernelIdeal.Rings

open Idealize.ShloMosaic Idealize.SL.Sem
open Cert.KernelIdeal Cert.KernelIdeal.Gen

variable {F : FTy → Type} [FloatOps F]

/-- The device each transfer goes to, by its number in program order. -/
def dv (c : Dev nD) (n : ℕ) : Dev nD := match n with
  | 0 => ⟨k0_dev4 c, k0_dev4_lt c⟩
  | 1 => ⟨k0_dev5 c, k0_dev5_lt c⟩
  | 2 => ⟨k0_dev6 c, k0_dev6_lt c⟩
  | 3 => ⟨k0_dev7 c, k0_dev7_lt c⟩
  | 4 => ⟨k0_dev8 c, k0_dev8_lt c⟩
  | 5 => ⟨k0_dev9 c, k0_dev9_lt c⟩
  | 6 => ⟨k0_dev10 c, k0_dev10_lt c⟩
  | 7 => ⟨k0_dev11 c, k0_dev11_lt c⟩
  | 8 => ⟨k0_dev12 c, k0_dev12_lt c⟩
  | 9 => ⟨k0_dev13 c, k0_dev13_lt c⟩
  | 10 => ⟨k0_dev14 c, k0_dev14_lt c⟩
  | 11 => ⟨k0_dev15 c, k0_dev15_lt c⟩
  | 12 => ⟨k0_dev16 c, k0_dev16_lt c⟩
  | 13 => ⟨k0_dev17 c, k0_dev17_lt c⟩
  | 14 => ⟨k0_dev18 c, k0_dev18_lt c⟩
  | 15 => ⟨k0_dev19 c, k0_dev19_lt c⟩
  | 16 => ⟨k0_dev20 c, k0_dev20_lt c⟩
  | 17 => ⟨k0_dev21 c, k0_dev21_lt c⟩
  | 18 => ⟨k0_dev22 c, k0_dev22_lt c⟩
  | 19 => ⟨k0_dev23 c, k0_dev23_lt c⟩
  | 20 => ⟨k0_dev24 c, k0_dev24_lt c⟩
  | 21 => ⟨k0_dev25 c, k0_dev25_lt c⟩
  | 22 => ⟨k0_dev26 c, k0_dev26_lt c⟩
  | 23 => ⟨k0_dev27 c, k0_dev27_lt c⟩
  | 24 => ⟨k0_dev28 c, k0_dev28_lt c⟩
  | 25 => ⟨k0_dev29 c, k0_dev29_lt c⟩
  | 26 => ⟨k0_dev30 c, k0_dev30_lt c⟩
  | 27 => ⟨k0_dev31 c, k0_dev31_lt c⟩
  | 28 => ⟨k0_dev32 c, k0_dev32_lt c⟩
  | 29 => ⟨k0_dev33 c, k0_dev33_lt c⟩
  | 30 => ⟨k0_dev34 c, k0_dev34_lt c⟩
  | 31 => ⟨k0_dev35 c, k0_dev35_lt c⟩
  | 32 => ⟨k0_dev36 c, k0_dev36_lt c⟩
  | 33 => ⟨k0_dev37 c, k0_dev37_lt c⟩
  | 34 => ⟨k0_dev38 c, k0_dev38_lt c⟩
  | 35 => ⟨k0_dev39 c, k0_dev39_lt c⟩
  | 36 => ⟨k0_dev40 c, k0_dev40_lt c⟩
  | 37 => ⟨k0_dev41 c, k0_dev41_lt c⟩
  | 38 => ⟨k0_dev42 c, k0_dev42_lt c⟩
  | 39 => ⟨k0_dev43 c, k0_dev43_lt c⟩
  | 40 => ⟨k0_dev44 c, k0_dev44_lt c⟩
  | 41 => ⟨k0_dev45 c, k0_dev45_lt c⟩
  | 42 => ⟨k0_dev46 c, k0_dev46_lt c⟩
  | 43 => ⟨k0_dev47 c, k0_dev47_lt c⟩
  | 44 => ⟨k0_dev48 c, k0_dev48_lt c⟩
  | 45 => ⟨k0_dev49 c, k0_dev49_lt c⟩
  | 46 => ⟨k0_dev50 c, k0_dev50_lt c⟩
  | 47 => ⟨k0_dev51 c, k0_dev51_lt c⟩
  | 48 => ⟨k0_dev52 c, k0_dev52_lt c⟩
  | 49 => ⟨k0_dev53 c, k0_dev53_lt c⟩
  | 50 => ⟨k0_dev54 c, k0_dev54_lt c⟩
  | 51 => ⟨k0_dev55 c, k0_dev55_lt c⟩
  | 52 => ⟨k0_dev56 c, k0_dev56_lt c⟩
  | 53 => ⟨k0_dev57 c, k0_dev57_lt c⟩
  | 54 => ⟨k0_dev58 c, k0_dev58_lt c⟩
  | 55 => ⟨k0_dev59 c, k0_dev59_lt c⟩
  | 56 => ⟨k0_dev60 c, k0_dev60_lt c⟩
  | 57 => ⟨k0_dev61 c, k0_dev61_lt c⟩
  | 58 => ⟨k0_dev62 c, k0_dev62_lt c⟩
  | 59 => ⟨k0_dev63 c, k0_dev63_lt c⟩
  | _ => c

/-- Buffers by direction. -/
def agM (d : Bool) : Memref sig .tc .vmem S2048x512 .bf16 := match d with
  | false => Memref.whole cc0_scratch4
  | true => Memref.whole cc0_scratch5
def stM (d : Bool) : Memref sig .tc .vmem S7x256x512 .bf16 := match d with
  | false => Memref.whole cc0_scratch0
  | true => Memref.whole cc0_scratch1
def exM (d : Bool) : Memref sig .tc .vmem S256x512 .bf16 := match d with
  | false => Memref.whole cc0_scratch2
  | true => Memref.whole cc0_scratch3
theorem agW (d : Bool) : (agM d).IsWhole := by cases d <;> exact Memref.isWhole_whole _
theorem stW (d : Bool) : (stM d).IsWhole := by cases d <;> exact Memref.isWhole_whole _
theorem exW (d : Bool) : (exM d).IsWhole := by cases d <;> exact Memref.isWhole_whole _

abbrev xM : Memref sig .tc .vmem S4x1024x512 .f32 := Memref.whole cc0_stg0_0
abbrev kM : Memref sig .tc .vmem S4x512 .f32 := Memref.whole cc0_stg1_0
abbrev wM : Memref sig .tc .vmem S512x512 .f32 := Memref.whole cc0_stg2_0
abbrev oM : Memref sig .tc .vmem S4096x512 .f32 := Memref.whole cc0_stg3_0

/-- Semaphore arrays: first phase and second phase, send side (`false`) and receive side, by system. -/
def rsA (rv d u : Bool) : DmaSems sig S7 := match d, u, rv with
  | false, false, false => cc0_scratch6
  | false, false, true => cc0_scratch7
  | false, true, false => cc0_scratch8
  | false, true, true => cc0_scratch9
  | true, false, false => cc0_scratch10
  | true, false, true => cc0_scratch11
  | true, true, false => cc0_scratch12
  | true, true, true => cc0_scratch13
def agA (rv d u : Bool) : DmaSems sig S7 := match d, u, rv with
  | false, false, false => cc0_scratch14
  | false, false, true => cc0_scratch15
  | false, true, false => cc0_scratch16
  | false, true, true => cc0_scratch17
  | true, false, false => cc0_scratch18
  | true, false, true => cc0_scratch19
  | true, true, false => cc0_scratch20
  | true, true, true => cc0_scratch21
def exA (rv : Bool) : DmaSems sig S4 := match rv with
  | false => cc0_scratch22
  | true => cc0_scratch23

def jx (d u : Bool) : Fin 4 := match d, u with
  | false, false => 0
  | false, true => 1
  | true, false => 2
  | true, true => 3

def rsSem (rv d u : Bool) (s : Fin 7) : DmaSem sig :=
  (((rsA rv d u).slice (Rect.unit (s := S7) ![s.val] S1.size (inbSem s))).squeeze S_ squeezes_S1_S_).sem
def agSem (rv d u : Bool) (s : Fin 7) : DmaSem sig :=
  (((agA rv d u).slice (Rect.unit (s := S7) ![s.val] S1.size (inbSem s))).squeeze S_ squeezes_S1_S_).sem
def exSem (rv d u : Bool) : DmaSem sig :=
  (((exA rv).slice (Rect.unit (s := S4) ![(jx d u).val] S1.size (inbSem4 (jx d u)))).squeeze S_ squeezes_S1_S_).sem

/-- Views of transfers: half a chunk of the gather buffer, half a stage slot, half the exchange buffer. -/
def agV (c : Dev nD) (d : Bool) (k : Fin 9) (u : Bool) : Memref sig .tc .vmem S128x512 .bf16 :=
  (agM d).slice (Rect.unit (s := S2048x512) (k0_off4 c (wd d k) (wu u)) S128x512.size (inb4 c d k u)) (fun _ => rfl)
def stV (d : Bool) (s : Fin 7) (u : Bool) : Memref sig .tc .vmem S128x512 .bf16 :=
  ((stM d).slice (Rect.unit (s := S7x256x512) ![s.val, ur u, 0] S1x128x512.size (inbSt s u)) (fun _ => rfl)).squeeze S128x512 squeezes_S1x128x512_S128x512
def exV (d u : Bool) : Memref sig .tc .vmem S128x512 .bf16 :=
  (exM d).slice (Rect.unit (s := S256x512) ![ur u, 0] S128x512.size (inbEx u)) (fun _ => rfl)
theorem agVw (c : Dev nD) (d : Bool) (k : Fin 9) (u : Bool) : (agV c d k u).view.WordExact :=
  (agW d).wordExact_slice rfl _ (words4 c d k u)
theorem stVw (d : Bool) (s : Fin 7) (u : Bool) : (stV d s u).view.WordExact :=
  ((stW d).wordExact_slice rfl _ (wordsSt s u)).reshape _ _
theorem exVw (d u : Bool) : (exV d u).view.WordExact := (exW d).wordExact_slice rfl _ (wordsEx u)

abbrev PG := Prog (TpuEff nD τ sig (Elt F) Λ₀ .tc) PUnit

/-- The position word of the mask's chunk number. -/
def posW (d0 : Dev nD) : BitVec 32 :=
  let v0 : BitVec 32 := Dev.word d0
  let v1 : BitVec 32 := Scalar.divsi v0 1#32
  let v2 : BitVec 32 := Scalar.remsi v1 16#32
  let v3 : BitVec 1 := Scalar.cmpi .eq v2 1#32
  let v4 : BitVec 32 := Scalar.select v3 0#32 0#32
  let v5 : BitVec 1 := Scalar.cmpi .eq v2 2#32
  let v6 : BitVec 32 := Scalar.select v5 7#32 v4
  let v7 : BitVec 1 := Scalar.cmpi .eq v2 3#32
  let v8 : BitVec 32 := Scalar.select v7 7#32 v6
  let v9 : BitVec 1 := Scalar.cmpi .eq v2 4#32
  let v10 : BitVec 32 := Scalar.select v9 1#32 v8
  let v11 : BitVec 1 := Scalar.cmpi .eq v2 5#32
  let v12 : BitVec 32 := Scalar.select v11 1#32 v10
  let v13 : BitVec 1 := Scalar.cmpi .eq v2 6#32
  let v14 : BitVec 32 := Scalar.select v13 6#32 v12
  let v15 : BitVec 1 := Scalar.cmpi .eq v2 7#32
  let v16 : BitVec 32 := Scalar.select v15 6#32 v14
  let v17 : BitVec 1 := Scalar.cmpi .eq v2 8#32
  let v18 : BitVec 32 := Scalar.select v17 2#32 v16
  let v19 : BitVec 1 := Scalar.cmpi .eq v2 9#32
  let v20 : BitVec 32 := Scalar.select v19 2#32 v18
  let v21 : BitVec 1 := Scalar.cmpi .eq v2 10#32
  let v22 : BitVec 32 := Scalar.select v21 5#32 v20
  let v23 : BitVec 1 := Scalar.cmpi .eq v2 11#32
  let v24 : BitVec 32 := Scalar.select v23 5#32 v22
  let v25 : BitVec 1 := Scalar.cmpi .eq v2 12#32
  let v26 : BitVec 32 := Scalar.select v25 3#32 v24
  let v27 : BitVec 1 := Scalar.cmpi .eq v2 13#32
  let v28 : BitVec 32 := Scalar.select v27 3#32 v26
  let v29 : BitVec 1 := Scalar.cmpi .eq v2 14#32
  let v30 : BitVec 32 := Scalar.select v29 4#32 v28
  let v31 : BitVec 1 := Scalar.cmpi .eq v2 15#32
  Scalar.select v31 4#32 v30
def chunkW (c : Dev nD) (d : Bool) (k : ℕ) : BitVec 32 :=
  Scalar.muli (Scalar.remsi (Scalar.remsi (Scalar.addi (Scalar.addi (posW c) (wd d k)) 16#32) 8#32) 4#32) 256#32

/-- One chunk's partial product of a device: from the loaded filter, weights, rows and halo. -/
def tileOf (c : Dev nD) (d : Bool) (k : ℕ) (kv : Vec F S4x512 .f32) (wv : Vec F S512x512 .f32) (xv : Vec F S1x256x512 .f32) (hv : Vec F S1x8x512 .f32) :
    FVec F S256x512 .bf16 := k0_pay4 (k0_pay3 (k0_pay1 kv) (k0_pay2 wv) (chunkW c d k) xv hv)

/-- Load the rows and the halo of a chunk and store its partial product. -/
def gComp (c : Dev nD) (kv : Vec F S4x512 .f32) (wv : Vec F S512x512 .f32) (d : Bool) (k : Fin 9) (K : PG (F := F)) : PG (F := F) :=
  .op (.load xM (Rect.unit (s := S4x1024x512) (k0_off1 c (wd d k) (wb d)) S1x256x512.size (inb1 c d k)).toLoadRect (View.loadsAt_vmem h_S1x256x512)) fun xv =>
  .op (.load xM (Rect.unit (s := S4x1024x512) (k0_off2 c (wd d k) (wb d)) S1x8x512.size (inb2 c d k)).toLoadRect (View.loadsAt_vmem h_S1x8x512)) fun hv =>
  .op (.load (agM d) (Rect.unit (s := S2048x512) (k0_off3 c (wd d k)) S256x512.size (inb3 c d k)).toLoadRect (View.loadsAt_vmem h_S256x512)) fun _ =>
  .op (.store (agM d) (Rect.unit (s := S2048x512) (k0_off3 c (wd d k)) S256x512.size (inb3 c d k)) (tileOf c d k kv wv xv hv) Finset.univ
    (View.stores_vmem h_S256x512 ((agW d).storeExact_slice rfl _ (pack3 c d k)) (fun _ => rfl)) (.inl rfl)) fun _ => K

/-- Send half a chunk to the neighbour's stage. -/
def gSend (c : Dev nD) (d u : Bool) (s : Fin 7) (n : Dev nD) (K : PG (F := F)) : PG (F := F) :=
  .op (.enqueueDma (agV c d s.succ.castSucc u) (.remote (Dev.tc n) (stV d s u) (.dma (rsSem false d u s))) (.dma (rsSem true d u s))
    (agVw c d s.succ.castSucc u) (stVw d s u) ⟨⟨rfl, Or.inl rfl⟩, trivial⟩) fun _ => K

/-- Wait for half a chunk in the own stage and add it. -/
def gAdd (c : Dev nD) (d u : Bool) (s : Fin 7) (K : FVec F S128x512 .bf16 → FVec F S1x128x512 .bf16 → PG (F := F)) : PG (F := F) :=
  .op (.waitDma2 (rsSem true d u s) (agV c d s.succ.castSucc u) (stV d s u) (agVw c d s.succ.castSucc u) (stVw d s u)) fun _ =>
  .op (.load (agM d) (Rect.unit (s := S2048x512) (k0_off5 c (wd d s.succ.succ) (wu u)) S128x512.size (inb5 c d s.succ.succ u)).toLoadRect (View.loadsAt_vmem h_S128x512)) fun a =>
  .op (.load (stM d) (Rect.unit (s := S7x256x512) ![s.val, ur u, 0] S1x128x512.size (inbSt s u)).toLoadRect (View.loadsAt_vmem h_S1x128x512)) fun b =>
  .op (.load (agM d) (Rect.unit (s := S2048x512) (k0_off5 c (wd d s.succ.succ) (wu u)) S128x512.size (inb5 c d s.succ.succ u)).toLoadRect (View.loadsAt_vmem h_S128x512)) fun _ =>
  .op (.store (agM d) (Rect.unit (s := S2048x512) (k0_off5 c (wd d s.succ.succ) (wu u)) S128x512.size (inb5 c d s.succ.succ u)) (k0_pay18 a b) Finset.univ
    (View.stores_vmem h_S128x512 ((agW d).storeExact_slice rfl _ (pack5 c d s.succ.succ u)) (fun _ => rfl)) (.inl rfl)) fun _ => K a b

/-- Store into half a chunk of the result, which is read first. -/
def gOut12 (c : Dev nD) (d u : Bool) (k : Fin 9) (v : FVec F S128x512 .f32) (K : PG (F := F)) : PG (F := F) :=
  .op (.load oM (Rect.unit (s := S4096x512) (off12 d c (wd d k) (wu u)) S128x512.size (inb12 c d k u)).toLoadRect (View.loadsAt_vmem h_S128x512)) fun _ =>
  .op (.store oM (Rect.unit (s := S4096x512) (off12 d c (wd d k) (wu u)) S128x512.size (inb12 c d k u)) v Finset.univ
    (View.stores_vmem_bits_univ h_S128x512 rfl) (.inl rfl)) fun _ => K

/-- The last sum of the first phase: also to the result, and to the partner. -/
def gLast (c : Dev nD) (d u : Bool) (n : Dev nD) (K : PG (F := F)) : PG (F := F) :=
  gAdd c d u 6 fun a b => gOut12 c d u 8 (k0_pay88 a b) <|
  .op (.enqueueDma (agV c d 8 u) (.remote (Dev.tc n) (exV d u) (.dma (exSem false d u))) (.dma (exSem true d u))
    (agVw c d 8 u) (exVw d u) ⟨⟨rfl, Or.inl rfl⟩, trivial⟩) fun _ => K

/-- Send half a chunk of final sums on. -/
def gGather (c : Dev nD) (d u : Bool) (k : Fin 7) (n : Dev nD) (K : PG (F := F)) : PG (F := F) :=
  .op (.enqueueDma (agV c d k.castSucc.castSucc u) (.remote (Dev.tc n) (agV c d k.castSucc.castSucc u) (.dma (agSem false d u k))) (.dma (agSem true d u k))
    (agVw c d k.castSucc.castSucc u) (agVw c d k.castSucc.castSucc u) ⟨⟨rfl, Or.inl rfl⟩, trivial⟩) fun _ => K

/-- The exchange with the partner, the final sum, and its first sending. -/
def gExch (c : Dev nD) (d u : Bool) (n : Dev nD) (K : PG (F := F)) : PG (F := F) :=
  .op (.waitDma2 (exSem true d u) (agV c d 8 u) (exV d u) (agVw c d 8 u) (exVw d u)) fun _ =>
  .op (.waitDma2 (exSem false d u) (exV d u) (agV c d 8 u) (exVw d u) (agVw c d 8 u)) fun _ =>
  .op (.load oM (Rect.unit (s := S4096x512) (off12 d c (wd d 0) (wu u)) S128x512.size (inb12 c d 0 u)).toLoadRect (View.loadsAt_vmem h_S128x512)) fun a =>
  .op (.load (exM d) (Rect.unit (s := S256x512) ![ur u, 0] S128x512.size (inbEx u)).toLoadRect (View.loadsAt_vmem h_S128x512)) fun b =>
  gOut12 c d u 0 (k0_pay98 a b) <|
  .op (.load (agM d) (Rect.unit (s := S2048x512) (k0_off5 c (wd d (0 : Fin 9)) (wu u)) S128x512.size (inb5 c d 0 u)).toLoadRect (View.loadsAt_vmem h_S128x512)) fun _ =>
  .op (.store (agM d) (Rect.unit (s := S2048x512) (k0_off5 c (wd d (0 : Fin 9)) (wu u)) S128x512.size (inb5 c d 0 u)) (k0_pay107 a b) Finset.univ
    (View.stores_vmem h_S128x512 ((agW d).storeExact_slice rfl _ (pack5 c d 0 u)) (fun _ => rfl)) (.inl rfl)) fun _ =>
  gGather c d u 0 n K

/-- Wait for half a chunk of final sums. -/
def gArrive (c : Dev nD) (d u : Bool) (k : Fin 7) (K : PG (F := F)) : PG (F := F) :=
  .op (.waitDma2 (agSem true d u k) (agV c d k.castSucc.castSucc u) (agV c d k.castSucc.castSucc u) (agVw c d k.castSucc.castSucc u) (agVw c d k.castSucc.castSucc u)) fun _ => K

/-- Copy a chunk of final sums to the result. -/
def gCopy (c : Dev nD) (d : Bool) (k : Fin 9) (K : PG (F := F)) : PG (F := F) :=
  .op (.load (agM d) (Rect.unit (s := S2048x512) (k0_off3 c (wd d k)) S256x512.size (inb3 c d k)).toLoadRect (View.loadsAt_vmem h_S256x512)) fun a =>
  .op (.load oM (Rect.unit (s := S4096x512) (off25 d c (wd d k)) S256x512.size (inb25 c d k)).toLoadRect (View.loadsAt_vmem h_S256x512)) fun _ =>
  .op (.store oM (Rect.unit (s := S4096x512) (off25 d c (wd d k)) S256x512.size (inb25 c d k)) (k0_pay108 a) Finset.univ
    (View.stores_vmem_bits_univ h_S256x512 rfl) (.inl rfl)) fun _ => K

/-- Wait for a send of either phase to have left. -/
def gLeft (c : Dev nD) (d u : Bool) (s : Fin 7) (K : PG (F := F)) : PG (F := F) :=
  .op (.waitDma2 (rsSem false d u s) (stV d s u) (agV c d s.succ.castSucc u) (stVw d s u) (agVw c d s.succ.castSucc u)) fun _ => K
def gLeft2 (c : Dev nD) (d u : Bool) (k : Fin 7) (K : PG (F := F)) : PG (F := F) :=
  .op (.waitDma2 (agSem false d u k) (agV c d k.castSucc.castSucc u) (agV c d k.castSucc.castSucc u) (agVw c d k.castSucc.castSucc u) (agVw c d k.castSucc.castSucc u)) fun _ => K

/-- The number of a transfer in program order. -/
def ordN (d u : Bool) (σ : ℕ) : ℕ := 4 * σ + (jx d u).val

def four (f : Bool → Bool → PG (F := F) → PG (F := F)) (K : PG (F := F)) : PG (F := F) :=
  f false false (f false true (f true false (f true true K)))

/-- One step of the first phase but the last. -/
def gStep (c : Dev nD) (kv : Vec F S4x512 .f32) (wv : Vec F S512x512 .f32) (s : Fin 7) (K : PG (F := F)) : PG (F := F) :=
  four (fun d u => gSend c d u s (dv c (ordN d u s.val))) <|
  gComp c kv wv false s.succ.succ <| gComp c kv wv true s.succ.succ <|
  four (fun d u K => gAdd c d u s fun _ _ => K) K

/-- The last step of the first phase, and the exchange. -/
def gMid (c : Dev nD) (kv : Vec F S4x512 .f32) (wv : Vec F S512x512 .f32) (K : PG (F := F)) : PG (F := F) :=
  four (fun d u => gSend c d u 6 (dv c (ordN d u 6))) <|
  gComp c kv wv false 8 <| gComp c kv wv true 8 <|
  four (fun d u => gLast c d u (dv c (ordN d u 7))) <|
  four (fun d u => gExch c d u (dv c (ordN d u 8))) K

/-- One step of the second phase. -/
def gNext (c : Dev nD) (k : Fin 6) (K : PG (F := F)) : PG (F := F) :=
  four (fun d u K => gArrive c d u k.castSucc <| gGather c d u k.succ (dv c (ordN d u (k.val + 9))) K) <|
  gCopy c false k.succ.castSucc.castSucc <| gCopy c true k.succ.castSucc.castSucc K

def gEnd (c : Dev nD) (K : PG (F := F)) : PG (F := F) :=
  four (fun d u => gArrive c d u 6) <| gCopy c false 7 <| gCopy c true 7 K

def barS : Sem sig := (SemArray.scalar (sig.barrier 0 rfl) : Sems sig S_).sem

/-- The whole body after the device is known. -/
def prog (c : Dev nD) : PG (F := F) :=
  .op (.semSignal (⟨k0_dev1 c, k0_dev1_lt c⟩, .tc) barS (1#32).toInt) fun _ =>
  .op (.semSignal (⟨k0_dev2 c, k0_dev2_lt c⟩, .tc) barS (1#32).toInt) fun _ =>
  .op (.semSignal (⟨k0_dev3 c, k0_dev3_lt c⟩, .tc) barS (1#32).toInt) fun _ =>
  .op (.semWait barS (3#32).toInt) fun _ =>
  .op (.load kM (Rect.unit (s := S4x512) ![0, 0] S4x512.size inb_S4x512_S4x512_0_0).toLoadRect (View.loadsAt_vmem h_S4x512)) fun kv =>
  .op (.load wM (Rect.unit (s := S512x512) ![0, 0] S512x512.size inb_S512x512_S512x512_0_0).toLoadRect (View.loadsAt_vmem h_S512x512)) fun wv =>
  gComp c kv wv false 1 <| gComp c kv wv true 1 <|
  gStep c kv wv 0 <| gStep c kv wv 1 <| gStep c kv wv 2 <| gStep c kv wv 3 <| gStep c kv wv 4 <| gStep c kv wv 5 <|
  gMid c kv wv <|
  gNext c 0 <| gNext c 1 <| gNext c 2 <| gNext c 3 <| gNext c 4 <| gNext c 5 <| gEnd c <|
  four (fun d u => gLeft c d u 0) <| four (fun d u => gLeft c d u 1) <| four (fun d u => gLeft c d u 2) <| four (fun d u => gLeft c d u 3) <|
  four (fun d u => gLeft c d u 4) <| four (fun d u => gLeft c d u 5) <| four (fun d u => gLeft c d u 6) <|
  four (fun d u => gLeft2 c d u 0) <| four (fun d u => gLeft2 c d u 1) <| four (fun d u => gLeft2 c d u 2) <| four (fun d u => gLeft2 c d u 3) <|
  four (fun d u => gLeft2 c d u 4) <| four (fun d u => gLeft2 c d u 5) <| four (fun d u => gLeft2 c d u 6) <| .ret ⟨⟩

end Cert.KernelIdeal.Rings
-- ==== Proof.Res.lean ====
module

public import proofs.«01_k».proof.Proof.Prog
public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.Tactic

/-!
# Parts of a buffer

`pc` says that some elements of a buffer, named by the indices of its view, are held at given
contents; `jk` says they are held at any contents. The rules to cut, join, load, store and send.
-/

@[expose] public section

noncomputable section

namespace Cert.KernelIdeal.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

section Pc
variable {sp : Space} {s : Shape} {e : EltTy}

/-- The elements `S` of the buffer behind `M`, at share `q` and contents `V`. -/
def pc (c : Dev nD) (M : Memref sig .tc sp s e) (S : Finset s.Idx) (q : PosShare TreeShare) (V : s.Idx → Elt F e) : sProp 𝕄 :=
  iprop(∃ f : Buf (Elt F) (M.view.loc (c : Thread nD τ)), ⌜∀ i ∈ S, M.view.read (Elt F) f i = V i⌝ ∗ (M.view.loc (c : Thread nD τ) ↦[M.view.setOn S]{q} f))
/-- The elements `S` of the buffer behind `M`, at any contents. -/
def jk (c : Dev nD) (M : Memref sig .tc sp s e) (S : Finset s.Idx) : sProp 𝕄 :=
  iprop(∃ f : Buf (Elt F) (M.view.loc (c : Thread nD τ)), (M.view.loc (c : Thread nD τ) ↦[M.view.setOn S]{fullShare} f))

omit [FloatOps F] in
instance pc_storable (c : Dev nD) (M : Memref sig .tc sp s e) (S : Finset s.Idx) (q : PosShare TreeShare) (V : s.Idx → Elt F e) :
    BI.Storable (upEmb : UEmb _ 𝕄) (pc c M S q V) := by unfold pc; infer_instance
omit [FloatOps F] in
instance jk_storable (c : Dev nD) (M : Memref sig .tc sp s e) (S : Finset s.Idx) :
    BI.Storable (upEmb : UEmb _ 𝕄) (jk (F := F) c M S) := by unfold jk; infer_instance

variable (c : Dev nD) (M : Memref sig .tc sp s e)

omit [FloatOps F] in
theorem pc_congr {S : Finset s.Idx} {q : PosShare TreeShare} {V V' : s.Idx → Elt F e} (h : ∀ i ∈ S, V i = V' i) :
    (pc c M S q V : sProp 𝕄) ⊢ pc c M S q V' := by
  unfold pc; iintro ⟨%f, %hf, H⟩; iexists f; isplitr
  · ipureintro; exact fun i hi => (hf i hi).trans (h i hi)
  · iexact H

omit [FloatOps F] in
theorem pc_jk {S : Finset s.Idx} {V : s.Idx → Elt F e} : (pc c M S fullShare V : sProp 𝕄) ⊢ jk c M S := by
  unfold pc jk; iintro ⟨%f, %hf, H⟩; iexists f; iexact H

omit [FloatOps F] in
theorem jk_pc {S : Finset s.Idx} : (jk c M S : sProp 𝕄) ⊢ iprop(∃ V, pc c M S fullShare V) := by
  unfold pc jk; iintro ⟨%f, H⟩; iexists (M.view.read (Elt F) f); iexists f; isplitr
  · ipureintro; exact fun i hi => rfl
  · iexact H

omit [FloatOps F] in
theorem setOn_union (v : View sig .tc sp s e) (S T : Finset s.Idx) : v.setOn (S ∪ T) = v.setOn S ∪ v.setOn T := Finset.map_union _ _

omit [FloatOps F] in
theorem pc_split {S T : Finset s.Idx} (h : Disjoint S T) {q : PosShare TreeShare} {V : s.Idx → Elt F e} :
    (pc c M (S ∪ T) q V : sProp 𝕄) ⊢ iprop(pc c M S q V ∗ pc c M T q V) := by
  unfold pc; rw [setOn_union]
  iintro ⟨%f, %hf, H⟩
  ihave H := (pointsTo_union (M.view.disjoint_setOn h)).1 $$ H
  icases H with ⟨H1, H2⟩
  isplitl [H1]
  · iexists f; isplitr
    · ipureintro; exact fun i hi => hf i (Finset.mem_union_left _ hi)
    · iexact H1
  · iexists f; isplitr
    · ipureintro; exact fun i hi => hf i (Finset.mem_union_right _ hi)
    · iexact H2

omit [FloatOps F] in
theorem pc_join {S T : Finset s.Idx} (h : Disjoint S T) {q : PosShare TreeShare} {V : s.Idx → Elt F e} :
    iprop(pc c M S q V ∗ pc c M T q V) ⊢ (pc c M (S ∪ T) q V : sProp 𝕄) := by
  unfold pc; rw [setOn_union]
  iintro ⟨⟨%f, %hf, H1⟩, ⟨%g, %hg, H2⟩⟩
  ihave H := (pointsTo_join (f := f) (g := g) (M.view.disjoint_setOn h)) $$ [H1 H2]
  · isplitl [H1] <;> iassumption
  iexists _
  isplitr
  rotate_left
  · iexact H
  · ipureintro
    intro i hi
    rw [View.read_apply]
    by_cases hT : i ∈ T
    · rw [Finset.piecewise_eq_of_mem _ _ _ (M.view.mem_setOn.mpr hT), ← View.read_apply]; exact hg i hT
    · rw [Finset.piecewise_eq_of_notMem _ _ _ (fun hm => hT (M.view.mem_setOn.mp hm)), ← View.read_apply]
      exact hf i ((Finset.mem_union.mp hi).resolve_right hT)

omit [FloatOps F] in
theorem jk_split {S T : Finset s.Idx} (h : Disjoint S T) : (jk c M (S ∪ T) : sProp 𝕄) ⊢ iprop(jk c M S ∗ jk c M T) := by
  unfold jk; rw [setOn_union]
  iintro ⟨%f, H⟩
  ihave H := (pointsTo_union (M.view.disjoint_setOn h)).1 $$ H
  icases H with ⟨H1, H2⟩
  isplitl [H1]
  · iexists f; iexact H1
  · iexists f; iexact H2

omit [FloatOps F] in
theorem jk_join {S T : Finset s.Idx} (h : Disjoint S T) : iprop(jk c M S ∗ jk c M T) ⊢ (jk c M (S ∪ T) : sProp 𝕄) := by
  unfold jk; rw [setOn_union]
  iintro ⟨⟨%f, H1⟩, ⟨%g, H2⟩⟩
  iexists _
  iapply (pointsTo_join (M.view.disjoint_setOn h)) $$ [H1 H2]
  isplitl [H1] <;> iassumption

omit [FloatOps F] in
theorem pc_half {S : Finset s.Idx} {V : s.Idx → Elt F e} :
    (pc c M S fullShare V : sProp 𝕄) ⊢ iprop(pc c M S fullShare.left V ∗ pc c M S fullShare.right V) := by
  unfold pc
  iintro ⟨%f, %hf, H⟩
  ihave H := (pointsTo_share (PosShare.mem_left_op_right fullShare)).1 $$ H
  icases H with ⟨H1, H2⟩
  isplitl [H1]
  · iexists f; isplitr; · ipureintro; exact hf
    iexact H1
  · iexists f; isplitr; · ipureintro; exact hf
    iexact H2

omit [FloatOps F] in
theorem pc_rejoin {S : Finset s.Idx} {V V' : s.Idx → Elt F e} :
    iprop(pc c M S fullShare.left V ∗ pc c M S fullShare.right V') ⊢ (jk c M S : sProp 𝕄) := by
  unfold pc jk
  iintro ⟨⟨%f, %hf, H1⟩, ⟨%g, %hg, H2⟩⟩
  ihave H := (persistent_entails_right (pointsTo_agree (f := f) (g := g) (I := M.view.setOn S) (J := M.view.setOn S))) $$ [H1 H2]
  · isplitl [H1] <;> iassumption
  icases H with ⟨%h, H1, H2⟩
  iexists f
  iapply (pointsTo_share (PosShare.mem_left_op_right fullShare)).2
  isplitl [H1]; · iexact H1
  iapply (Entails.of_eq (pointsTo_congr (q := fullShare.right) (f := g) (g := f) (I := M.view.setOn S) fun i hi => ((h i (Finset.mem_inter.mpr ⟨hi, hi⟩)).1).symm))
  iexact H2

/-! ### Accesses -/

abbrev WP (c : Dev nD) (p : PG (F := F)) (Kt : PUnit.{1} → sProp 𝕄) : sProp 𝕄 := wp frame (wpE (defs₀ (F := F)) 𝒱₀ (c : Thread nD τ) none) Set.univ p Kt

end Pc

section Access
variable {s : Shape} {e : EltTy} (c : Dev nD) (M : Memref sig .tc .vmem s e)

theorem set_map (v : View sig .tc .vmem s e) (r : Rect s) : v.setOn r.toLoadRect.set = v.setOn r.set := rfl

theorem pc_load {Kt : PUnit.{1} → sProp 𝕄} (r : Rect s) {hl : M.view.LoadsAt r.toLoadRect} {k : (r.shape.Idx → Elt F e) → PG (F := F)} {S : Finset s.Idx} {q : PosShare TreeShare}
    {V : s.Idx → Elt F e} (hS : r.set ⊆ S) :
    iprop(pc c M S q V ∗ (pc c M S q V -∗ WP c (k fun j => V (r.emb j)) Kt)) ⊢ WP c (.op (.load M r.toLoadRect hl) k) Kt := by
  unfold pc
  iintro ⟨⟨%f, %hf, H⟩, HK⟩
  iapply (wp_load 𝒱₀ (c : Thread nD τ) none Set.univ (m := M) (S := M.view.setOn S) (f := f) (Finset.map_subset_map.mpr hS)) $$ H
  iintro H
  have hv : M.view.readAt (Elt F) r.toLoadRect f = fun j => V (r.emb j) := by
    funext j; rw [View.readAt_apply]; exact hf _ (hS (by rw [← Rect.map_emb_univ]; exact Finset.mem_map_of_mem _ (Finset.mem_univ j)))
  rw [hv]
  iapply HK
  iexists f; isplitr
  · ipureintro; exact hf
  · iexact H

theorem jk_load {Kt : PUnit.{1} → sProp 𝕄} (r : Rect s) {hl : M.view.LoadsAt r.toLoadRect} {k : (r.shape.Idx → Elt F e) → PG (F := F)} {S : Finset s.Idx} (hS : r.set ⊆ S) :
    iprop(jk c M S ∗ (∀ x, jk c M S -∗ WP c (k x) Kt)) ⊢ WP c (.op (.load M r.toLoadRect hl) k) Kt := by
  unfold jk
  iintro ⟨⟨%f, H⟩, HK⟩
  iapply (wp_load 𝒱₀ (c : Thread nD τ) none Set.univ (m := M) (S := M.view.setOn S) (f := f) (Finset.map_subset_map.mpr hS)) $$ H
  iintro H
  iapply HK
  iexists f; iexact H

theorem jk_store {Kt : PUnit.{1} → sProp 𝕄} (r : Rect s) {w : r.shape.Idx → Elt F e} {hx : (M.access r).Stores Finset.univ} {hm : (Finset.univ : Finset r.shape.Idx) = Finset.univ ∨ ∀ a, r.stride a = 1}
    {k : PUnit → PG (F := F)} {S : Finset s.Idx} {V : s.Idx → Elt F e} (hS : r.set = S) (hV : ∀ j, V (r.emb j) = w j) :
    iprop(jk c M S ∗ (pc c M S fullShare V -∗ WP c (k ⟨⟩) Kt)) ⊢ WP c (.op (.store M r w Finset.univ hx hm) k) Kt := by
  unfold jk pc
  subst hS
  iintro ⟨⟨%f, H⟩, HK⟩
  iapply (wp_store 𝒱₀ (c : Thread nD τ) none Set.univ (m := M) (r := r) (Mk := Finset.univ) (S := M.view.setOn r.set) (f := f)
    (by rw [View.setOn_univ]; exact subset_of_eq (View.set_slice _ _))) $$ H
  iintro H
  iapply HK
  iexists _; isplitr
  rotate_left
  · iexact H
  · ipureintro
    intro i hi
    rw [← Rect.map_emb_univ] at hi
    obtain ⟨j, _, rfl⟩ := Finset.mem_map.mp hi
    rw [hV j]
    exact View.read_slice_write_emb (v := M.view) r f w (Finset.mem_univ j)

/-- A part as what a cut of the buffer reads. -/
theorem pc_slice (r : Rect s) {hr : ∀ a, r.stride a = 1} {S : Finset s.Idx} {q : PosShare TreeShare} {V : s.Idx → Elt F e} (hS : r.set = S) :
    (pc c M S q V : sProp 𝕄) ⊢ owns (c : Thread nD τ) (M.slice r hr) q (fun j => V (r.emb j)) := by
  unfold pc owns; subst hS
  iintro ⟨%f, %hf, H⟩
  iexists f; isplitr
  · ipureintro; funext j; exact hf _ (by rw [← Rect.map_emb_univ]; exact Finset.mem_map_of_mem _ (Finset.mem_univ j))
  · iapply (Entails.of_eq (congrArg (fun I => (M.view.loc (c : Thread nD τ) ↦[I]{q} f : sProp 𝕄)) (View.set_slice M.view r).symm)); iexact H

theorem slice_pc (r : Rect s) {hr : ∀ a, r.stride a = 1} {S : Finset s.Idx} {q : PosShare TreeShare} {X : r.shape.Idx → Elt F e} {V : s.Idx → Elt F e}
    (hS : r.set = S) (hV : ∀ j, V (r.emb j) = X j) :
    owns (c : Thread nD τ) (M.slice r hr) q X ⊢ (pc c M S q V : sProp 𝕄) := by
  unfold pc owns; subst hS
  iintro ⟨%f, %hf, H⟩
  iexists f; isplitr
  · ipureintro
    intro i hi
    rw [← Rect.map_emb_univ] at hi
    obtain ⟨j, _, rfl⟩ := Finset.mem_map.mp hi
    rw [hV j, ← hf]; rfl
  · iapply (Entails.of_eq (congrArg (fun I => (M.view.loc (c : Thread nD τ) ↦[I]{q} f : sProp 𝕄)) (View.set_slice M.view r))); iexact H

theorem jk_slice (r : Rect s) {hr : ∀ a, r.stride a = 1} {S : Finset s.Idx} (hS : r.set = S) :
    (jk c M S : sProp 𝕄) ⊢ iprop(∃ X, owns (c : Thread nD τ) (M.slice r hr) fullShare X) := by
  refine (jk_pc c M).trans ?_
  iintro ⟨%V, H⟩; iexists _; iapply (pc_slice c M r (hr := hr) hS); iexact H

/-- The same for a cut that drops its unit axes. -/
theorem jk_squeeze (r : Rect s) {hr : ∀ a, r.stride a = 1} {s' : Shape} {hq : r.shape.Squeezes s'} {S : Finset s.Idx} (hS : r.set = S) :
    (jk c M S : sProp 𝕄) ⊢ iprop(∃ X, owns (c : Thread nD τ) ((M.slice r hr).squeeze s' hq) fullShare X) := by
  unfold jk; subst hS
  iintro ⟨%f, H⟩
  iexists _
  iapply (owns_intro (c : Thread nD τ) ((M.slice r hr).squeeze s' hq) fullShare f)
  iapply (Entails.of_eq (congrArg (fun I => (M.view.loc (c : Thread nD τ) ↦[I]{fullShare} f : sProp 𝕄))
    ((View.set_reshape (v := M.view.slice r) hq.numel_eq).trans (View.set_slice M.view r)).symm)); iexact H

theorem squeeze_pc (r : Rect s) {hr : ∀ a, r.stride a = 1} {s' : Shape} {hq : r.shape.Squeezes s'} {S : Finset s.Idx} {q : PosShare TreeShare}
    {X : s'.Idx → Elt F e} {V : s.Idx → Elt F e} (hS : r.set = S) (hV : ∀ j, V (r.emb (Shape.reshapeEquiv hq.numel_eq j)) = X j) :
    owns (c : Thread nD τ) ((M.slice r hr).squeeze s' hq) q X ⊢ (pc c M S q V : sProp 𝕄) := by
  unfold pc owns; subst hS
  iintro ⟨%f, %hf, H⟩
  iexists f; isplitr
  · ipureintro
    intro i hi
    rw [← Rect.map_emb_univ] at hi
    obtain ⟨j, _, rfl⟩ := Finset.mem_map.mp hi
    obtain ⟨j, rfl⟩ := (Shape.reshapeEquiv hq.numel_eq).surjective j
    rw [hV j, ← hf]; rfl
  · iapply (Entails.of_eq (congrArg (fun I => (M.view.loc (c : Thread nD τ) ↦[I]{q} f : sProp 𝕄))
      ((View.set_reshape (v := M.view.slice r) hq.numel_eq).trans (View.set_slice M.view r)))); iexact H

end Access

end Cert.KernelIdeal.Rings
-- ==== Proof.Cont.lean ====
module

public import proofs.«01_k».proof.Proof.Res
public import Idealize.ShloMosaic.Lib.ValueLayout

/-!
# What the buffers hold

The rows a step touches, as sets of indices, and what they hold: a device's own partial product
`LL`, the partial sums `PP` travelling round a ring, the final sums `FS` of both rings, and the
result `OUT`.
-/

@[expose] public section

set_option maxRecDepth 4000

noncomputable section

namespace Cert.KernelIdeal.Rings

open Cert.KernelIdeal Cert.KernelIdeal.Gen
open Idealize.ShloMosaic Idealize.ShloMosaic.ValueIdx Idealize.SL.Sem

variable {F : FTy → Type} [FloatOps F]

/-! ### Rows -/

/-- A chunk, half a chunk, of the gather buffer. -/
def cs (κ : ℕ) : Finset S2048x512.Idx := Finset.univ.filter fun i => (i 0).val / 256 = κ
def hs (κ : ℕ) (u : Bool) : Finset S2048x512.Idx := Finset.univ.filter fun i => (i 0).val / 128 = 2 * κ + u.toNat
/-- Half a slot of the stage, half the exchange buffer. -/
def ss (s : ℕ) (u : Bool) : Finset S7x256x512.Idx := Finset.univ.filter fun i => (i 0).val = s ∧ (i 1).val / 128 = u.toNat
def es (u : Bool) : Finset S256x512.Idx := Finset.univ.filter fun i => (i 0).val / 128 = u.toNat
/-- A chunk, half a chunk, of the result. -/
def ocs (d : Bool) (κ : ℕ) : Finset S4096x512.Idx := Finset.univ.filter fun i => (i 0).val / 256 = 8 * d.toNat + κ
def ohs (d : Bool) (κ : ℕ) (u : Bool) : Finset S4096x512.Idx := Finset.univ.filter fun i => (i 0).val / 128 = 16 * d.toNat + 2 * κ + u.toNat

theorem set2 {n m a b k : ℕ} {off : Fin 2 → ℕ} (ho : off = ![k, 0])
    (inb : ∀ x, off x + (⟨2, ![a, b]⟩ : Shape).size x ≤ (⟨2, ![n, m]⟩ : Shape).size x) (hm : m = b) (i : (⟨2, ![n, m]⟩ : Shape).Idx) :
    i ∈ (Rect.unit (s := ⟨2, ![n, m]⟩) off (⟨2, ![a, b]⟩ : Shape).size inb).set ↔ k ≤ (i 0).val ∧ (i 0).val < k + a := by
  subst ho hm
  rw [Rect.mem_set_unit]
  constructor
  · intro h; exact h 0
  · intro h x
    have h1 : (i 1).val < m := (i 1).isLt
    fin_cases x
    · exact h
    · exact ⟨Nat.zero_le _, by show (i 1).val < 0 + m; omega⟩

variable (c : Dev nD) (d : Bool) (u : Bool)

theorem set3_eq (k : Fin 9) : (Rect.unit (s := S2048x512) (k0_off3 c (wd d k)) S256x512.size (inb3 c d k)).set = cs (ck d c (k + 7)) := by
  ext i; rw [set2 (off3_eq c d k) (inb3 c d k) rfl]
  simp only [cs, Finset.mem_filter, Finset.mem_univ, true_and]; omega
theorem set4_eq (k : Fin 9) : (Rect.unit (s := S2048x512) (k0_off4 c (wd d k) (wu u)) S128x512.size (inb4 c d k u)).set = hs (ck d c (k + 7)) u := by
  ext i; rw [set2 (off4_eq c d k u) (inb4 c d k u) rfl]
  simp only [hs, Finset.mem_filter, Finset.mem_univ, true_and]; cases u <;> simp [ur] <;> omega
theorem set5_eq (k : Fin 9) : (Rect.unit (s := S2048x512) (k0_off5 c (wd d k) (wu u)) S128x512.size (inb5 c d k u)).set = hs (ck d c (k + 7)) u := by
  ext i; rw [set2 (off5_eq c d k u) (inb5 c d k u) rfl]
  simp only [hs, Finset.mem_filter, Finset.mem_univ, true_and]; cases u <;> simp [ur] <;> omega
theorem set12_eq (k : Fin 9) : (Rect.unit (s := S4096x512) (off12 d c (wd d k) (wu u)) S128x512.size (inb12 c d k u)).set = ohs d (ck d c (k + 7)) u := by
  ext i; rw [set2 (off12_eq c d k u) (inb12 c d k u) rfl]
  simp only [ohs, Finset.mem_filter, Finset.mem_univ, true_and]; cases d <;> cases u <;> simp [ur, dr] <;> omega
theorem set25_eq (k : Fin 9) : (Rect.unit (s := S4096x512) (off25 d c (wd d k)) S256x512.size (inb25 c d k)).set = ocs d (ck d c (k + 7)) := by
  ext i; rw [set2 (off25_eq c d k) (inb25 c d k) rfl]
  simp only [ocs, Finset.mem_filter, Finset.mem_univ, true_and]; cases d <;> simp [dr] <;> omega
theorem setSt_eq (s : Fin 7) : (Rect.unit (s := S7x256x512) ![s.val, ur u, 0] S1x128x512.size (inbSt s u)).set = ss s.val u := by
  ext i; rw [Rect.mem_set_unit]
  simp only [ss, Finset.mem_filter, Finset.mem_univ, true_and]
  have h2 : (i 2).val < 512 := (i 2).isLt
  constructor
  · intro h
    have h0 : s.val ≤ (i 0).val ∧ (i 0).val < s.val + 1 := h 0
    have h1 : ur u ≤ (i 1).val ∧ (i 1).val < ur u + 128 := h 1
    revert h1; cases u <;> simp [ur] <;> omega
  · rintro ⟨h0, h1⟩ a
    fin_cases a
    · show s.val ≤ (i 0).val ∧ (i 0).val < s.val + 1; omega
    · show ur u ≤ (i 1).val ∧ (i 1).val < ur u + 128
      revert h1; cases u <;> simp [ur] <;> omega
    · show 0 ≤ (i 2).val ∧ (i 2).val < 0 + 512; omega
theorem setEx_eq : (Rect.unit (s := S256x512) ![ur u, 0] S128x512.size (inbEx u)).set = es u := by
  ext i; rw [set2 rfl (inbEx u) rfl]
  simp only [es, Finset.mem_filter, Finset.mem_univ, true_and]; cases u <;> simp [ur] <;> omega

theorem cs_halves (κ : ℕ) : cs κ = hs κ false ∪ hs κ true := by
  ext i; simp only [cs, hs, Finset.mem_union, Finset.mem_filter, Finset.mem_univ, true_and, Bool.toNat_false, Bool.toNat_true]; omega
theorem hs_disj (κ : ℕ) : Disjoint (hs κ false) (hs κ true) := by
  rw [Finset.disjoint_left]; intro i; simp only [hs, Finset.mem_filter, Finset.mem_univ, true_and, Bool.toNat_false, Bool.toNat_true]; omega
theorem ocs_halves (κ : ℕ) : ocs d κ = ohs d κ false ∪ ohs d κ true := by
  ext i; simp only [ocs, ohs, Finset.mem_union, Finset.mem_filter, Finset.mem_univ, true_and, Bool.toNat_false, Bool.toNat_true]; omega
theorem ohs_disj (κ : ℕ) : Disjoint (ohs d κ false) (ohs d κ true) := by
  rw [Finset.disjoint_left]; intro i; simp only [ohs, Finset.mem_filter, Finset.mem_univ, true_and, Bool.toNat_false, Bool.toNat_true]; omega
theorem es_halves : (Finset.univ : Finset S256x512.Idx) = es false ∪ es true := by
  ext i; have h : (i 0).val < 256 := idx2_lt0 i
  simp only [es, Finset.mem_union, Finset.mem_filter, Finset.mem_univ, true_and, true_iff, Bool.toNat_false, Bool.toNat_true]; omega
theorem es_disj : Disjoint (es false) (es true) := by
  rw [Finset.disjoint_left]; intro i; simp only [es, Finset.mem_filter, Finset.mem_univ, true_and, Bool.toNat_false, Bool.toNat_true]; omega

/-! ### Contents -/

/-- The operands every device holds. -/
structure Inp (F : FTy → Type) where
  x : Dev nD → Vec F S4x1024x512 .f32
  k : Dev nD → Vec F S4x512 .f32
  w : Dev nD → Vec F S512x512 .f32

/-- Indices from numbers. -/
def at2 (n m : ℕ) [NeZero n] [NeZero m] (a b : ℕ) : (⟨2, ![n, m]⟩ : Shape).Idx := ix2 (Fin.ofNat n a) (Fin.ofNat m b)
def at3 (n m l : ℕ) [NeZero n] [NeZero m] [NeZero l] (a b e : ℕ) : (⟨3, ![n, m, l]⟩ : Shape).Idx := ix3 (Fin.ofNat n a) (Fin.ofNat m b) (Fin.ofNat l e)

theorem at2_eq {n m : ℕ} [NeZero n] [NeZero m] (i : (⟨2, ![n, m]⟩ : Shape).Idx) {a b : ℕ} (ha : a = (i 0).val) (hb : b = (i 1).val) : at2 n m a b = i := by
  subst ha hb; funext x; fin_cases x
  · exact Fin.ext (Nat.mod_eq_of_lt (i 0).isLt)
  · exact Fin.ext (Nat.mod_eq_of_lt (i 1).isLt)
theorem at3_eq {n m l : ℕ} [NeZero n] [NeZero m] [NeZero l] (i : (⟨3, ![n, m, l]⟩ : Shape).Idx) {a b e : ℕ} (ha : a = (i 0).val) (hb : b = (i 1).val) (he : e = (i 2).val) :
    at3 n m l a b e = i := by
  subst ha hb he; funext x; fin_cases x
  · exact Fin.ext (Nat.mod_eq_of_lt (i 0).isLt)
  · exact Fin.ext (Nat.mod_eq_of_lt (i 1).isLt)
  · exact Fin.ext (Nat.mod_eq_of_lt (i 2).isLt)

variable (I : Inp F)

/-- The partial product of a chunk, from the chunk's number. -/
def tileC (d : Bool) (c : Dev nD) (κ : ℕ) : FVec F S256x512 .bf16 :=
  k0_pay4 (k0_pay3 (k0_pay1 (I.k c)) (k0_pay2 (I.w c)) (BitVec.ofNat 32 (256 * (κ % 4)))
    (fun j : S1x256x512.Idx => I.x c (at3 4 1024 512 (κ / 4 + if d then 2 else 0) (256 * (κ % 4) + (j 1).val) (j 2).val))
    (fun j : S1x8x512.Idx => I.x c (at3 4 1024 512 (κ / 4 + if d then 2 else 0) (256 * (κ % 4) - 8 + (j 1).val) (j 2).val)))
/-- A device's partial product over the rows of a direction. -/
def LL (d : Bool) (c : Dev nD) : FVec F S2048x512 .bf16 := fun i => tileC I d c ((i 0).val / 256) (at2 256 512 ((i 0).val % 256) (i 1).val)
/-- The partial sums after some steps. -/
def PP (d : Bool) : ℕ → Dev nD → FVec F S2048x512 .bf16
  | 0, c => LL I d c
  | s + 1, c => addf (LL I d c) (PP d s (pv d c))
/-- The device of `c`'s ring a chunk's sum is complete on. -/
def ow (d : Bool) (c : Dev nD) (κ : ℕ) : Dev nD := devAt (ringOf c) (κ + if d then 1 else 7)
def FS (d : Bool) (c : Dev nD) : FVec F S2048x512 .f32 :=
  addf (extf .f32 (fun i => PP I d 7 (ow d c ((i 0).val / 256)) i : FVec F S2048x512 .bf16) bitsLt_bf16_f32)
    (extf .f32 (fun i => PP I d 7 (partner (ow d c ((i 0).val / 256))) i : FVec F S2048x512 .bf16) bitsLt_bf16_f32)
def FIN (d : Bool) (c : Dev nD) : FVec F S2048x512 .bf16 := truncf .bf16 (FS I d c) bitsLt_bf16_f32
def stgV (d : Bool) (c : Dev nD) : Vec F S7x256x512 .bf16 :=
  fun i => PP I d (i 0).val (pv d c) (at2 2048 512 (256 * ck d (pv d c) (i 0).val + (i 1).val) (i 2).val)
def exC (d : Bool) (c : Dev nD) : Vec F S256x512 .bf16 := fun i => PP I d 7 (partner c) (at2 2048 512 (256 * ck d c 7 + (i 0).val) (i 1).val)
def oPP (d : Bool) (c : Dev nD) : Vec F S4096x512 .f32 :=
  fun i => extf .f32 (PP I d 7 c) bitsLt_bf16_f32 (at2 2048 512 ((i 0).val - dr d) (i 1).val)
def OUT (c : Dev nD) : Vec F S4096x512 .f32 := fun i =>
  if (i 0).val % 2048 / 256 = ck (decide (2048 ≤ (i 0).val)) c 7 then FS I (decide (2048 ≤ (i 0).val)) c (at2 2048 512 ((i 0).val % 2048) (i 1).val)
  else extf .f32 (FIN I (decide (2048 ≤ (i 0).val)) c) bitsLt_bf16_f32 (at2 2048 512 ((i 0).val % 2048) (i 1).val)

theorem ow_nx (κ : Fin 8) : ow d (nx d c) κ.val = ow d c κ.val := by revert κ c d; decide +kernel
theorem ow_own : ow d c (ck d c 7) = c := by revert c d; decide +kernel
theorem FS_nx : FS I d (nx d c) = FS I d c := by
  unfold FS
  have h : ∀ i : S2048x512.Idx, ow d (nx d c) ((i 0).val / 256) = ow d c ((i 0).val / 256) := fun i =>
    ow_nx c d ⟨(i 0).val / 256, by have : (i 0).val < 2048 := (i 0).isLt; omega⟩
  simp only [h]
theorem FIN_nx : FIN I d (nx d c) = FIN I d c := by unfold FIN; rw [FS_nx]

/-! ### What a step's access reads and writes -/

theorem emb2 {n m a b k : ℕ} [NeZero n] [NeZero m] {off : Fin 2 → ℕ} (ho : off = ![k, 0])
    (inb : ∀ x, off x + (⟨2, ![a, b]⟩ : Shape).size x ≤ (⟨2, ![n, m]⟩ : Shape).size x) (j : (⟨2, ![a, b]⟩ : Shape).Idx) :
    (Rect.unit (s := ⟨2, ![n, m]⟩) off (⟨2, ![a, b]⟩ : Shape).size inb).emb j = at2 n m (k + (j 0).val) (j 1).val := by
  subst ho
  refine (at2_eq _ ?_ ?_).symm
  · show k + (j 0).val = k + 1 * (j 0).val; omega
  · show (j 1).val = 0 + 1 * (j 1).val; omega

theorem at2_val0 {n m : ℕ} [NeZero n] [NeZero m] {a b : ℕ} (h : a < n) : (at2 n m a b 0).val = a := Nat.mod_eq_of_lt h
theorem at2_val1 {n m : ℕ} [NeZero n] [NeZero m] {a b : ℕ} (h : b < m) : (at2 n m a b 1).val = b := Nat.mod_eq_of_lt h

theorem chunkW_eq (k : Fin 9) : chunkW c d k.val = BitVec.ofNat 32 (256 * (ck d c (k + 7) % 4)) := by revert c d k; decide +kernel

theorem tile_val (k : Fin 9) (j : S256x512.Idx) :
    LL I d c ((Rect.unit (s := S2048x512) (k0_off3 c (wd d k)) S256x512.size (inb3 c d k)).emb j) =
      tileOf c d k.val (fun j => I.k c ((Rect.unit (s := S4x512) ![0, 0] S4x512.size inb_S4x512_S4x512_0_0).emb j))
        (fun j => I.w c ((Rect.unit (s := S512x512) ![0, 0] S512x512.size inb_S512x512_S512x512_0_0).emb j))
        (fun j => I.x c ((Rect.unit (s := S4x1024x512) (k0_off1 c (wd d k) (wb d)) S1x256x512.size (inb1 c d k)).emb j))
        (fun j => I.x c ((Rect.unit (s := S4x1024x512) (k0_off2 c (wd d k) (wb d)) S1x8x512.size (inb2 c d k)).emb j)) j := by
  have hj : (j 0).val < 256 := (j 0).isLt
  have hj1 : (j 1).val < 512 := (j 1).isLt
  have hc := ck_lt d c (k + 7)
  have hh : 256 * ck d c (k + 7) + (j 0).val < 2048 := by omega
  have e3 := emb2 (n := 2048) (m := 512) (off3_eq c d k) (inb3 c d k) j
  have e1 : ∀ j : S1x256x512.Idx, (Rect.unit (s := S4x1024x512) (k0_off1 c (wd d k) (wb d)) S1x256x512.size (inb1 c d k)).emb j =
      at3 4 1024 512 (ck d c (k + 7) / 4 + if d then 2 else 0) (256 * (ck d c (k + 7) % 4) + (j 1).val) (j 2).val := by
    intro j
    refine (at3_eq _ ?_ ?_ ?_).symm <;> rw [Rect.emb_apply] <;> simp only [Rect.off_unit, Rect.stride_unit, off1_eq]
    · have : (j 0).val < 1 := (j 0).isLt
      show _ = (ck d c (k + 7) / 4 + if d then 2 else 0) + 1 * (j 0).val; omega
    · show _ = 256 * (ck d c (k + 7) % 4) + 1 * (j 1).val; omega
    · show _ = 0 + 1 * (j 2).val; omega
  have e2 : ∀ j : S1x8x512.Idx, (Rect.unit (s := S4x1024x512) (k0_off2 c (wd d k) (wb d)) S1x8x512.size (inb2 c d k)).emb j =
      at3 4 1024 512 (ck d c (k + 7) / 4 + if d then 2 else 0) (256 * (ck d c (k + 7) % 4) - 8 + (j 1).val) (j 2).val := by
    intro j
    refine (at3_eq _ ?_ ?_ ?_).symm <;> rw [Rect.emb_apply] <;> simp only [Rect.off_unit, Rect.stride_unit, off2_eq]
    · have : (j 0).val < 1 := (j 0).isLt
      show _ = (ck d c (k + 7) / 4 + if d then 2 else 0) + 1 * (j 0).val; omega
    · show _ = 256 * (ck d c (k + 7) % 4) - 8 + 1 * (j 1).val; omega
    · show _ = 0 + 1 * (j 2).val; omega
  have ek : ∀ j : S4x512.Idx, (Rect.unit (s := S4x512) ![0, 0] S4x512.size inb_S4x512_S4x512_0_0).emb j = j := fun j =>
    (emb2 (n := 4) (m := 512) rfl inb_S4x512_S4x512_0_0 j).trans (at2_eq j (Nat.zero_add _) rfl)
  have ew : ∀ j : S512x512.Idx, (Rect.unit (s := S512x512) ![0, 0] S512x512.size inb_S512x512_S512x512_0_0).emb j = j := fun j =>
    (emb2 (n := 512) (m := 512) rfl inb_S512x512_S512x512_0_0 j).trans (at2_eq j (Nat.zero_add _) rfl)
  simp only [ek, ew, e1, e2]
  rw [show (Rect.unit (s := S2048x512) (k0_off3 c (wd d k)) S256x512.size (inb3 c d k)).emb j = _ from e3]
  unfold LL tileOf
  rw [at2_val0 hh, at2_val1 hj1, show (256 * ck d c (k + 7) + (j 0).val) / 256 = ck d c (k + 7) by omega,
    show (256 * ck d c (k + 7) + (j 0).val) % 256 = (j 0).val by omega, chunkW_eq, at2_eq j rfl rfl]
  rfl

end Cert.KernelIdeal.Rings
-- ==== Proof.Cont2.lean ====
module

public import proofs.«01_k».proof.Proof.Cont

/-!
# What the steps' accesses read and write
-/

@[expose] public section

set_option maxRecDepth 4000

noncomputable section

namespace Cert.KernelIdeal.Rings

open Cert.KernelIdeal Cert.KernelIdeal.Gen
open Idealize.ShloMosaic Idealize.ShloMosaic.ValueIdx Idealize.SL.Sem

variable {F : FTy → Type} [FloatOps F] (I : Inp F) (c : Dev nD) (d : Bool) (u : Bool)

abbrev r3 (k : Fin 9) : Rect S2048x512 := Rect.unit (s := S2048x512) (k0_off3 c (wd d k)) S256x512.size (inb3 c d k)
abbrev r4 (k : Fin 9) : Rect S2048x512 := Rect.unit (s := S2048x512) (k0_off4 c (wd d k) (wu u)) S128x512.size (inb4 c d k u)
abbrev r5 (k : Fin 9) : Rect S2048x512 := Rect.unit (s := S2048x512) (k0_off5 c (wd d k) (wu u)) S128x512.size (inb5 c d k u)
abbrev r12 (k : Fin 9) : Rect S4096x512 := Rect.unit (s := S4096x512) (off12 d c (wd d k) (wu u)) S128x512.size (inb12 c d k u)
abbrev r25 (k : Fin 9) : Rect S4096x512 := Rect.unit (s := S4096x512) (off25 d c (wd d k)) S256x512.size (inb25 c d k)
abbrev rSt (s : Fin 7) : Rect S7x256x512 := Rect.unit (s := S7x256x512) ![s.val, ur u, 0] S1x128x512.size (inbSt s u)
abbrev rEx : Rect S256x512 := Rect.unit (s := S256x512) ![ur u, 0] S128x512.size (inbEx u)

theorem ur_lt : ur u ≤ 128 := by cases u <;> decide

theorem e3 (k : Fin 9) (j : S256x512.Idx) : (r3 c d k).emb j = at2 2048 512 (256 * ck d c (k + 7) + (j 0).val) (j 1).val :=
  emb2 (n := 2048) (m := 512) (off3_eq c d k) (inb3 c d k) j
theorem e4 (k : Fin 9) (j : S128x512.Idx) : (r4 c d u k).emb j = at2 2048 512 (256 * ck d c (k + 7) + ur u + (j 0).val) (j 1).val :=
  emb2 (n := 2048) (m := 512) (off4_eq c d k u) (inb4 c d k u) j
theorem e5 (k : Fin 9) (j : S128x512.Idx) : (r5 c d u k).emb j = at2 2048 512 (256 * ck d c (k + 7) + ur u + (j 0).val) (j 1).val :=
  emb2 (n := 2048) (m := 512) (off5_eq c d k u) (inb5 c d k u) j
theorem e12 (k : Fin 9) (j : S128x512.Idx) : (r12 c d u k).emb j = at2 4096 512 (dr d + 256 * ck d c (k + 7) + ur u + (j 0).val) (j 1).val :=
  emb2 (n := 4096) (m := 512) (off12_eq c d k u) (inb12 c d k u) j
theorem e25 (k : Fin 9) (j : S256x512.Idx) : (r25 c d k).emb j = at2 4096 512 (dr d + 256 * ck d c (k + 7) + (j 0).val) (j 1).val :=
  emb2 (n := 4096) (m := 512) (off25_eq c d k) (inb25 c d k) j
theorem eEx (j : S128x512.Idx) : (rEx u).emb j = at2 256 512 (ur u + (j 0).val) (j 1).val :=
  emb2 (n := 256) (m := 512) rfl (inbEx u) j
theorem eSt (s : Fin 7) (j : S1x128x512.Idx) : (rSt u s).emb j = at3 7 256 512 s.val (ur u + (j 1).val) (j 2).val := by
  refine (at3_eq _ ?_ ?_ ?_).symm
  · have : (j 0).val < 1 := (j 0).isLt
    show s.val = s.val + 1 * (j 0).val; omega
  · show _ = ur u + 1 * (j 1).val; omega
  · show (j 2).val = 0 + 1 * (j 2).val; omega

theorem at3_val0 {n m l : ℕ} [NeZero n] [NeZero m] [NeZero l] {a b e : ℕ} (h : a < n) : (at3 n m l a b e 0).val = a := Nat.mod_eq_of_lt h
theorem at3_val1 {n m l : ℕ} [NeZero n] [NeZero m] [NeZero l] {a b e : ℕ} (h : b < m) : (at3 n m l a b e 1).val = b := Nat.mod_eq_of_lt h
theorem at3_val2 {n m l : ℕ} [NeZero n] [NeZero m] [NeZero l] {a b e : ℕ} (h : e < l) : (at3 n m l a b e 2).val = e := Nat.mod_eq_of_lt h

theorem stgV_emb (s : Fin 7) (a b : ℕ) (ha : a < 128) (hb : b < 512) :
    stgV I d c (at3 7 256 512 s.val (ur u + a) b) = PP I d s.val (pv d c) (at2 2048 512 (256 * ck d (pv d c) s.val + ur u + a) b) := by
  have := ur_lt u
  unfold stgV; rw [at3_val0 s.isLt, at3_val1 (by omega), at3_val2 hb, Nat.add_assoc]

theorem k7 (k : Fin 9) (h : 1 ≤ k.val) : ck d c (k.val + 7) = ck d c (k.val - 1) := by
  rw [show k.val + 7 = (k.val - 1) + 8 by omega, ck_add8]

theorem ck_ne (k : Fin 9) (h : 1 ≤ k.val) (h' : k.val ≤ 7) : ck d c (k.val + 7) ≠ ck d c 7 := by
  intro he
  have := congrArg (stepOf d c) he
  rw [stepOf_ck, stepOf_ck] at this; omega

/-- A send of the first phase lands as the receiver's stage slot. -/
theorem send_val (s : Fin 7) (j : S128x512.Idx) :
    stgV I d (nx d c) ((rSt u s).emb (Shape.reshapeEquiv squeezes_S1x128x512_S128x512.numel_eq j)) = PP I d s.val c ((r4 c d u s.succ.castSucc).emb j) := by
  have h0 := idx2_lt0 j; have h1 := idx2_lt1 j
  have hr : Shape.reshapeEquiv squeezes_S1x128x512_S128x512.numel_eq j = ix3 (0 : Fin 1) (j 0) (j 1) := by
    conv_lhs => rw [eq_ix2 j]
    exact reshapeEquiv_ix2_1ab (a := 128) (b := 512) _ (j 0) (j 1)
  refine (congrArg (fun z : (rSt u s).shape.Idx => stgV I d (nx d c) ((rSt u s).emb z)) hr).trans ?_
  refine (congrArg (stgV I d (nx d c)) (eSt u s _)).trans ?_
  rw [e4, k7 c d _ (by simp)]
  refine (stgV_emb I (nx d c) d u s (j 0).val (j 1).val h0 h1).trans ?_
  rw [pv_nx]; simp

/-- A sum of the first phase. -/
theorem add_val (s : Fin 7) (j : S128x512.Idx) :
    PP I d (s.val + 1) c ((r5 c d u s.succ.succ).emb j) =
      k0_pay18 (F := F) (fun j : S128x512.Idx => LL I d c ((r5 c d u s.succ.succ).emb j)) (fun j : S1x128x512.Idx => stgV I d c ((rSt u s).emb j)) j := by
  have h0 := idx2_lt0 j; have h1 := idx2_lt1 j
  have hb : shapeCast S128x512 (fun j : S1x128x512.Idx => stgV I d c ((rSt u s).emb j)) (by decide) j = PP I d s.val (pv d c) ((r5 c d u s.succ.succ).emb j) := by
    conv_lhs => rw [eq_ix2 j]
    refine (shapeCast_1ab_ab_apply (a := 128) (b := 512) _ _ (j 0) (j 1)).trans ?_
    refine (congrArg (stgV I d c) (eSt u s _)).trans ?_
    rw [e5, k7 c d _ (by simp)]
    refine (stgV_emb I c d u s (j 0).val (j 1).val h0 h1).trans ?_
    rw [ck_pv]; simp
  have : k0_pay18 (F := F) (fun j : S128x512.Idx => LL I d c ((r5 c d u s.succ.succ).emb j)) (fun j : S1x128x512.Idx => stgV I d c ((rSt u s).emb j)) j =
      FloatOps.addf (LL I d c ((r5 c d u s.succ.succ).emb j)) (shapeCast S128x512 (fun j : S1x128x512.Idx => stgV I d c ((rSt u s).emb j)) (by decide) j) := by
    unfold k0_pay18; simp only [shapeCast_self]; rfl
  rw [this, hb]; rfl

theorem oPP_emb (k : Fin 9) (j : S128x512.Idx) : oPP I d c ((r12 c d u k).emb j) = extf .f32 (PP I d 7 c) bitsLt_bf16_f32 ((r5 c d u k).emb j) := by
  have h0 := idx2_lt0 j; have h1 := idx2_lt1 j
  have hc := ck_lt d c (k.val + 7); have hu := ur_lt u
  rw [e12, e5]; unfold oPP
  rw [at2_val0 (by cases d <;> simp [dr] <;> omega), at2_val1 h1]
  congr 2; omega

/-- The last sum of the first phase, stored to the result. -/
theorem last_val (j : S128x512.Idx) :
    oPP I d c ((r12 c d u 8).emb j) =
      k0_pay88 (F := F) (fun j : S128x512.Idx => LL I d c ((r5 c d u 8).emb j)) (fun j : S1x128x512.Idx => stgV I d c ((rSt u 6).emb j)) j := by
  rw [oPP_emb]
  have h := add_val I c d u 6 j
  refine (congrArg (fun a => FloatOps.extf (F := F) .f32 bitsLt_bf16_f32 a) h).trans ?_
  unfold k0_pay88 k0_pay18; simp only [shapeCast_self]; rfl

/-- The exchange lands as the partner's exchange buffer. -/
theorem exch_val (j : S128x512.Idx) : exC I d (partner c) ((rEx u).emb j) = PP I d 7 c ((r4 c d u 8).emb j) := by
  have h0 := idx2_lt0 j; have h1 := idx2_lt1 j
  have hu := ur_lt u
  rw [eEx, e4]; unfold exC
  rw [at2_val0 (by omega), at2_val1 h1, partner_partner, ck_partner, show (8 : Fin 9).val + 7 = 7 + 8 from rfl, ck_add8, Nat.add_assoc]

theorem FS_own (j : S128x512.Idx) : FS I d c ((r5 c d u 0).emb j) =
    FloatOps.addf (oPP I d c ((r12 c d u 0).emb j)) (FloatOps.extf .f32 bitsLt_bf16_f32 (exC I d c ((rEx u).emb j))) := by
  have h0 := idx2_lt0 j; have h1 := idx2_lt1 j
  have hu := ur_lt u; have hc := ck_lt d c 7
  have hex : exC I d c ((rEx u).emb j) = PP I d 7 (partner c) ((r5 c d u 0).emb j) := by
    rw [eEx, e5]; unfold exC
    rw [at2_val0 (by omega), at2_val1 h1]
    congr 2; show _ = 256 * ck d c 7 + ur u + (j 0).val; omega
  rw [hex, oPP_emb]
  have hrow : ((r5 c d u 0).emb j 0).val / 256 = ck d c 7 := by
    rw [e5]; rw [at2_val0 (by show 256 * ck d c 7 + _ + _ < _; omega)]; show (256 * ck d c 7 + _ + _) / 256 = _; omega
  unfold FS
  show FloatOps.addf (FloatOps.extf _ _ (PP I d 7 (ow d c (((r5 c d u 0).emb j 0).val / 256)) _)) (FloatOps.extf _ _ (PP I d 7 (partner (ow d c (((r5 c d u 0).emb j 0).val / 256))) _)) = _
  rw [hrow, ow_own]; rfl

theorem OUT_at {r b : ℕ} (hr : r < 2048) (hb : b < 512) : OUT I c (at2 4096 512 (dr d + r) b) =
    if r / 256 = ck d c 7 then FS I d c (at2 2048 512 r b) else extf .f32 (FIN I d c) bitsLt_bf16_f32 (at2 2048 512 r b) := by
  unfold OUT
  have h1 : dr d + r < 4096 := by cases d <;> simp [dr] <;> omega
  have h2 : (dr d + r) % 2048 = r := by cases d <;> simp [dr] <;> omega
  have h3 : decide (2048 ≤ dr d + r) = d := by cases d <;> simp [dr] <;> omega
  rw [at2_val0 h1, at2_val1 hb, h2, h3]

/-- The final sum of the own chunk, stored to the result and to the gather buffer. -/
theorem own_val (j : S128x512.Idx) : OUT I c ((r12 c d u 0).emb j) =
    k0_pay98 (F := F) (fun j : S128x512.Idx => oPP I d c ((r12 c d u 0).emb j)) (fun j : S128x512.Idx => exC I d c ((rEx u).emb j)) j := by
  have h0 := idx2_lt0 j; have h1 := idx2_lt1 j
  have hu := ur_lt u; have hc := ck_lt d c 7
  have hp : k0_pay98 (F := F) (fun j : S128x512.Idx => oPP I d c ((r12 c d u 0).emb j)) (fun j : S128x512.Idx => exC I d c ((rEx u).emb j)) j = FS I d c ((r5 c d u 0).emb j) := by
    rw [FS_own]; unfold k0_pay98; simp only [shapeCast_self]; rfl
  rw [hp, e12, e5]
  refine (congrArg (fun r => OUT I c (at2 4096 512 r (j 1).val)) (show _ = dr d + (256 * ck d c 7 + ur u + (j 0).val) by show dr d + 256 * ck d c 7 + _ + _ = _; omega)).trans ?_
  rw [OUT_at I c d (by omega) h1, if_pos (by omega)]; rfl
theorem fin_val (j : S128x512.Idx) : FIN I d c ((r5 c d u 0).emb j) =
    k0_pay107 (F := F) (fun j : S128x512.Idx => oPP I d c ((r12 c d u 0).emb j)) (fun j : S128x512.Idx => exC I d c ((rEx u).emb j)) j := by
  refine (congrArg (fun a => FloatOps.truncf (F := F) .bf16 bitsLt_bf16_f32 a) (FS_own I c d u j)).trans ?_
  unfold k0_pay107 k0_pay106; simp only [shapeCast_self]; rfl

/-- A chunk of another device, copied to the result. -/
theorem copy_val (k : Fin 9) (h : 1 ≤ k.val) (h' : k.val ≤ 7) (j : S256x512.Idx) : OUT I c ((r25 c d k).emb j) =
    k0_pay108 (F := F) (fun j : S256x512.Idx => FIN I d c ((r3 c d k).emb j)) j := by
  have h0 := idx2_lt0 j; have h1 := idx2_lt1 j
  have hc := ck_lt d c (k.val + 7)
  have hn := ck_ne c d k h h'
  have hp : k0_pay108 (F := F) (fun j : S256x512.Idx => FIN I d c ((r3 c d k).emb j)) j = extf .f32 (FIN I d c) bitsLt_bf16_f32 ((r3 c d k).emb j) := by
    rfl
  rw [hp, e25, e3, Nat.add_assoc, OUT_at I c d (by omega) h1, if_neg (by omega)]

end Cert.KernelIdeal.Rings
-- ==== Proof.Sched.lean ====
module

public import proofs.«01_k».proof.Proof.Cont2

/-!
# The cells of the protocol, what each is paid with, and what a device owes

Transfers of a direction and a half have fifteen slots: seven of the first phase, the exchange with
the partner, seven of the second phase. Every slot has a cell on the send side and a cell on the
receive side; every device has a barrier cell besides.
-/

@[expose] public section

set_option maxRecDepth 4000

noncomputable section

namespace Cert.KernelIdeal.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ### Cells -/

/-- A device's cells: none for the barrier, else the side, the direction, the half and the slot. -/
abbrev XI : Type := Bool × Bool × Bool × Fin 15
abbrev CI : Type := Option XI

def dsem (x : XI) : DmaSem sig :=
  if h : x.2.2.2.val < 7 then rsSem x.1 x.2.1 x.2.2.1 ⟨x.2.2.2.val, h⟩
  else if h' : x.2.2.2.val = 7 then exSem x.1 x.2.1 x.2.2.1
  else agSem x.1 x.2.1 x.2.2.1 ⟨x.2.2.2.val - 8, by have := x.2.2.2.isLt; omega⟩
def csem : CI → SemLoc sig
  | none => .reg barS
  | some x => .dma (dsem x)
abbrev cell (c : Dev nD) (k : CI) : GSem nD τ sig := ((c : Thread nD τ), csem k)
abbrev kcell (ck : Dev nD × CI) : GSem nD τ sig := cell ck.1 ck.2

theorem dsem_injective : ∀ x y : XI, dsem x = dsem y → x = y := by decide +kernel
theorem csem_injective : Function.Injective csem := by
  intro k k' h
  match k, k' with
  | none, none => rfl
  | none, some y => cases h
  | some x, none => cases h
  | some x, some y => exact congrArg some (dsem_injective x y (SemLoc.dma.inj h))
theorem cell_inj {c c' : Dev nD} {k k' : CI} (h : cell c k = cell c' k') : c = c' ∧ k = k' :=
  ⟨congrArg (fun g : GSem nD τ sig => g.1.1) h, csem_injective (congrArg Prod.snd h)⟩
theorem kcell_injective : Function.Injective kcell := by
  rintro ⟨c, k⟩ ⟨c', k'⟩ h
  obtain ⟨rfl, rfl⟩ := cell_inj h; rfl
/-- Which cell a semaphore is. -/
def dec : SemLoc sig → Option CI := Function.partialInv csem
theorem dec_csem (k : CI) : dec (csem k) = some k := Function.partialInv_left csem_injective k

theorem csem_rs (rv d u : Bool) (s : Fin 7) : (SemLoc.dma (rsSem rv d u s) : SemLoc sig) = csem (some (rv, d, u, ⟨s.val, by omega⟩)) := by
  refine congrArg SemLoc.dma ?_; unfold dsem; rw [dif_pos (show s.val < 7 from s.isLt)]
theorem csem_ex (rv d u : Bool) : (SemLoc.dma (exSem rv d u) : SemLoc sig) = csem (some (rv, d, u, 7)) := by
  refine congrArg SemLoc.dma ?_; unfold dsem; rw [dif_neg (by simp), dif_pos (by simp)]
theorem csem_ag (rv d u : Bool) (t : Fin 7) : (SemLoc.dma (agSem rv d u t) : SemLoc sig) = csem (some (rv, d, u, ⟨t.val + 8, by omega⟩)) := by
  refine congrArg SemLoc.dma ?_; unfold dsem; rw [dif_neg (by simp), dif_neg (by simp)]; rfl

/-- The device a slot's transfer goes to, and the one it comes from. -/
def tgt (d : Bool) (σ : ℕ) (c : Dev nD) : Dev nD := if σ = 7 then partner c else nx d c
def frm (d : Bool) (σ : ℕ) (c : Dev nD) : Dev nD := if σ = 7 then partner c else pv d c
theorem tgt_frm (d : Bool) (σ : ℕ) (c : Dev nD) : tgt d σ (frm d σ c) = c := by
  unfold tgt frm; split
  · exact partner_partner c
  · exact nx_pv d c
theorem frm_tgt (d : Bool) (σ : ℕ) (c : Dev nD) : frm d σ (tgt d σ c) = c := by
  unfold tgt frm; split
  · exact partner_partner c
  · exact pv_nx d c

theorem dv_eq (c : Dev nD) (d u : Bool) (σ : Fin 15) : dv c (ordN d u σ.val) = tgt d σ.val c := by revert c d u σ; decide +kernel
theorem dev1_eq (c : Dev nD) : (⟨k0_dev1 c, k0_dev1_lt c⟩ : Dev nD) = nx true c := by revert c; decide +kernel
theorem dev2_eq (c : Dev nD) : (⟨k0_dev2 c, k0_dev2_lt c⟩ : Dev nD) = nx false c := by revert c; decide +kernel
theorem dev3_eq (c : Dev nD) : (⟨k0_dev3 c, k0_dev3_lt c⟩ : Dev nD) = partner c := by revert c; decide +kernel

/-- The amount every transfer raises its cells by. -/
def NN : ℕ := (exV false false).view.dmaCredit
theorem NN_pos : 0 < NN := View.dmaCredit_pos _ (by decide)

/-! ### Payloads -/

section Pay
variable (I : Inp F)

/-- The half of a chunk at the devices before, or after, one. -/
def bagP (d u : Bool) (κ : ℕ) : ℕ → Dev nD → sProp 𝕄
  | 0, _ => iprop(emp)
  | n + 1, c => iprop(jk (pv d c) (agM d) (hs κ u) ∗ bagP d u κ n (pv d c))
def bagN (d u : Bool) (κ : ℕ) : ℕ → Dev nD → sProp 𝕄
  | 0, _ => iprop(emp)
  | n + 1, c => iprop(jk (nx d c) (agM d) (hs κ u) ∗ bagN d u κ n (nx d c))

def barPay (c : Dev nD) (δ : Fin 3) : sProp 𝕄 := match δ with
  | 0 => jk (nx false c) (stM false) Finset.univ
  | 1 => jk (nx true c) (stM true) Finset.univ
  | 2 => iprop(jk (partner c) (exM false) Finset.univ ∗ jk (partner c) (exM true) Finset.univ)
/-- What a send cell gives back, what a receive cell gives. -/
def sPay (c : Dev nD) (d u : Bool) (σ : ℕ) : sProp 𝕄 :=
  if σ < 7 then iprop(emp)
  else if σ = 7 then pc c (agM d) (hs (ck d c 7) u) fullShare (PP I d 7 c)
  else pc c (agM d) (hs (ck d c (σ - 8 + 7)) u) fullShare.right (FIN I d c)
def rPay (c : Dev nD) (d u : Bool) (σ : ℕ) : sProp 𝕄 :=
  if σ < 7 then iprop(pc c (stM d) (ss σ u) fullShare (stgV I d c) ∗ bagP d u (ck d c (σ + 1)) (σ + 1) c)
  else if σ = 7 then pc c (exM d) (es u) fullShare (exC I d c)
  else iprop(pc c (agM d) (hs (ck d c (σ - 8 + 8)) u) fullShare (FIN I d c) ∗ bagN d u (ck d c (σ - 8 + 8)) (6 - (σ - 8)) c)
def xPay (c : Dev nD) (x : XI) : sProp 𝕄 := if x.1 then rPay I c x.2.1 x.2.2.1 x.2.2.2.val else sPay I c x.2.1 x.2.2.1 x.2.2.2.val

instance bagP_st (d u : Bool) (κ n : ℕ) (c : Dev nD) : BI.Storable (upEmb : UEmb _ 𝕄) (bagP (F := F) d u κ n c) := by
  induction n generalizing c with
  | zero => unfold bagP; infer_instance
  | succ n ih => unfold bagP; have := ih (pv d c); infer_instance
instance bagN_st (d u : Bool) (κ n : ℕ) (c : Dev nD) : BI.Storable (upEmb : UEmb _ 𝕄) (bagN (F := F) d u κ n c) := by
  induction n generalizing c with
  | zero => unfold bagN; infer_instance
  | succ n ih => unfold bagN; have := ih (nx d c); infer_instance
instance barPay_st (c : Dev nD) (δ : Fin 3) : BI.Storable (upEmb : UEmb _ 𝕄) (barPay (F := F) c δ) := by
  unfold barPay; split <;> infer_instance
instance xPay_st (c : Dev nD) (x : XI) : BI.Storable (upEmb : UEmb _ 𝕄) (xPay I c x) := by
  unfold xPay rPay sPay; (repeat' split) <;> infer_instance

/-! ### The schedule -/

/-- One round: a barrier cell has three duties of one unit, the others one of a transfer's amount. -/
def Rd : Rounds.Schedule (GSem nD τ sig) (Fin 3) 𝕄 where
  duties g r := if r = 0 ∧ g.1.2 = .tc then (match dec g.2 with | none => ∅ | some none => Finset.univ | some (some _) => {0}) else ∅
  unitless _ := False
  amount g _ _ := match dec g.2 with | some (some _) => NN | _ => 1
  payload g _ δ := match dec g.2 with | some (some x) => xPay I g.1.1 x | some none => barPay g.1.1 δ | none => iprop(emp)
  amount_pos g _ _ _ := by
    split
    · exact NN_pos
    · exact Nat.one_pos

instance Rd_st (g : GSem nD τ sig) (r : ℕ) (δ : Fin 3) : BI.Storable (upEmb : UEmb _ 𝕄) ((Rd I).payload g r δ) := by
  show BI.Storable upEmb (match dec g.2 with | some (some x) => xPay I g.1.1 x | some none => barPay g.1.1 δ | none => iprop(emp))
  split <;> infer_instance

variable (c : Dev nD) (x : XI)

theorem duties_bar : (Rd I).duties (cell c none) 0 = Finset.univ := by
  dsimp only [Rd]; rw [if_pos ⟨rfl, rfl⟩, dec_csem]
theorem duties_x : (Rd I).duties (cell c (some x)) 0 = {0} := by
  dsimp only [Rd]; rw [if_pos ⟨rfl, rfl⟩, dec_csem]
theorem duties_later (g : GSem nD τ sig) : ∀ r, 1 ≤ r → (Rd I).duties g r = ∅ :=
  fun r hr => by dsimp only [Rd]; exact if_neg fun h => by omega
theorem amount_bar (δ : Fin 3) : (Rd I).amount (cell c none) 0 δ = 1 := by dsimp only [Rd]; rw [dec_csem]
theorem amount_x (δ : Fin 3) : (Rd I).amount (cell c (some x)) 0 δ = NN := by dsimp only [Rd]; rw [dec_csem]
theorem payload_bar (δ : Fin 3) : (Rd I).payload (cell c none) 0 δ = barPay c δ := by dsimp only [Rd]; rw [dec_csem]
theorem payload_x (δ : Fin 3) : (Rd I).payload (cell c (some x)) 0 δ = xPay I c x := by dsimp only [Rd]; rw [dec_csem]
theorem expect_bar : (Rd I).expect (cell c none) 0 = 3 := by
  unfold Schedule.expect Schedule.amountOf
  rw [duties_bar, Finset.sum_congr rfl fun δ _ => amount_bar I c δ, Finset.sum_const, Finset.card_univ, Fintype.card_fin, smul_eq_mul]
theorem expect_x : (Rd I).expect (cell c (some x)) 0 = NN := by
  unfold Schedule.expect Schedule.amountOf; rw [duties_x, Finset.sum_singleton, amount_x]
theorem rest_bar : bigSep ((Rd I).duties (cell c none) 0 \ ∅) (fun δ => (Rd I).payload (cell c none) 0 δ) = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]; rfl
theorem rest_x : bigSep ((Rd I).duties (cell c (some x)) 0 \ ∅) (fun δ => (Rd I).payload (cell c (some x)) 0 δ) = xPay I c x := by
  rw [Finset.sdiff_empty, duties_x, bigSep_singleton, payload_x]

end Pay

/-! ### Levels and dues -/

def LL1 (g : GSem nD τ sig) : Finset Unit := if g.1.2 = .tc then {()} else ∅
/-- Barrier cells at one, the receive cell of a slot two above the slot, all else at zero. -/
def lvl (g : GSem nD τ sig) (_ : Unit) : ℕ := match dec g.2 with
  | some none => 1
  | some (some x) => if x.1 then x.2.2.2.val + 2 else 0
  | none => 0

theorem LL1_tc (c : Dev nD) (sm : SemLoc sig) : LL1 ((c : Thread nD τ), sm) = {()} := if_pos rfl
theorem LL1_of_ne (g : GSem nD τ sig) (h : g.1.2 ≠ .tc) : LL1 g = ∅ := if_neg h
theorem lvl_bar (c : Dev nD) : lvl (cell c none) () = 1 := by unfold lvl; rw [dec_csem]
theorem lvl_x (c : Dev nD) (x : XI) : lvl (cell c (some x)) () = if x.1 then x.2.2.2.val + 2 else 0 := by unfold lvl; rw [dec_csem]

/-- The receive cell the transfer of a number raises. -/
def nIx (n : ℕ) : XI := (true, decide (n % 4 / 2 = 1), decide (n % 2 = 1), Fin.ofNat 15 (n / 4))
def tcell (c : Dev nD) (n : ℕ) : GSem nD τ sig := cell (tgt (nIx n).2.1 (nIx n).2.2.2.val c) (some (nIx n))
theorem nIx_ord (d u : Bool) (σ : Fin 15) : nIx (ordN d u σ.val) = (true, d, u, σ) := by revert d u σ; decide +kernel
theorem nIx_lt (n : ℕ) (h : n < 60) : (nIx n).2.2.2.val = n / 4 := Nat.mod_eq_of_lt (by omega)
theorem nIx_inj : ∀ n n' : Fin 60, nIx n.val = nIx n'.val → n = n' := by decide +kernel
theorem tcell_ord (c : Dev nD) (d u : Bool) (σ : Fin 15) : tcell c (ordN d u σ.val) = cell (tgt d σ.val c) (some (true, d, u, σ)) := by
  unfold tcell; rw [nIx_ord]
theorem tcell_inj {c c' : Dev nD} {n n' : ℕ} (h : n < 60) (h' : n' < 60) (he : tcell c n = tcell c' n') : n = n' :=
  Fin.mk.inj_iff.mp (nIx_inj ⟨n, h⟩ ⟨n', h'⟩ (Option.some.inj (cell_inj he).2))

/-- What a device owes with some transfers left to start, and before the transfer of a number. -/
def OWr (c : Dev nD) : ℕ → CellTallies nD τ sig Unit
  | 0 => 0
  | r + 1 => OWr c r + tallyAt (tcell c (59 - r)) () NN
def OW (c : Dev nD) (n : ℕ) : CellTallies nD τ sig Unit := OWr c (60 - n)
theorem OW_step (c : Dev nD) {n : ℕ} (h : n < 60) : OW c n = OW c (n + 1) + tallyAt (tcell c n) () NN := by
  unfold OW; rw [show 60 - n = (60 - (n + 1)) + 1 by omega]
  show OWr c _ + tallyAt (tcell c (59 - (60 - (n + 1)))) () NN = _
  rw [show 59 - (60 - (n + 1)) = n by omega]
theorem OW_end (c : Dev nD) : OW c 60 = 0 := rfl

theorem OWr_apply (c : Dev nD) (g : GSem nD τ sig) (r : ℕ) (h : r ≤ 60) :
    OWr c r g () = open Classical in if ∃ n, 60 - r ≤ n ∧ n < 60 ∧ g = tcell c n then NN else 0 := by
  classical
  induction r with
  | zero => rw [if_neg (by rintro ⟨n, h1, h2, _⟩; omega)]; rfl
  | succ r ih =>
    show (OWr c r + tallyAt (tcell c (59 - r)) () NN) g () = _
    rw [Pi.add_apply, Finsupp.add_apply, ih (by omega), tallyAt_apply]
    by_cases hg : g = tcell c (59 - r)
    · have hf : ¬∃ n, 60 - r ≤ n ∧ n < 60 ∧ g = tcell c n := by
        rintro ⟨n, h1, h2, h3⟩
        have := tcell_inj (n := n) (n' := 59 - r) h2 (by omega) (h3.symm.trans hg)
        omega
      rw [if_neg hf, if_pos ⟨hg, rfl⟩, Nat.zero_add, if_pos ⟨59 - r, by omega, by omega, hg⟩]
    · rw [if_neg (c := g = tcell c (59 - r) ∧ () = ()) (fun hh => hg hh.1), Nat.add_zero]
      refine if_congr ⟨?_, ?_⟩ rfl rfl
      · rintro ⟨n, h1, h2, h3⟩; exact ⟨n, by omega, h2, h3⟩
      · rintro ⟨n, h1, h2, h3⟩
        refine ⟨n, ?_, h2, h3⟩
        by_contra hn
        exact hg (by rw [h3, show n = 59 - r by omega])
theorem OW_pos {c : Dev nD} {n : ℕ} {g : GSem nD τ sig} {i : Unit} (h : 0 < OW c n g i) : ∃ n', n ≤ n' ∧ n' < 60 ∧ g = tcell c n' := by
  classical
  unfold OW at h
  rw [OWr_apply c g (60 - n) (by omega)] at h
  by_contra hn
  rw [if_neg] at h
  · exact Nat.lt_irrefl 0 h
  · rintro ⟨n', h1, h2, h3⟩; exact hn ⟨n', by omega, h2, h3⟩

/-- A wait is allowed on a cell below the slots of the transfers left. -/
theorem mayWait_OW (c : Dev nD) (sm : SemLoc sig) (n : ℕ) (h : n = 60 ∨ lvl ((c : Thread nD τ), sm) () < n / 4 + 2) :
    (levAts LL1 lvl : sProp 𝕄) ⊢ MayWait (c : Thread nD τ) sm () (OW c n) :=
  MayOwe.of_cut (L := LL1) (lev := lvl) (lvl ((c : Thread nD τ), sm) ())
    (fun p hp => by rw [Finset.mem_singleton.mp hp, LL1_tc]; exact Finset.mem_singleton_self _)
    (fun g i hg => by obtain ⟨n', _, _, rfl⟩ := OW_pos hg; exact Finset.mem_singleton_self _)
    (fun p hp => by rw [Finset.mem_singleton.mp hp])
    (fun g i hg => by
      obtain ⟨n', h1, h2, rfl⟩ := OW_pos hg
      unfold tcell; rw [lvl_x, if_pos (show (nIx n').1 = true from rfl), nIx_lt n' h2]
      omega)

/-- What a device owes at launch: the signals of the barrier besides. -/
def O2 (c : Dev nD) : CellTallies nD τ sig Unit := OW c 0 + tallyAt (cell (partner c) none) () 1
def O1 (c : Dev nD) : CellTallies nD τ sig Unit := O2 c + tallyAt (cell (nx false c) none) () 1
def O0 (c : Dev nD) : CellTallies nD τ sig Unit := O1 c + tallyAt (cell (nx true c) none) () 1

end Cert.KernelIdeal.Rings
-- ==== Proof.Hoare.lean ====
module

public import proofs.«01_k».proof.Proof.Sched

/-!
# One step of a device

`TT` says what a step of the body takes and leaves. The rules of sequence and frame, and the rules
of a transfer and of a wait at a cell of the protocol.
-/

@[expose] public section

set_option maxRecDepth 4000

noncomputable section

namespace Cert.KernelIdeal.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × CI → ℕ)

/-- What every device knows throughout: the cells' invariants, that each has begun, and the levels. -/
def Rec : sProp 𝕄 :=
  iprop((bigSep Finset.univ fun ck : Dev nD × CI => cellInv ER (Rd I) (K ck) (kcell ck))
    ∗ (bigSep Finset.univ fun ck : Dev nD × CI => reached ER (kcell ck) 0) ∗ levAts LL1 lvl)
instance Rec_persistent : BI.Persistent (Rec I K) := by unfold Rec; infer_instance

theorem inv_at (ck : Dev nD × CI) :
    (bigSep Finset.univ fun ck : Dev nD × CI => (cellInv ER (Rd I) (K ck) (kcell ck) : sProp 𝕄)) ⊢ cellInv ER (Rd I) (K ck) (kcell ck) :=
  bigSep_elim (Finset.mem_univ ck)
theorem reached_at (ck : Dev nD × CI) :
    (bigSep Finset.univ fun ck : Dev nD × CI => (reached ER (kcell ck) 0 : sProp 𝕄)) ⊢ reached ER (kcell ck) 0 :=
  bigSep_elim (Finset.mem_univ ck)
theorem rec_inv (c : Dev nD) (k : CI) : Rec I K ⊢ cellInv ER (Rd I) (K (c, k)) (cell c k) := by
  unfold Rec; iintro ⟨H, -⟩
  iapply (inv_at I K (c, k)); iexact H
theorem rec_reached (c : Dev nD) (k : CI) : Rec I K ⊢ reached ER (cell c k) 0 := by
  unfold Rec; iintro ⟨-, H, -⟩
  iapply (reached_at (F := F) (c, k)); iexact H
theorem rec_wait (c : Dev nD) (sm : SemLoc sig) (n : ℕ) (h : n = 60 ∨ lvl ((c : Thread nD τ), sm) () < n / 4 + 2) :
    Rec I K ⊢ MayWait (c : Thread nD τ) sm () (OW c n) := by
  unfold Rec; iintro ⟨-, -, H⟩; iapply (mayWait_OW c sm n h); iexact H

variable (c : Dev nD)

def TT (A B : sProp 𝕄) (f : PG (F := F) → PG (F := F)) : Prop :=
  ∀ (Q : PG (F := F)) (Kt : PUnit.{1} → sProp 𝕄), iprop(Rec I K ∗ A ∗ (B -∗ WP c Q Kt)) ⊢ WP c (f Q) Kt

variable {I K c}

theorem TT.comp {A B C : sProp 𝕄} {f g : PG (F := F) → PG (F := F)} (h1 : TT I K c A B f) (h2 : TT I K c B C g) :
    TT I K c A C (fun Q => f (g Q)) := by
  intro Q Kt
  refine (show _ ⊢ _ from ?_ : _ ⊢ _).trans (h1 (g Q) Kt)
  iintro ⟨#R, A, H⟩
  isplitr; · iexact R
  isplitl [A]; · iexact A
  iintro B
  iapply (h2 Q Kt)
  isplitr; · iexact R
  isplitl [B]; · iexact B
  iexact H

theorem TT.frame {A B : sProp 𝕄} {f : PG (F := F) → PG (F := F)} (h : TT I K c A B f) (X : sProp 𝕄) : TT I K c iprop(A ∗ X) iprop(B ∗ X) f := by
  intro Q Kt
  refine (show _ ⊢ _ from ?_ : _ ⊢ _).trans (h Q Kt)
  iintro ⟨#R, ⟨A, X⟩, H⟩
  isplitr; · iexact R
  isplitl [A]; · iexact A
  iintro B
  iapply H
  isplitl [B] <;> iassumption

theorem TT.conseq {A A' B B' : sProp 𝕄} {f : PG (F := F) → PG (F := F)} (h : TT I K c A B f) (hA : A' ⊢ A) (hB : B ⊢ B') : TT I K c A' B' f := by
  intro Q Kt
  refine (show _ ⊢ _ from ?_ : _ ⊢ _).trans (h Q Kt)
  iintro ⟨#R, A, H⟩
  isplitr; · iexact R
  isplitl [A]; · iapply hA; iexact A
  iintro B
  iapply H; iapply hB; iexact B

variable (c)
/-- What a device owes before the transfer of a number. -/
def Ow (n : ℕ) : sProp 𝕄 := iprop(∃ W, owes (c : Thread nD τ) (OW c n) W)
/-- A resource for each direction and half. -/
def X4 (A : Bool → Bool → sProp 𝕄) : sProp 𝕄 := iprop(A false false ∗ A false true ∗ A true false ∗ A true true)
variable {c}

theorem four_step {A B : Bool → Bool → sProp 𝕄} {f : Bool → Bool → PG (F := F) → PG (F := F)} {n : ℕ}
    (h : ∀ d u, TT I K c iprop(Ow c (n + (jx d u).val) ∗ A d u) iprop(Ow c (n + (jx d u).val + 1) ∗ B d u) (f d u)) :
    TT I K c iprop(Ow c n ∗ X4 A) iprop(Ow c (n + 4) ∗ X4 B) (four f) := by
  have h1 := ((h false false).frame iprop(A false true ∗ A true false ∗ A true true))
  have h2 := ((h false true).frame iprop(B false false ∗ A true false ∗ A true true))
  have h3 := ((h true false).frame iprop(B false false ∗ B false true ∗ A true true))
  have h4 := ((h true true).frame iprop(B false false ∗ B false true ∗ B true false))
  refine TT.conseq (h1.comp (TT.comp (TT.conseq h2 ?_ (BI.Entails.refl _)) (TT.comp (TT.conseq h3 ?_ (BI.Entails.refl _)) (TT.conseq h4 ?_ ?_)))) ?_ (BI.Entails.refl _)
  · show iprop((Ow c (n + 1) ∗ _) ∗ _) ⊢ iprop((Ow c (n + 1) ∗ _) ∗ _)
    iintro ⟨⟨O, a⟩, b, c, d⟩
    isplitl [O b]
    · isplitl [O] <;> iassumption
    isplitl [a]; · iexact a
    isplitl [c] <;> iassumption
  · show iprop((Ow c (n + 2) ∗ _) ∗ _) ⊢ iprop((Ow c (n + 2) ∗ _) ∗ _)
    iintro ⟨⟨O, b⟩, a, c, d⟩
    isplitl [O c]
    · isplitl [O] <;> iassumption
    isplitl [a]; · iexact a
    isplitl [b] <;> iassumption
  · show iprop((Ow c (n + 3) ∗ _) ∗ _) ⊢ iprop((Ow c (n + 3) ∗ _) ∗ _)
    iintro ⟨⟨O, c⟩, a, b, d⟩
    isplitl [O d]
    · isplitl [O] <;> iassumption
    isplitl [a]; · iexact a
    isplitl [b] <;> iassumption
  · show iprop((Ow c (n + 4) ∗ _) ∗ _) ⊢ _
    unfold X4
    iintro ⟨⟨O, d⟩, a, b, c⟩
    isplitl [O]; · iexact O
    isplitl [a]; · iexact a
    isplitl [b]; · iexact b
    isplitl [c] <;> iassumption
  · show _ ⊢ iprop((Ow c n ∗ _) ∗ _)
    unfold X4
    iintro ⟨O, a, b, c, d⟩
    isplitl [O a]
    · isplitl [O] <;> iassumption
    isplitl [b]; · iexact b
    isplitl [c] <;> iassumption

theorem four_same {A B : Bool → Bool → sProp 𝕄} {f : Bool → Bool → PG (F := F) → PG (F := F)} {R : sProp 𝕄}
    (h : ∀ d u, TT I K c iprop(R ∗ A d u) iprop(R ∗ B d u) (f d u)) : TT I K c iprop(R ∗ X4 A) iprop(R ∗ X4 B) (four f) := by
  have h1 := ((h false false).frame iprop(A false true ∗ A true false ∗ A true true))
  have h2 := ((h false true).frame iprop(B false false ∗ A true false ∗ A true true))
  have h3 := ((h true false).frame iprop(B false false ∗ B false true ∗ A true true))
  have h4 := ((h true true).frame iprop(B false false ∗ B false true ∗ B true false))
  refine TT.conseq (h1.comp (TT.comp (TT.conseq h2 ?_ (BI.Entails.refl _)) (TT.comp (TT.conseq h3 ?_ (BI.Entails.refl _)) (TT.conseq h4 ?_ ?_)))) ?_ (BI.Entails.refl _)
  · iintro ⟨⟨O, a⟩, b, c, d⟩
    isplitl [O b]
    · isplitl [O] <;> iassumption
    isplitl [a]; · iexact a
    isplitl [c] <;> iassumption
  · iintro ⟨⟨O, b⟩, a, c, d⟩
    isplitl [O c]
    · isplitl [O] <;> iassumption
    isplitl [a]; · iexact a
    isplitl [b] <;> iassumption
  · iintro ⟨⟨O, c⟩, a, b, d⟩
    isplitl [O d]
    · isplitl [O] <;> iassumption
    isplitl [a]; · iexact a
    isplitl [b] <;> iassumption
  · unfold X4
    iintro ⟨⟨O, d⟩, a, b, c⟩
    isplitl [O]; · iexact O
    isplitl [a]; · iexact a
    isplitl [b]; · iexact b
    isplitl [c] <;> iassumption
  · unfold X4
    iintro ⟨O, a, b, c, d⟩
    isplitl [O a]
    · isplitl [O] <;> iassumption
    isplitl [b]; · iexact b
    isplitl [c] <;> iassumption

/-! ### A wait and a transfer at cells of the protocol -/

variable (c)
/-- What a wait at a cell needs. -/
def WC (x : XI) : sProp 𝕄 := iprop(cred (tallyAt (cell c (some x)) () NN) ∗ atPos ER (cell c (some x)) 0 ∅ 0)
/-- What is paid with a transfer. -/
def ST (d u : Bool) (σ : Fin 15) : sProp 𝕄 :=
  iprop(dutyTok ER (cell c (some (false, d, u, σ))) 0 0 ∗ dutyTok ER (cell (tgt d σ.val c) (some (true, d, u, σ))) 0 0)
def zero (x : XI) : sProp 𝕄 := semVal (cell c (some x)) 0
variable {c}

theorem wait_x {sp sp' : Space} {s : Shape} {e : EltTy} {sem : DmaSem sig} {src : Memref sig .tc sp s e} {dst : Memref sig .tc sp' s e}
    {hsrc : src.view.WordExact} {hdst : dst.view.WordExact} (x : XI) (hx : (SemLoc.dma sem : SemLoc sig) = csem (some x)) (hN : dst.view.dmaCredit = NN)
    (n : ℕ) (hl : n = 60 ∨ (if x.1 then x.2.2.2.val + 2 else 0) < n / 4 + 2) :
    TT I K c iprop(Ow c n ∗ WC c x) iprop(Ow c n ∗ xPay I c x ∗ zero c x) (fun Q => .op (.waitDma2 sem src dst hsrc hdst) fun _ => Q) := by
  intro Q Kt
  have hI := rec_inv I K c (some x)
  have hL : Rec I K ⊢ MayWait (c : Thread nD τ) (csem (some x)) () (OW c n) :=
    rec_wait I K c (csem (some x)) n (by rw [show lvl ((c : Thread nD τ), csem (some x)) () = _ from lvl_x c x]; exact hl)
  have hw : ∀ Kx : PUnit.{1} → sProp 𝕄, wpE (defs₀ (F := F)) 𝒱₀ (c : Thread nD τ) none Set.univ (.waitDma2 sem src dst hsrc hdst) Kx
      = waitSpec (c : Thread nD τ) Set.univ (csem (some x)) NN Kx := by
    rw [← hx, ← hN]
    exact wpE_waitDma2_eq 𝒱₀ (c : Thread nD τ) none Set.univ
  unfold WC Ow zero
  iintro ⟨#R, ⟨⟨%W, HO⟩, Hc, Hat⟩, Hk⟩
  ihave #HI := hI $$ R
  ihave HL := hL $$ R
  iapply (Rounds.wp_wait_rest_token 𝒱₀ ER (Rd I) (c : Thread nD τ) none (κ := K (c, some x)) (sm := csem (some x)) (k' := NN)
      hw (Set.mem_univ _) () (O := OW c n) (W := W) (R := 0) (m := 0) (T := ∅)
      ((Nat.zero_add NN).trans (expect_x I c x).symm)) $$ [Hc HO Hat]
  · isplitr; · iexact HI
    isplitl [Hc]; · iexact Hc
    isplitl [HO]; · iexact HO
    isplitr
    · iexact HL
    iexact Hat
  iintro ⟨HO, Hat, -, Hp⟩
  ihave Hp := (Entails.of_eq (rest_x I c x)) $$ Hp
  imod (Rounds.cell_close ER (Rd I) (Set.mem_univ (K (c, some x))) (fun h => h) (R := 0 + 1) (duties_later I (cell c (some x)))) $$ [Hat] with Hz
  · isplitr; · iexact HI
    iexact Hat
  iapply Hk
  isplitl [HO]; · iexists _; iexact HO
  isplitl [Hp]; · iexact Hp
  iexact Hz

section Send
variable {s : Shape} {e : EltTy} {sa sb : DmaSem sig} {src dst : Memref sig .tc .vmem s e}

theorem landed_owns (dst : Memref sig .tc .vmem s e) (n : Dev nD) (fd : Buf (Elt F) (dst.view.loc (n : Thread nD τ))) (X : s.Idx → Elt F e) :
    (dst.view.loc (n : Thread nD τ) ↦[dst.view.set]{fullShare} (dst.view.write (Elt F) fd X Finset.univ) : sProp 𝕄) ⊢ owns (n : Thread nD τ) dst fullShare X := by
  unfold owns
  iintro H; iexists _; isplitr
  rotate_left
  · iexact H
  · ipureintro; exact View.read_write_univ _ _

/-- A transfer that gives its source back on the send side. -/
theorem send_x {d u : Bool} {σ : Fin 15} (n : Dev nD) {hsc : (dst : Memref sig (Dev.tc n : Thread nD τ).2.kind .vmem s e).view.ref.isScScratch = false}
    {hsrc : src.view.WordExact} {hdst : dst.view.WordExact}
    {hsem : DmaTarget.Typed .vmem (.dma sb) (.remote (Dev.tc n : Thread nD τ) dst (.dma sa) hsc)}
    (hn : n = tgt d σ.val c) (hsa : (SemLoc.dma sa : SemLoc sig) = csem (some (false, d, u, σ))) (hsb : (SemLoc.dma sb : SemLoc sig) = csem (some (true, d, u, σ)))
    (hN : dst.view.amount (.dma sb) = NN) (q : PosShare TreeShare) (X : s.Idx → Elt F e) (R : sProp 𝕄)
    (hp1 : owns (c : Thread nD τ) src q X ⊢ xPay I c (false, d, u, σ))
    (hp2 : iprop(owns (tgt d σ.val c : Thread nD τ) dst fullShare X ∗ R) ⊢ xPay I (tgt d σ.val c) (true, d, u, σ)) :
    TT I K c iprop(Ow c (ordN d u σ.val) ∗ owns (c : Thread nD τ) src q X ∗ (∃ Y, owns (tgt d σ.val c : Thread nD τ) dst fullShare Y) ∗ R ∗ ST c d u σ)
      iprop(Ow c (ordN d u σ.val + 1) ∗ cred (tallyAt (cell c (some (false, d, u, σ))) () NN))
      (fun Q => .op (.enqueueDma src (.remote (Dev.tc n : Thread nD τ) dst (.dma sa) hsc) (.dma sb) hsrc hdst hsem) fun _ => Q) := by
  intro Q Kt
  subst hn
  have hlt : ordN d u σ.val < 60 := by have := σ.isLt; have := (jx d u).isLt; unfold ordN; omega
  have e1 : cell c (some (false, d, u, σ)) = ((c : Thread nD τ), SemLoc.dma sa) := by show (_, _) = (_, _); rw [hsa]
  have e2 : cell (tgt d σ.val c) (some (true, d, u, σ)) = ((tgt d σ.val c : Thread nD τ), SemLoc.dma sb) := by show (_, _) = (_, _); rw [hsb]
  have hI1 := rec_inv I K c (some (false, d, u, σ))
  have hI2 := rec_inv I K (tgt d σ.val c) (some (true, d, u, σ))
  have hR1 := rec_reached I K c (some (false, d, u, σ))
  have hR2 := rec_reached I K (tgt d σ.val c) (some (true, d, u, σ))
  have hd1 := duties_x I c (false, d, u, σ)
  have hd2 := duties_x I (tgt d σ.val c) (true, d, u, σ)
  have ha1 := amount_x I c (false, d, u, σ) 0
  have ha2 := amount_x I (tgt d σ.val c) (true, d, u, σ) 0
  have hy1 := payload_x I c (false, d, u, σ) 0
  have hy2 := payload_x I (tgt d σ.val c) (true, d, u, σ) 0
  have hO := OW_step c hlt
  rw [tcell_ord] at hO
  unfold ST Ow
  rw [e1] at hI1 hR1 hd1 ha1 hy1 ⊢
  rw [e2] at hI2 hR2 hd2 ha2 hy2 hO ⊢
  unfold owns at hp1 ⊢
  iintro ⟨#R, ⟨⟨%W, HO⟩, ⟨%f, %hf, Hs⟩, ⟨%Y, %fd, %hfd, Hd⟩, HR, Ht1, Ht2⟩, Hk⟩
  ihave #I1 := hI1 $$ R
  ihave #I2 := hI2 $$ R
  ihave #R1 := hR1 $$ R
  ihave #R2 := hR2 $$ R
  iapply (Rounds.wp_send_pointsTo_with 𝒱₀ ER (Rd I) (c : Thread nD τ) none (κ₁ := K (c, some (false, d, u, σ))) (κ₂ := K (tgt d σ.val c, some (true, d, u, σ)))
    (r₁ := 0) (r₂ := 0) (d₁ := 0) (d₂ := 0) (fs := f) (fd := fd) (F := R) (q := q)
    (by rw [hd1]; exact Finset.mem_singleton_self _) (by rw [hd2]; exact Finset.mem_singleton_self _)
    () () NN hN ha1 ha2 (OW c (ordN d u σ.val + 1)) hO (W := W)
    (by rw [hy1]; refine (show _ ⊢ _ from ?_ : _ ⊢ _).trans hp1; iintro H; iexists f; isplitr; · ipureintro; exact hf
        iexact H)
    (by rw [hy2, hf]; exact (sep_mono_left (landed_owns dst (tgt d σ.val c) fd X)).trans hp2)) $$ [Hs Hd HR HO Ht1 Ht2]
  · isplitr; · iexact I1
    isplitr; · iexact I2
    isplitl [Hs]; · iexact Hs
    isplitl [Hd HR]
    · isplitl [Hd]; · iexact Hd
      iexact HR
    isplitl [HO]; · iexact HO
    isplitl [Ht1]; · iexact Ht1
    isplitr; · iexact R1
    isplitl [Ht2]; · iexact Ht2
    iexact R2
  iintro ⟨Hc, HO⟩
  iapply Hk
  isplitl [HO]; · iexists _; iexact HO
  iexact Hc

/-- A transfer whose source goes with it. -/
theorem send_land {d u : Bool} {σ : Fin 15} (n : Dev nD) {hsc : (dst : Memref sig (Dev.tc n : Thread nD τ).2.kind .vmem s e).view.ref.isScScratch = false}
    {hsrc : src.view.WordExact} {hdst : dst.view.WordExact}
    {hsem : DmaTarget.Typed .vmem (.dma sb) (.remote (Dev.tc n : Thread nD τ) dst (.dma sa) hsc)}
    (hn : n = tgt d σ.val c) (hsa : (SemLoc.dma sa : SemLoc sig) = csem (some (false, d, u, σ))) (hsb : (SemLoc.dma sb : SemLoc sig) = csem (some (true, d, u, σ)))
    (hN : dst.view.amount (.dma sb) = NN) (q : PosShare TreeShare) (X : s.Idx → Elt F e) (R : sProp 𝕄)
    (hp1 : (emp : sProp 𝕄) ⊢ xPay I c (false, d, u, σ))
    (hp2 : iprop((owns (tgt d σ.val c : Thread nD τ) dst fullShare X ∗ R) ∗ owns (c : Thread nD τ) src q X) ⊢ xPay I (tgt d σ.val c) (true, d, u, σ)) :
    TT I K c iprop(Ow c (ordN d u σ.val) ∗ owns (c : Thread nD τ) src q X ∗ (∃ Y, owns (tgt d σ.val c : Thread nD τ) dst fullShare Y) ∗ R ∗ ST c d u σ)
      iprop(Ow c (ordN d u σ.val + 1) ∗ cred (tallyAt (cell c (some (false, d, u, σ))) () NN))
      (fun Q => .op (.enqueueDma src (.remote (Dev.tc n : Thread nD τ) dst (.dma sa) hsc) (.dma sb) hsrc hdst hsem) fun _ => Q) := by
  intro Q Kt
  subst hn
  have hlt : ordN d u σ.val < 60 := by have := σ.isLt; have := (jx d u).isLt; unfold ordN; omega
  have e1 : cell c (some (false, d, u, σ)) = ((c : Thread nD τ), SemLoc.dma sa) := by show (_, _) = (_, _); rw [hsa]
  have e2 : cell (tgt d σ.val c) (some (true, d, u, σ)) = ((tgt d σ.val c : Thread nD τ), SemLoc.dma sb) := by show (_, _) = (_, _); rw [hsb]
  have hI1 := rec_inv I K c (some (false, d, u, σ))
  have hI2 := rec_inv I K (tgt d σ.val c) (some (true, d, u, σ))
  have hR1 := rec_reached I K c (some (false, d, u, σ))
  have hR2 := rec_reached I K (tgt d σ.val c) (some (true, d, u, σ))
  have hd1 := duties_x I c (false, d, u, σ)
  have hd2 := duties_x I (tgt d σ.val c) (true, d, u, σ)
  have ha1 := amount_x I c (false, d, u, σ) 0
  have ha2 := amount_x I (tgt d σ.val c) (true, d, u, σ) 0
  have hy1 := payload_x I c (false, d, u, σ) 0
  have hy2 := payload_x I (tgt d σ.val c) (true, d, u, σ) 0
  have hO := OW_step c hlt
  rw [tcell_ord] at hO
  unfold ST Ow
  rw [e1] at hI1 hR1 hd1 ha1 hy1 ⊢
  rw [e2] at hI2 hR2 hd2 ha2 hy2 hO ⊢
  have ho := landed_owns (F := F) dst (tgt d σ.val c)
  unfold owns at ⊢
  iintro ⟨#R, ⟨⟨%W, HO⟩, ⟨%f, %hf, Hs⟩, ⟨%Y, %fd, %hfd, Hd⟩, HR, Ht1, Ht2⟩, Hk⟩
  ihave #I1 := hI1 $$ R
  ihave #I2 := hI2 $$ R
  ihave #R1 := hR1 $$ R
  ihave #R2 := hR2 $$ R
  iapply (Rounds.wp_send_landing_pointsTo_with 𝒱₀ ER (Rd I) (c : Thread nD τ) none (κ₁ := K (c, some (false, d, u, σ))) (κ₂ := K (tgt d σ.val c, some (true, d, u, σ)))
    (r₁ := 0) (r₂ := 0) (d₁ := 0) (d₂ := 0) (fs := f) (fd := fd) (F := R) (q := q)
    (by rw [hd1]; exact Finset.mem_singleton_self _) (by rw [hd2]; exact Finset.mem_singleton_self _)
    () () NN hN ha1 ha2 (OW c (ordN d u σ.val + 1)) hO (W := W)
    (by rw [hy1]; exact hp1)
    (by rw [hy2, hf]
        refine (show _ ⊢ _ from ?_ : _ ⊢ _).trans hp2
        iintro ⟨⟨H1, H2⟩, H3⟩
        isplitl [H1 H2]
        · isplitl [H1]
          · iapply (ho fd X); iexact H1
          · iexact H2
        · unfold owns; iexists f; isplitr
          · ipureintro; exact hf
          · iexact H3)) $$ [Hs Hd HR HO Ht1 Ht2]
  · isplitr; · iexact I1
    isplitr; · iexact I2
    isplitl [Hs]; · iexact Hs
    isplitl [Hd HR]
    · isplitl [Hd]; · iexact Hd
      iexact HR
    isplitl [HO]; · iexact HO
    isplitl [Ht1]; · iexact Ht1
    isplitr; · iexact R1
    isplitl [Ht2]; · iexact Ht2
    iexact R2
  iintro ⟨Hc, HO⟩
  iapply Hk
  isplitl [HO]; · iexists _; iexact HO
  iexact Hc

end Send

end Cert.KernelIdeal.Rings
-- ==== Proof.Sends.lean ====
module

public import proofs.«01_k».proof.Proof.Hoare

/-!
# The transfers and the waits of the body
-/

@[expose] public section

set_option maxRecDepth 4000

noncomputable section

namespace Cert.KernelIdeal.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

instance sepComm : Std.Commutative (BIBase.sep (PROP := sProp 𝕄)) := ⟨fun P Q => BI.Entails.antisymm (sep_comm (PROP := sProp 𝕄)).1 (sep_comm (PROP := sProp 𝕄)).2⟩
instance sepAssoc : Std.Associative (BIBase.sep (PROP := sProp 𝕄)) := ⟨fun P Q R => BI.Entails.antisymm (sep_assoc (PROP := sProp 𝕄)).1 (sep_assoc (PROP := sProp 𝕄)).2⟩
instance sepEmp : Std.LawfulIdentity (BIBase.sep (PROP := sProp 𝕄)) (BIBase.emp) where
  left_id P := BI.Entails.antisymm (emp_sep (PROP := sProp 𝕄)).1 (emp_sep (PROP := sProp 𝕄)).2
  right_id P := BI.Entails.antisymm (sep_emp (PROP := sProp 𝕄)).1 (sep_emp (PROP := sProp 𝕄)).2

variable {I : Inp F} {K : Dev nD × CI → ℕ} {c : Dev nD}

/-- Frame and reorder. -/
theorem TT.fr {A B A' B' X : sProp 𝕄} {f : PG (F := F) → PG (F := F)} (h : TT I K c A B f) (hA : A' = iprop(A ∗ X)) (hB : iprop(B ∗ X) = B') : TT I K c A' B' f :=
  TT.conseq (h.frame X) (Entails.of_eq hA) (Entails.of_eq hB)

theorem stV_amount (d u : Bool) (s : Fin 7) : (stV d s u).view.dmaCredit = NN := by cases d <;> rfl
theorem exV_amount (d u : Bool) : (exV d u).view.dmaCredit = NN := by cases d <;> rfl
theorem agV_amount (c : Dev nD) (d u : Bool) (k : Fin 9) : (agV c d k u).view.dmaCredit = NN := by cases d <;> rfl

/-- What a started transfer leaves: the due of its send cell. -/
def SC (c : Dev nD) (d u : Bool) (σ : Fin 15) : sProp 𝕄 := cred (tallyAt (cell c (some (false, d, u, σ))) () NN)

variable (d u : Bool)

theorem rPay_rs (c : Dev nD) (s : Fin 7) : xPay I c (true, d, u, ⟨s.val, by omega⟩) =
    iprop(pc c (stM d) (ss s.val u) fullShare (stgV I d c) ∗ bagP d u (ck d c (s.val + 1)) (s.val + 1) c) := by
  unfold xPay rPay; rw [if_pos rfl, if_pos s.isLt]
theorem rPay_ex (c : Dev nD) : xPay I c (true, d, u, 7) = pc c (exM d) (es u) fullShare (exC I d c) := rfl
theorem rPay_ag (c : Dev nD) (t : Fin 7) : xPay I c (true, d, u, ⟨t.val + 8, by omega⟩) =
    iprop(pc c (agM d) (hs (ck d c (t.val + 8)) u) fullShare (FIN I d c) ∗ bagN d u (ck d c (t.val + 8)) (6 - t.val) c) := by
  unfold xPay rPay
  rw [if_pos rfl, if_neg (by show ¬ t.val + 8 < 7; omega), if_neg (by show ¬ t.val + 8 = 7; omega)]
  show iprop(pc c (agM d) (hs (ck d c (t.val + 8 - 8 + 8)) u) _ _ ∗ bagN d u (ck d c (t.val + 8 - 8 + 8)) (6 - (t.val + 8 - 8)) c) = _
  rw [Nat.add_sub_cancel]
theorem sPay_rs (c : Dev nD) (s : Fin 7) : xPay I c (false, d, u, ⟨s.val, by omega⟩) = iprop(emp) := by
  unfold xPay sPay; rw [if_neg (by simp), if_pos s.isLt]
theorem sPay_ex (c : Dev nD) : xPay I c (false, d, u, 7) = pc c (agM d) (hs (ck d c 7) u) fullShare (PP I d 7 c) := rfl
theorem sPay_ag (c : Dev nD) (t : Fin 7) : xPay I c (false, d, u, ⟨t.val + 8, by omega⟩) =
    pc c (agM d) (hs (ck d c (t.val + 7)) u) fullShare.right (FIN I d c) := by
  unfold xPay sPay
  rw [if_neg (by simp), if_neg (by show ¬ t.val + 8 < 7; omega), if_neg (by show ¬ t.val + 8 = 7; omega)]
  show pc c (agM d) (hs (ck d c (t.val + 8 - 8 + 7)) u) _ _ = _
  rw [Nat.add_sub_cancel]

theorem tgt_rs (s : Fin 7) : tgt d s.val c = nx d c := if_neg (by omega)
theorem tgt_ag (t : Fin 7) : tgt d (t.val + 8) c = nx d c := if_neg (by omega)
theorem tgt_ex : tgt d 7 c = partner c := if_pos rfl

theorem bagP_succ (κ n : ℕ) (c : Dev nD) : (bagP d u κ (n + 1) c : sProp 𝕄) = iprop(jk (pv d c) (agM d) (hs κ u) ∗ bagP d u κ n (pv d c)) := rfl
theorem bagN_succ (κ n : ℕ) (c : Dev nD) : (bagN d u κ (n + 1) c : sProp 𝕄) = iprop(jk (nx d c) (agM d) (hs κ u) ∗ bagN d u κ n (nx d c)) := rfl

/-! ### The first phase -/

theorem step_send (s : Fin 7) :
    TT I K c iprop(Ow c (4 * s.val + (jx d u).val) ∗ (pc c (agM d) (hs (ck d c s.val) u) fullShare (PP I d s.val c) ∗ bagP d u (ck d c s.val) s.val c
        ∗ jk (nx d c) (stM d) (ss s.val u) ∗ ST c d u ⟨s.val, by omega⟩))
      iprop(Ow c (4 * s.val + (jx d u).val + 1) ∗ SC c d u ⟨s.val, by omega⟩)
      (gSend c d u s (dv c (ordN d u s.val))) := by
  have hk : ck d c ((s.succ.castSucc : Fin 9).val + 7) = ck d c s.val := by rw [k7 c d _ (by simp)]; simp
  have ht := tgt_rs (c := c) d s
  have h := send_land (I := I) (K := K) (c := c) (d := d) (u := u) (σ := ⟨s.val, by omega⟩) (sa := rsSem false d u s) (sb := rsSem true d u s)
    (src := agV c d s.succ.castSucc u) (dst := stV d s u) (dv c (ordN d u s.val)) (hsc := rfl) (hsrc := agVw c d s.succ.castSucc u) (hdst := stVw d s u) (hsem := ⟨⟨rfl, Or.inl rfl⟩, trivial⟩)
    (dv_eq c d u ⟨s.val, by omega⟩) (csem_rs false d u s) (csem_rs true d u s) (stV_amount d u s) fullShare (fun j => PP I d s.val c ((r4 c d u s.succ.castSucc).emb j))
    (bagP d u (ck d c s.val) s.val c) (Entails.of_eq (sPay_rs d u c s).symm) (by
      show iprop((owns (tgt d s.val c : Thread nD τ) _ _ _ ∗ _) ∗ _) ⊢ xPay I (tgt d s.val c) _
      rw [ht, rPay_rs]
      iintro ⟨⟨H1, H2⟩, H3⟩
      isplitl [H1]
      · iapply (squeeze_pc (nx d c) (stM d) (rSt u s) (hr := fun _ => rfl) (hq := squeezes_S1x128x512_S128x512) (setSt_eq u s) (send_val I c d u s)); iexact H1
      · rw [ck_nx, bagP_succ, pv_nx]
        isplitl [H3]
        · iapply (pc_jk c (agM d))
          iapply (slice_pc c (agM d) (r4 c d u s.succ.castSucc) (hr := fun _ => rfl) ((set4_eq c d u s.succ.castSucc).trans (by rw [hk])) (fun j => rfl)); iexact H3
        · iexact H2)
  refine TT.conseq h ?_ (BI.Entails.refl _)
  show _ ⊢ iprop(_ ∗ _ ∗ (∃ Y, owns (tgt d s.val c : Thread nD τ) _ _ Y) ∗ _)
  rw [ht]
  iintro ⟨HO, H1, H2, H3, H4⟩
  isplitl [HO]; · iexact HO
  isplitl [H1]
  · iapply (pc_slice c (agM d) (r4 c d u s.succ.castSucc) (hr := fun _ => rfl) ((set4_eq c d u s.succ.castSucc).trans (by rw [hk]))); iexact H1
  isplitl [H3]
  · iapply (jk_squeeze (nx d c) (stM d) (rSt u s) (hr := fun _ => rfl) (hq := squeezes_S1x128x512_S128x512) (setSt_eq u s)); iexact H3
  isplitl [H2] <;> iassumption

/-! ### The exchange -/

theorem step_exs :
    TT I K c iprop(Ow c (28 + (jx d u).val) ∗ (pc c (agM d) (hs (ck d c 7) u) fullShare (PP I d 7 c)
        ∗ jk (partner c) (exM d) (es u) ∗ ST c d u 7))
      iprop(Ow c (28 + (jx d u).val + 1) ∗ SC c d u 7)
      (fun Q => .op (.enqueueDma (agV c d 8 u) (.remote (Dev.tc (dv c (ordN d u 7))) (exV d u) (.dma (exSem false d u))) (.dma (exSem true d u))
        (agVw c d 8 u) (exVw d u) ⟨⟨rfl, Or.inl rfl⟩, trivial⟩) fun _ => Q) := by
  have hk : ck d c ((8 : Fin 9).val + 7) = ck d c 7 := ck_add8 d c 7
  have ht := tgt_ex (c := c) d
  have h := send_x (I := I) (K := K) (c := c) (d := d) (u := u) (σ := 7) (sa := exSem false d u) (sb := exSem true d u)
    (src := agV c d 8 u) (dst := exV d u) (dv c (ordN d u 7)) (hsc := rfl) (hsrc := agVw c d 8 u) (hdst := exVw d u) (hsem := ⟨⟨rfl, Or.inl rfl⟩, trivial⟩)
    (dv_eq c d u 7) (csem_ex false d u) (csem_ex true d u) (exV_amount d u) fullShare (fun j => PP I d 7 c ((r4 c d u 8).emb j))
    iprop(emp) (by
      rw [sPay_ex]
      exact (slice_pc c (agM d) (r4 c d u 8) (hr := fun _ => rfl) ((set4_eq c d u 8).trans (by rw [hk])) (fun j => rfl))) (by
      show iprop(owns (tgt d 7 c : Thread nD τ) _ _ _ ∗ _) ⊢ xPay I (tgt d 7 c) _
      rw [ht, rPay_ex]
      iintro ⟨H1, -⟩
      iapply (slice_pc (partner c) (exM d) (rEx u) (hr := fun _ => rfl) (setEx_eq u) (exch_val I c d u)); iexact H1)
  refine TT.conseq h ?_ (BI.Entails.refl _)
  show _ ⊢ iprop(_ ∗ _ ∗ (∃ Y, owns (tgt d 7 c : Thread nD τ) _ _ Y) ∗ _)
  rw [ht]
  iintro ⟨HO, H1, H3, H4⟩
  isplitl [HO]; · iexact HO
  isplitl [H1]
  · iapply (pc_slice c (agM d) (r4 c d u 8) (hr := fun _ => rfl) ((set4_eq c d u 8).trans (by rw [hk]))); iexact H1
  isplitl [H3]
  · iapply (jk_slice (partner c) (exM d) (rEx u) (hr := fun _ => rfl) (setEx_eq u)); iexact H3
  isplitr
  · iempintro
  iexact H4

/-! ### The second phase -/

theorem step_gather (t : Fin 7) :
    TT I K c iprop(Ow c (4 * (t.val + 8) + (jx d u).val) ∗ (pc c (agM d) (hs (ck d c (t.val + 7)) u) fullShare.right (FIN I d c)
        ∗ bagN d u (ck d c (t.val + 7)) (7 - t.val) c ∗ ST c d u ⟨t.val + 8, by omega⟩))
      iprop(Ow c (4 * (t.val + 8) + (jx d u).val + 1) ∗ SC c d u ⟨t.val + 8, by omega⟩)
      (gGather c d u t (dv c (ordN d u (t.val + 8)))) := by
  have hk : ck d c ((t.castSucc.castSucc : Fin 9).val + 7) = ck d c (t.val + 7) := rfl
  have ht := tgt_ag (c := c) d t
  have h7 : 7 - t.val = (6 - t.val) + 1 := by omega
  have h := send_x (I := I) (K := K) (c := c) (d := d) (u := u) (σ := ⟨t.val + 8, by omega⟩) (sa := agSem false d u t) (sb := agSem true d u t)
    (src := agV c d t.castSucc.castSucc u) (dst := agV c d t.castSucc.castSucc u) (dv c (ordN d u (t.val + 8))) (hsc := rfl) (hsrc := agVw c d t.castSucc.castSucc u) (hdst := agVw c d t.castSucc.castSucc u) (hsem := ⟨⟨rfl, Or.inl rfl⟩, trivial⟩)
    (dv_eq c d u ⟨t.val + 8, by omega⟩) (csem_ag false d u t) (csem_ag true d u t) (agV_amount c d u _) fullShare.right (fun j => FIN I d c ((r4 c d u t.castSucc.castSucc).emb j))
    (bagN d u (ck d c (t.val + 7)) (6 - t.val) (nx d c)) (by
      rw [sPay_ag]
      exact (slice_pc c (agM d) (r4 c d u t.castSucc.castSucc) (hr := fun _ => rfl) (set4_eq c d u t.castSucc.castSucc) (fun j => rfl))) (by
      show iprop(owns (tgt d (t.val + 8) c : Thread nD τ) _ _ _ ∗ _) ⊢ xPay I (tgt d (t.val + 8) c) _
      rw [ht, rPay_ag, ck_nx, FIN_nx]
      iintro ⟨H1, H2⟩
      isplitl [H1]
      · iapply (slice_pc (nx d c) (agM d) (r4 c d u t.castSucc.castSucc) (hr := fun _ => rfl) (set4_eq c d u t.castSucc.castSucc) (fun j => rfl)); iexact H1
      · iexact H2)
  refine TT.conseq h ?_ (BI.Entails.refl _)
  show _ ⊢ iprop(_ ∗ _ ∗ (∃ Y, owns (tgt d (t.val + 8) c : Thread nD τ) _ _ Y) ∗ _)
  rw [ht, h7, bagN_succ]
  iintro ⟨HO, H1, ⟨H2, H3⟩, H4⟩
  isplitl [HO]; · iexact HO
  isplitl [H1]
  · iapply (pc_slice c (agM d) (r4 c d u t.castSucc.castSucc) (hr := fun _ => rfl) (set4_eq c d u t.castSucc.castSucc)); iexact H1
  isplitl [H2]
  · iapply (jk_slice (nx d c) (agM d) (r4 c d u t.castSucc.castSucc) (hr := fun _ => rfl) (set4_eq c d u t.castSucc.castSucc)); iexact H2
  isplitl [H3] <;> iassumption

end Cert.KernelIdeal.Rings
-- ==== Proof.Steps.lean ====
module

public import proofs.«01_k».proof.Proof.Sends

/-!
# The steps of the body
-/

@[expose] public section

set_option maxRecDepth 4000

noncomputable section

namespace Cert.KernelIdeal.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {I : Inp F} {K : Dev nD × CI → ℕ} {c : Dev nD}

/-- The filter and the weights as loaded. -/
def KV (I : Inp F) (c : Dev nD) : Vec F S4x512 .f32 := fun j => I.k c ((Rect.unit (s := S4x512) ![0, 0] S4x512.size inb_S4x512_S4x512_0_0).emb j)
def WV (I : Inp F) (c : Dev nD) : Vec F S512x512 .f32 := fun j => I.w c ((Rect.unit (s := S512x512) ![0, 0] S512x512.size inb_S512x512_S512x512_0_0).emb j)
/-- The rows of the input. -/
def XX (I : Inp F) (c : Dev nD) : sProp 𝕄 := pc c xM Finset.univ fullShare (I.x c)

theorem step_comp (d : Bool) (k : Fin 9) {κ : ℕ} (hκ : ck d c (k.val + 7) = κ) :
    TT I K c iprop(XX I c ∗ jk c (agM d) (cs κ))
      iprop(XX I c ∗ pc c (agM d) (hs κ false) fullShare (LL I d c) ∗ pc c (agM d) (hs κ true) fullShare (LL I d c))
      (gComp c (KV I c) (WV I c) d k) := by
  intro Q Kt
  have hS : (r3 c d k).set = cs κ := (set3_eq c d k).trans (by rw [hκ])
  unfold gComp XX
  iintro ⟨#R, ⟨HX, HJ⟩, Hk⟩
  iapply (pc_load c xM (Rect.unit (s := S4x1024x512) (k0_off1 c (wd d k) (wb d)) S1x256x512.size (inb1 c d k)) (Finset.subset_univ _))
  isplitl [HX]; · iexact HX
  iintro HX
  iapply (pc_load c xM (Rect.unit (s := S4x1024x512) (k0_off2 c (wd d k) (wb d)) S1x8x512.size (inb2 c d k)) (Finset.subset_univ _))
  isplitl [HX]; · iexact HX
  iintro HX
  iapply (jk_load c (agM d) (r3 c d k) (subset_of_eq hS))
  isplitl [HJ]; · iexact HJ
  iintro %z HJ
  iapply (jk_store c (agM d) (r3 c d k) (V := LL I d c) hS (tile_val c d I k))
  isplitl [HJ]; · iexact HJ
  iintro HJ
  rw [cs_halves]
  ihave HJ := (pc_split c (agM d) (hs_disj κ)) $$ HJ
  icases HJ with ⟨H1, H2⟩
  iapply Hk
  isplitl [HX]; · iexact HX
  isplitl [H1] <;> iassumption

variable (d u : Bool)

/-- A sum of the first phase, at any continuation of the values read. -/
theorem step_add_gen (s : Fin 7) (n : ℕ) (hn : s.val + 2 < n / 4 + 2) (k : FVec F S128x512 .bf16 → FVec F S1x128x512 .bf16 → PG (F := F)) (Kt : PUnit.{1} → sProp 𝕄) :
    iprop(Rec I K ∗ (Ow c n ∗ pc c (agM d) (hs (ck d c (s.val + 1)) u) fullShare (LL I d c) ∗ WC c (true, d, u, ⟨s.val, by omega⟩))
      ∗ ((Ow c n ∗ pc c (agM d) (hs (ck d c (s.val + 1)) u) fullShare (PP I d (s.val + 1) c) ∗ bagP d u (ck d c (s.val + 1)) (s.val + 1) c
          ∗ jk c (stM d) (ss s.val u) ∗ zero c (true, d, u, ⟨s.val, by omega⟩))
        -∗ WP c (k (fun j => LL I d c ((r5 c d u s.succ.succ).emb j)) (fun j => stgV I d c ((rSt u s).emb j))) Kt))
    ⊢ WP c (gAdd c d u s k) Kt := by
  have hk : ck d c ((s.succ.succ : Fin 9).val + 7) = ck d c (s.val + 1) := by rw [k7 c d _ (by simp)]; simp
  have hS : (r5 c d u s.succ.succ).set = hs (ck d c (s.val + 1)) u := (set5_eq c d u s.succ.succ).trans (by rw [hk])
  unfold gAdd
  iintro ⟨#R, ⟨HO, HL, HW⟩, Hk⟩
  iapply (wait_x (I := I) (K := K) (c := c) (true, d, u, ⟨s.val, by omega⟩) (csem_rs true d u s) (stV_amount d u s) n (Or.inr hn) _ Kt)
  isplitr; · iexact R
  isplitl [HO HW]; · isplitl [HO] <;> iassumption
  rw [rPay_rs]
  iintro ⟨HO, ⟨HS, HB⟩, Hz⟩
  iapply (pc_load c (agM d) (r5 c d u s.succ.succ) (subset_of_eq hS))
  isplitl [HL]; · iexact HL
  iintro HL
  iapply (pc_load c (stM d) (rSt u s) (subset_of_eq (setSt_eq u s)))
  isplitl [HS]; · iexact HS
  iintro HS
  iapply (pc_load c (agM d) (r5 c d u s.succ.succ) (subset_of_eq hS))
  isplitl [HL]; · iexact HL
  iintro HL
  iapply (jk_store c (agM d) (r5 c d u s.succ.succ) (V := PP I d (s.val + 1) c) hS (add_val I c d u s))
  isplitl [HL]; · iapply (pc_jk c (agM d)); iexact HL
  iintro HL
  iapply Hk
  isplitl [HO]; · iexact HO
  isplitl [HL]; · iexact HL
  isplitl [HB]; · iexact HB
  isplitl [HS]; · iapply (pc_jk c (stM d)); iexact HS
  iexact Hz

theorem step_add (s : Fin 7) :
    TT I K c iprop(Ow c (4 * s.val + 4) ∗ (pc c (agM d) (hs (ck d c (s.val + 1)) u) fullShare (LL I d c) ∗ WC c (true, d, u, ⟨s.val, by omega⟩)))
      iprop(Ow c (4 * s.val + 4) ∗ (pc c (agM d) (hs (ck d c (s.val + 1)) u) fullShare (PP I d (s.val + 1) c) ∗ bagP d u (ck d c (s.val + 1)) (s.val + 1) c
          ∗ jk c (stM d) (ss s.val u) ∗ zero c (true, d, u, ⟨s.val, by omega⟩)))
      (fun Q => gAdd c d u s fun _ _ => Q) := by
  intro Q Kt
  exact step_add_gen d u s (4 * s.val + 4) (by omega) (fun _ _ => Q) Kt

/-- A store into half a chunk of the result. -/
theorem step_out12 (k : Fin 9) {κ : ℕ} (hκ : ck d c (k.val + 7) = κ) (v : FVec F S128x512 .f32) (V : Vec F S4096x512 .f32) (hV : ∀ j, V ((r12 c d u k).emb j) = v j) :
    TT I K c (jk c oM (ohs d κ u)) (pc c oM (ohs d κ u) fullShare V) (gOut12 c d u k v) := by
  intro Q Kt
  have hS : (r12 c d u k).set = ohs d κ u := (set12_eq c d u k).trans (by rw [hκ])
  unfold gOut12
  iintro ⟨#R, HJ, Hk⟩
  iapply (jk_load c oM (r12 c d u k) (subset_of_eq hS))
  isplitl [HJ]; · iexact HJ
  iintro %z HJ
  iapply (jk_store c oM (r12 c d u k) (V := V) hS hV)
  isplitl [HJ]; · iexact HJ
  iintro HJ
  iapply Hk; iexact HJ

theorem step_last :
    TT I K c iprop(Ow c (28 + (jx d u).val) ∗ (pc c (agM d) (hs (ck d c 7) u) fullShare (LL I d c) ∗ WC c (true, d, u, 6)
        ∗ jk c oM (ohs d (ck d c 7) u) ∗ jk (partner c) (exM d) (es u) ∗ ST c d u 7))
      iprop(Ow c (28 + (jx d u).val + 1) ∗ (SC c d u 7 ∗ bagP d u (ck d c 7) 7 c ∗ jk c (stM d) (ss 6 u) ∗ zero c (true, d, u, 6)
        ∗ pc c oM (ohs d (ck d c 7) u) fullShare (oPP I d c)))
      (gLast c d u (dv c (ordN d u 7))) := by
  intro Q Kt
  unfold gLast
  iintro ⟨#R, ⟨HO, HL, HW, HJ, HE, HT⟩, Hk⟩
  iapply (step_add_gen (I := I) (K := K) (c := c) d u 6 (28 + (jx d u).val) (by have := (jx d u).isLt; show 6 + 2 < _; omega) _ Kt)
  isplitr; · iexact R
  isplitl [HO HL HW]
  · isplitl [HO]; · iexact HO
    isplitl [HL]; · iexact HL
    iexact HW
  iintro ⟨HO, HP, HB, HS, Hz⟩
  iapply (step_out12 (I := I) (K := K) (c := c) d u 8 (κ := ck d c 7) (ck_add8 d c 7) _ (oPP I d c) (last_val I c d u) _ Kt)
  isplitr; · iexact R
  isplitl [HJ]; · iexact HJ
  iintro HJ
  iapply (step_exs (I := I) (K := K) (c := c) d u Q Kt)
  isplitr; · iexact R
  isplitl [HO HP HE HT]
  · isplitl [HO]; · iexact HO
    isplitl [HP]; · iexact HP
    isplitl [HE] <;> iassumption
  iintro ⟨HO, HC⟩
  iapply Hk
  isplitl [HO]; · iexact HO
  isplitl [HC]; · iexact HC
  isplitl [HB]; · iexact HB
  isplitl [HS]; · iexact HS
  isplitl [Hz]; · iexact Hz
  iexact HJ

theorem nx_seven : nx d (nx d (nx d (nx d (nx d (nx d (nx d (nx d c))))))) = c := by revert c d; decide +kernel
/-- Round the ring, the devices before are the devices after. -/
theorem bag_turn (κ : ℕ) : (bagP d u κ 7 c : sProp 𝕄) = bagN d u κ 7 c := by
  have e1 : pv d c = nx d (nx d (nx d (nx d (nx d (nx d (nx d c)))))) := by conv_lhs => rw [← nx_seven (c := c) d]
                                                                            rw [pv_nx]
  simp only [bagP_succ, bagN_succ, e1, pv_nx]
  simp only [bagP, bagN]
  ac_rfl

theorem step_exch :
    TT I K c iprop(Ow c (32 + (jx d u).val) ∗ (WC c (true, d, u, 7) ∗ WC c (false, d, u, 7) ∗ pc c oM (ohs d (ck d c 7) u) fullShare (oPP I d c)
        ∗ bagP d u (ck d c 7) 7 c ∗ ST c d u 8))
      iprop(Ow c (32 + (jx d u).val + 1) ∗ (SC c d u 8 ∗ zero c (true, d, u, 7) ∗ zero c (false, d, u, 7) ∗ jk c (exM d) (es u)
        ∗ pc c oM (ohs d (ck d c 7) u) fullShare (OUT I c) ∗ pc c (agM d) (hs (ck d c 7) u) fullShare.left (FIN I d c)))
      (gExch c d u (dv c (ordN d u 8))) := by
  intro Q Kt
  have hj := (jx d u).isLt
  have hS : (r5 c d u 0).set = hs (ck d c 7) u := set5_eq c d u 0
  have hS12 : (r12 c d u 0).set = ohs d (ck d c 7) u := set12_eq c d u 0
  unfold gExch
  iintro ⟨#R, ⟨HO, HW, HW2, HP, HB, HT⟩, Hk⟩
  iapply (wait_x (I := I) (K := K) (c := c) (true, d, u, 7) (csem_ex true d u) (exV_amount d u) (32 + (jx d u).val) (Or.inr (by show 7 + 2 < _; omega)) _ Kt)
  isplitr; · iexact R
  isplitl [HO HW]; · isplitl [HO] <;> iassumption
  rw [rPay_ex]
  iintro ⟨HO, HE, Hz⟩
  iapply (wait_x (I := I) (K := K) (c := c) (false, d, u, 7) (csem_ex false d u) (agV_amount c d u 8) (32 + (jx d u).val) (Or.inr (by show 0 < _; omega)) _ Kt)
  isplitr; · iexact R
  isplitl [HO HW2]; · isplitl [HO] <;> iassumption
  rw [sPay_ex]
  iintro ⟨HO, HA, Hz2⟩
  iapply (pc_load c oM (r12 c d u 0) (subset_of_eq hS12))
  isplitl [HP]; · iexact HP
  iintro HP
  iapply (pc_load c (exM d) (rEx u) (subset_of_eq (setEx_eq u)))
  isplitl [HE]; · iexact HE
  iintro HE
  iapply (step_out12 (I := I) (K := K) (c := c) d u 0 (κ := ck d c 7) rfl _ (OUT I c) (own_val I c d u) _ Kt)
  isplitr; · iexact R
  isplitl [HP]; · iapply (pc_jk c oM); iexact HP
  iintro HP
  iapply (pc_load c (agM d) (r5 c d u 0) (subset_of_eq hS))
  isplitl [HA]; · iexact HA
  iintro HA
  iapply (jk_store c (agM d) (r5 c d u 0) (V := FIN I d c) hS (fin_val I c d u))
  isplitl [HA]; · iapply (pc_jk c (agM d)); iexact HA
  iintro HA
  ihave HA := (pc_half c (agM d)) $$ HA
  icases HA with ⟨HA, HA2⟩
  iapply (step_gather (I := I) (K := K) (c := c) d u 0 Q Kt)
  isplitr; · iexact R
  isplitl [HO HA2 HB HT]
  · isplitl [HO]; · iexact HO
    isplitl [HA2]; · iexact HA2
    isplitl [HB]
    · iapply (Entails.of_eq (bag_turn (F := F) (c := c) d u (ck d c 7))); iexact HB
    iexact HT
  iintro ⟨HO, HC⟩
  iapply Hk
  isplitl [HO]; · iexact HO
  isplitl [HC]; · iexact HC
  isplitl [Hz]; · iexact Hz
  isplitl [Hz2]; · iexact Hz2
  isplitl [HE]; · iapply (pc_jk c (exM d)); iexact HE
  isplitl [HP] <;> iassumption

/-! ### The second phase -/

theorem step_arrive (t : Fin 7) (n : ℕ) (hn : n = 60 ∨ t.val + 8 + 2 < n / 4 + 2) :
    TT I K c iprop(Ow c n ∗ WC c (true, d, u, ⟨t.val + 8, by omega⟩))
      iprop(Ow c n ∗ (pc c (agM d) (hs (ck d c (t.val + 8)) u) fullShare (FIN I d c) ∗ bagN d u (ck d c (t.val + 8)) (6 - t.val) c) ∗ zero c (true, d, u, ⟨t.val + 8, by omega⟩))
      (gArrive c d u t) := by
  rw [← rPay_ag]
  exact wait_x (I := I) (K := K) (c := c) (true, d, u, ⟨t.val + 8, by omega⟩) (csem_ag true d u t) (agV_amount c d u _) n hn

theorem step_next (t : Fin 6) :
    TT I K c iprop(Ow c (4 * (t.val + 9) + (jx d u).val) ∗ (WC c (true, d, u, ⟨t.val + 8, by omega⟩) ∗ ST c d u ⟨t.val + 9, by omega⟩))
      iprop(Ow c (4 * (t.val + 9) + (jx d u).val + 1) ∗ (SC c d u ⟨t.val + 9, by omega⟩ ∗ zero c (true, d, u, ⟨t.val + 8, by omega⟩)
        ∗ pc c (agM d) (hs (ck d c (t.val + 8)) u) fullShare.left (FIN I d c)))
      (fun Q => gArrive c d u t.castSucc <| gGather c d u t.succ (dv c (ordN d u (t.val + 9))) Q) := by
  intro Q Kt
  have hj := (jx d u).isLt
  have ha := step_arrive (I := I) (K := K) (c := c) d u t.castSucc (4 * (t.val + 9) + (jx d u).val) (Or.inr (by show t.val + 8 + 2 < _; omega))
  have hg := step_gather (I := I) (K := K) (c := c) d u t.succ
  have e1 : t.succ.val = t.val + 1 := rfl
  have e2 : t.castSucc.val = t.val := rfl
  rw [show 7 - t.succ.val = 6 - t.castSucc.val by rw [e1, e2]; omega] at hg
  simp only [e1, e2, Nat.add_assoc, Nat.reduceAdd] at ha hg
  simp only [Nat.add_assoc]
  iintro ⟨#R, ⟨HO, HW, HT⟩, Hk⟩
  iapply (ha _ Kt)
  isplitr; · iexact R
  isplitl [HO HW]; · isplitl [HO] <;> iassumption
  iintro ⟨HO, ⟨HA, HB⟩, Hz⟩
  ihave HA := (pc_half c (agM d)) $$ HA
  icases HA with ⟨HA, HA2⟩
  iapply (hg Q Kt)
  isplitr; · iexact R
  isplitl [HO HA2 HB HT]
  · isplitl [HO]; · iexact HO
    isplitl [HA2]; · iexact HA2
    isplitl [HB] <;> iassumption
  iintro ⟨HO, HC⟩
  iapply Hk
  isplitl [HO]; · iexact HO
  isplitl [HC]; · iexact HC
  isplitl [Hz] <;> iassumption

theorem step_copy (k : Fin 9) (h : 1 ≤ k.val) (h' : k.val ≤ 7) (q : PosShare TreeShare) {κ : ℕ} (hκ : ck d c (k.val + 7) = κ) :
    TT I K c iprop((pc c (agM d) (hs κ false) q (FIN I d c) ∗ pc c (agM d) (hs κ true) q (FIN I d c)) ∗ jk c oM (ocs d κ))
      iprop((pc c (agM d) (hs κ false) q (FIN I d c) ∗ pc c (agM d) (hs κ true) q (FIN I d c)) ∗ pc c oM (ocs d κ) fullShare (OUT I c))
      (gCopy c d k) := by
  intro Q Kt
  have hS : (r3 c d k).set = cs κ := (set3_eq c d k).trans (by rw [hκ])
  have hS25 : (r25 c d k).set = ocs d κ := (set25_eq c d k).trans (by rw [hκ])
  unfold gCopy
  iintro ⟨#R, ⟨HA, HJ⟩, Hk⟩
  ihave HA := (pc_join c (agM d) (hs_disj κ)) $$ HA
  iapply (pc_load c (agM d) (r3 c d k) (subset_of_eq (hS.trans (cs_halves κ))))
  isplitl [HA]; · iexact HA
  iintro HA
  iapply (jk_load c oM (r25 c d k) (subset_of_eq hS25))
  isplitl [HJ]; · iexact HJ
  iintro %z HJ
  iapply (jk_store c oM (r25 c d k) (V := OUT I c) hS25 (copy_val I c d k h h'))
  isplitl [HJ]; · iexact HJ
  iintro HJ
  iapply Hk
  isplitl [HA]
  · iapply (pc_split c (agM d) (hs_disj κ)); iexact HA
  iexact HJ

/-! ### The sends have left -/

theorem step_left (s : Fin 7) :
    TT I K c iprop(Ow c 60 ∗ (SC c d u ⟨s.val, by omega⟩ ∗ atPos ER (cell c (some (false, d, u, ⟨s.val, by omega⟩))) 0 ∅ 0))
      iprop(Ow c 60 ∗ zero c (false, d, u, ⟨s.val, by omega⟩)) (gLeft c d u s) := by
  refine TT.conseq (wait_x (I := I) (K := K) (c := c) (false, d, u, ⟨s.val, by omega⟩) (csem_rs false d u s) (agV_amount c d u _) 60 (Or.inl rfl)) (BI.Entails.refl _) ?_
  iintro ⟨HO, -, Hz⟩
  isplitl [HO] <;> iassumption

theorem step_left2 (t : Fin 7) :
    TT I K c iprop(Ow c 60 ∗ (SC c d u ⟨t.val + 8, by omega⟩ ∗ atPos ER (cell c (some (false, d, u, ⟨t.val + 8, by omega⟩))) 0 ∅ 0
        ∗ pc c (agM d) (hs (ck d c (t.val + 7)) u) fullShare.left (FIN I d c)))
      iprop(Ow c 60 ∗ (zero c (false, d, u, ⟨t.val + 8, by omega⟩) ∗ jk c (agM d) (hs (ck d c (t.val + 7)) u))) (gLeft2 c d u t) := by
  have h := wait_x (I := I) (K := K) (c := c) (false, d, u, ⟨t.val + 8, by omega⟩) (csem_ag false d u t) (agV_amount c d u t.castSucc.castSucc) 60 (Or.inl rfl)
    (src := agV c d t.castSucc.castSucc u) (hsrc := agVw c d t.castSucc.castSucc u) (hdst := agVw c d t.castSucc.castSucc u)
  rw [sPay_ag] at h
  refine TT.conseq (h.frame (pc c (agM d) (hs (ck d c (t.val + 7)) u) fullShare.left (FIN I d c))) ?_ ?_
  · iintro ⟨HO, HC, Hat, HL⟩
    isplitl [HO HC Hat]
    · isplitl [HO]; · iexact HO
      unfold WC SC
      isplitl [HC] <;> iassumption
    iexact HL
  · iintro ⟨⟨HO, HR, Hz⟩, HL⟩
    isplitl [HO]; · iexact HO
    isplitl [Hz]; · iexact Hz
    iapply (pc_rejoin c (agM d))
    isplitl [HL] <;> iassumption

end Cert.KernelIdeal.Rings
-- ==== Proof.Phases.lean ====
module

public import proofs.«01_k».proof.Proof.Steps

/-!
# The phases of the body
-/

@[expose] public section

set_option maxRecDepth 4000

noncomputable section

namespace Cert.KernelIdeal.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {I : Inp F} {K : Dev nD × CI → ℕ} {c : Dev nD}

theorem TT.next {A B C D : sProp 𝕄} (X : sProp 𝕄) {f g : PG (F := F) → PG (F := F)} (h1 : TT I K c A B f) (h2 : TT I K c C D g) (hX : B = iprop(C ∗ X)) :
    TT I K c A iprop(D ∗ X) (fun Q => f (g Q)) :=
  h1.comp (TT.conseq (h2.frame X) (Entails.of_eq hX) (BI.Entails.refl _))
/-- In sequence, with what each step takes and leaves put together. -/
theorem TT.chain {P Q R A A' D D' : sProp 𝕄} {f g : PG (F := F) → PG (F := F)} (h1 : TT I K c iprop(P ∗ A) iprop(Q ∗ D) f) (h2 : TT I K c iprop(Q ∗ A') iprop(R ∗ D') g) :
    TT I K c iprop(P ∗ (A ∗ A')) iprop(R ∗ (D ∗ D')) (fun S => f (g S)) :=
  TT.conseq ((h1.frame A').comp (TT.conseq (h2.frame D) (Entails.of_eq (by ac_rfl)) (BI.Entails.refl _))) (Entails.of_eq (by ac_rfl)) (Entails.of_eq (by ac_rfl))

/-! ### What a step takes and leaves, over both directions and halves -/

section Fam
variable (I : Inp F) (c : Dev nD)

def X2 (A : Bool → sProp 𝕄) : sProp 𝕄 := iprop(A false ∗ A true)
/-- The travelling half chunks. -/
def fCore (s : ℕ) : sProp 𝕄 := X4 fun d u => iprop(pc c (agM d) (hs (ck d c s) u) fullShare (PP I d s c) ∗ bagP d u (ck d c s) s c)
def fST (σ : Fin 15) : sProp 𝕄 := X4 fun d u => ST c d u σ
def fWC (σ : Fin 15) : sProp 𝕄 := X4 fun d u => WC c (true, d, u, σ)
def fSC (σ : Fin 15) : sProp 𝕄 := X4 fun d u => SC c d u σ
def fAP (σ : Fin 15) : sProp 𝕄 := X4 fun d u => atPos ER (cell c (some (false, d, u, σ))) 0 ∅ 0
def fZR (σ : Fin 15) : sProp 𝕄 := X4 fun d u => zero c (true, d, u, σ)
def fZS (σ : Fin 15) : sProp 𝕄 := X4 fun d u => zero c (false, d, u, σ)
/-- Stage slots of the neighbours, and the own ones. -/
def fNS (s : ℕ) : sProp 𝕄 := X4 fun d u => jk (nx d c) (stM d) (ss s u)
def fSS (s : ℕ) : sProp 𝕄 := X4 fun d u => jk c (stM d) (ss s u)
/-- Exchange buffers of the partner, and the own ones. -/
def fPE : sProp 𝕄 := X4 fun d u => jk (partner c) (exM d) (es u)
def fES : sProp 𝕄 := X4 fun d u => jk c (exM d) (es u)
/-- Chunks of the gather buffer not written yet, with final sums at half a share, and given up. -/
def fJ (k : ℕ) : sProp 𝕄 := X2 fun d => jk c (agM d) (cs (ck d c k))
def fLF (k : ℕ) : sProp 𝕄 := X4 fun d u => pc c (agM d) (hs (ck d c k) u) fullShare.left (FIN I d c)
def fJH (k : ℕ) : sProp 𝕄 := X4 fun d u => jk c (agM d) (hs (ck d c k) u)
/-- Chunks of the result: the own one by halves, the others. -/
def fO7 : sProp 𝕄 := X4 fun d u => jk c oM (ohs d (ck d c 7) u)
def fR7 : sProp 𝕄 := X4 fun d u => pc c oM (ohs d (ck d c 7) u) fullShare (OUT I c)
def fO (k : ℕ) : sProp 𝕄 := X2 fun d => jk c oM (ocs d (ck d c k))
def fR (k : ℕ) : sProp 𝕄 := X2 fun d => pc c oM (ocs d (ck d c k)) fullShare (OUT I c)

end Fam

/-! ### The phases -/

theorem ck_comp (d : Bool) (s : Fin 7) : ck d c ((s.succ.succ : Fin 9).val + 7) = ck d c (s.val + 1) := by rw [k7 c d _ (by simp)]; simp

def fLL (I : Inp F) (c : Dev nD) (k : ℕ) : sProp 𝕄 := X4 fun d u => pc c (agM d) (hs (ck d c k) u) fullShare (LL I d c)

theorem ph_comp (k : Fin 9) (n : ℕ) (hk : ∀ d, ck d c (k.val + 7) = ck d c n) :
    TT I K c iprop(XX I c ∗ fJ c n) iprop(XX I c ∗ fLL I c n)
      (fun Q => gComp c (KV I c) (WV I c) false k <| gComp c (KV I c) (WV I c) true k Q) := by
  have h2 := step_comp (I := I) (K := K) (c := c) false k (hk false)
  have h3 := step_comp (I := I) (K := K) (c := c) true k (hk true)
  have h := (h2.frame (jk c (agM true) (cs (ck true c n)))).next
    iprop(pc c (agM false) (hs (ck false c n) false) fullShare (LL I false c) ∗ pc c (agM false) (hs (ck false c n) true) fullShare (LL I false c)) h3 (by ac_rfl)
  refine TT.conseq h (Entails.of_eq ?_) (Entails.of_eq ?_)
  · unfold fJ X2; ac_rfl
  · unfold fLL X4; ac_rfl

theorem X4_sep (A B : Bool → Bool → sProp 𝕄) : (X4 fun d u => iprop(A d u ∗ B d u)) = iprop(X4 A ∗ X4 B) := by dsimp only [X4]; ac_rfl

theorem ph_send (s : Fin 7) :
    TT I K c iprop((Ow c (4 * s.val) ∗ XX I c ∗ fCore I c s.val) ∗ (fNS c s.val ∗ fST c ⟨s.val, by omega⟩ ∗ fJ c (s.val + 1)))
      iprop((Ow c (4 * s.val + 4) ∗ XX I c ∗ fLL I c (s.val + 1)) ∗ fSC c ⟨s.val, by omega⟩)
      (fun Q => four (fun d u => gSend c d u s (dv c (ordN d u s.val))) <|
        gComp c (KV I c) (WV I c) false s.succ.succ <| gComp c (KV I c) (WV I c) true s.succ.succ Q) := by
  have h1 := four_step (fun d u => step_send (I := I) (K := K) (c := c) d u s)
  have h2 := ph_comp (I := I) (K := K) (c := c) s.succ.succ (s.val + 1) (fun d => ck_comp d s)
  refine TT.conseq ((h1.frame iprop(XX I c ∗ fJ c (s.val + 1))).next iprop(Ow c (4 * s.val + 4) ∗ fSC c ⟨s.val, by omega⟩) h2 ?_) (Entails.of_eq ?_) (Entails.of_eq ?_)
  · unfold fSC; ac_rfl
  · simp only [fCore, fNS, fST, X4_sep]; ac_rfl
  · ac_rfl

theorem ph_step (s : Fin 7) :
    TT I K c iprop((Ow c (4 * s.val) ∗ XX I c ∗ fCore I c s.val) ∗ (fNS c s.val ∗ fST c ⟨s.val, by omega⟩ ∗ fJ c (s.val + 1) ∗ fWC c ⟨s.val, by omega⟩))
      iprop((Ow c (4 * s.val + 4) ∗ XX I c ∗ fCore I c (s.val + 1)) ∗ (fSC c ⟨s.val, by omega⟩ ∗ fSS c s.val ∗ fZR c ⟨s.val, by omega⟩))
      (gStep c (KV I c) (WV I c) s) := by
  have h1 := ph_send (I := I) (K := K) (c := c) s
  have h2 := four_same (fun d u => step_add (I := I) (K := K) (c := c) d u s)
  refine TT.conseq ((h1.frame (fWC c ⟨s.val, by omega⟩)).next iprop(XX I c ∗ fSC c ⟨s.val, by omega⟩) h2 ?_) (Entails.of_eq ?_) (Entails.of_eq ?_)
  · simp only [fLL, fWC, X4_sep]; ac_rfl
  · ac_rfl
  · simp only [fCore, fSS, fZR, X4_sep]; ac_rfl

theorem ph_mid :
    TT I K c iprop((Ow c 24 ∗ XX I c ∗ fCore I c 6) ∗ (fNS c 6 ∗ fST c 6 ∗ fJ c 7 ∗ fWC c 6 ∗ fO7 c ∗ fPE c ∗ fST c 7 ∗ fWC c 7 ∗ fAP c 7 ∗ fST c 8))
      iprop((Ow c 36 ∗ XX I c) ∗ (fSC c 6 ∗ fSS c 6 ∗ fZR c 6 ∗ fZR c 7 ∗ fZS c 7 ∗ fES c ∗ fR7 I c ∗ fSC c 8 ∗ fLF I c 7))
      (gMid c (KV I c) (WV I c)) := by
  have h1 : TT I K c iprop((Ow c 24 ∗ XX I c ∗ fCore I c 6) ∗ (fNS c 6 ∗ fST c 6 ∗ fJ c 7)) iprop((Ow c 28 ∗ XX I c ∗ fLL I c 7) ∗ fSC c 6) _ := ph_send (I := I) (K := K) (c := c) 6
  have h2 := four_step (n := 28) (fun d u => step_last (I := I) (K := K) (c := c) d u)
  have h3 := four_step (n := 32) (fun d u => step_exch (I := I) (K := K) (c := c) d u)
  have hw : ∀ d u, WC (F := F) c (false, d, u, 7) = iprop(SC c d u 7 ∗ atPos ER (cell c (some (false, d, u, 7))) 0 ∅ 0) := fun _ _ => rfl
  refine TT.conseq (((h1.frame iprop(fWC c 6 ∗ fO7 c ∗ fPE c ∗ fST c 7 ∗ fWC c 7 ∗ fAP c 7 ∗ fST c 8)).next
    iprop(XX I c ∗ fSC c 6 ∗ fWC c 7 ∗ fAP c 7 ∗ fST c 8) h2 ?_).next
      iprop(XX I c ∗ fSC c 6 ∗ fSS c 6 ∗ fZR c 6) h3 ?_) (Entails.of_eq ?_) (Entails.of_eq ?_)
  · simp only [fLL, fWC, fO7, fPE, fST, X4_sep]; ac_rfl
  · simp only [hw, fWC, fSC, fAP, fSS, fZR, fST, X4_sep]; ac_rfl
  · ac_rfl
  · simp only [fSC, fES, fR7, fLF, fZR, fZS, X4_sep]; ac_rfl

theorem ck_copy (d : Bool) (t : Fin 6) : ck d c ((t.succ.castSucc.castSucc : Fin 9).val + 7) = ck d c (t.val + 8) := by
  show ck d c (t.val + 1 + 7) = _; rw [Nat.add_assoc]

theorem ph_copy (k : Fin 9) (h : 1 ≤ k.val) (h' : k.val ≤ 7) (q : PosShare TreeShare) (n : ℕ) (hk : ∀ d, ck d c (k.val + 7) = ck d c n) :
    TT I K c iprop((X4 fun d u => pc c (agM d) (hs (ck d c n) u) q (FIN I d c)) ∗ fO c n)
      iprop((X4 fun d u => pc c (agM d) (hs (ck d c n) u) q (FIN I d c)) ∗ fR I c n)
      (fun Q => gCopy c false k <| gCopy c true k Q) := by
  have h2 := step_copy (I := I) (K := K) (c := c) false k h h' q (hk false)
  have h3 := step_copy (I := I) (K := K) (c := c) true k h h' q (hk true)
  refine TT.conseq ((h2.frame iprop((pc c (agM true) (hs (ck true c n) false) q (FIN I true c) ∗ pc c (agM true) (hs (ck true c n) true) q (FIN I true c)) ∗ jk c oM (ocs true (ck true c n)))).next
    iprop((pc c (agM false) (hs (ck false c n) false) q (FIN I false c) ∗ pc c (agM false) (hs (ck false c n) true) q (FIN I false c)) ∗ pc c oM (ocs false (ck false c n)) fullShare (OUT I c)) h3 ?_) (Entails.of_eq ?_) (Entails.of_eq ?_)
  · ac_rfl
  · simp only [fO, X2, X4]; ac_rfl
  · simp only [fR, X2, X4]; ac_rfl

theorem ph_next (t : Fin 6) :
    TT I K c iprop((Ow c (4 * (t.val + 9)) ∗ XX I c) ∗ (fWC c ⟨t.val + 8, by omega⟩ ∗ fST c ⟨t.val + 9, by omega⟩ ∗ fO c (t.val + 8)))
      iprop((Ow c (4 * (t.val + 9) + 4) ∗ XX I c) ∗ (fSC c ⟨t.val + 9, by omega⟩ ∗ fZR c ⟨t.val + 8, by omega⟩ ∗ fLF I c (t.val + 8) ∗ fR I c (t.val + 8)))
      (gNext c t) := by
  have h1 := four_step (fun d u => step_next (I := I) (K := K) (c := c) d u t)
  have h2 := ph_copy (I := I) (K := K) (c := c) t.succ.castSucc.castSucc (by simp) (by show t.val + 1 ≤ 7; omega) fullShare.left (t.val + 8) (fun d => ck_copy d t)
  refine TT.conseq ((h1.frame iprop(XX I c ∗ fO c (t.val + 8))).next iprop(Ow c (4 * (t.val + 9) + 4) ∗ XX I c ∗ fSC c ⟨t.val + 9, by omega⟩ ∗ fZR c ⟨t.val + 8, by omega⟩) h2 ?_)
    (Entails.of_eq ?_) (Entails.of_eq ?_)
  · simp only [fSC, fZR, X4_sep]; ac_rfl
  · simp only [fWC, fST, X4_sep]; ac_rfl
  · simp only [fLF]; ac_rfl

theorem ph_end :
    TT I K c iprop((Ow c 60 ∗ XX I c) ∗ (fWC c 14 ∗ fO c 14))
      iprop((Ow c 60 ∗ XX I c) ∗ (fZR c 14 ∗ fJH c 14 ∗ fR I c 14))
      (gEnd c) := by
  have h1 := four_same (fun d u => (step_arrive (I := I) (K := K) (c := c) d u 6 60 (Or.inl rfl)).conseq
    (B' := iprop(Ow c 60 ∗ pc c (agM d) (hs (ck d c 14) u) fullShare (FIN I d c) ∗ zero c (true, d, u, 14)))
    (BI.Entails.refl _) (by
      iintro ⟨HO, ⟨HA, -⟩, Hz⟩
      isplitl [HO]; · iexact HO
      isplitl [HA]; · iexact HA
      iexact Hz))
  have h2 := ph_copy (I := I) (K := K) (c := c) 7 (by decide) (by decide) fullShare 14 (fun d => rfl)
  refine TT.conseq ((h1.frame iprop(XX I c ∗ fO c 14)).next iprop(Ow c 60 ∗ XX I c ∗ fZR c 14) h2 ?_) (Entails.of_eq ?_) ?_
  · simp only [fZR, X4_sep]; ac_rfl
  · show iprop((Ow c 60 ∗ XX I c) ∗ ((X4 fun d u => WC c (true, d, u, 14)) ∗ _)) = _
    ac_rfl
  · unfold X4 fJH X4
    iintro ⟨⟨⟨H1, H2, H3, H4⟩, HR⟩, HO, HX, HZ⟩
    isplitl [HO HX]; · isplitl [HO] <;> iassumption
    isplitl [HZ]; · iexact HZ
    isplitl [H1 H2 H3 H4]
    · isplitl [H1]; · iapply (pc_jk c (agM false)); iexact H1
      isplitl [H2]; · iapply (pc_jk c (agM false)); iexact H2
      isplitl [H3]; · iapply (pc_jk c (agM true)); iexact H3
      iapply (pc_jk c (agM true)); iexact H4
    iexact HR

theorem ph_left (s : Fin 7) :
    TT I K c iprop((Ow c 60 ∗ XX I c) ∗ (fSC c ⟨s.val, by omega⟩ ∗ fAP c ⟨s.val, by omega⟩)) iprop((Ow c 60 ∗ XX I c) ∗ fZS c ⟨s.val, by omega⟩)
      (four fun d u => gLeft c d u s) := by
  have h1 := four_same (fun d u => step_left (I := I) (K := K) (c := c) d u s)
  refine TT.conseq (h1.frame (XX I c)) (Entails.of_eq ?_) (Entails.of_eq ?_)
  · simp only [fSC, fAP, X4_sep]; ac_rfl
  · simp only [fZS]; ac_rfl

theorem ph_left2 (t : Fin 7) :
    TT I K c iprop((Ow c 60 ∗ XX I c) ∗ (fSC c ⟨t.val + 8, by omega⟩ ∗ fAP c ⟨t.val + 8, by omega⟩ ∗ fLF I c (t.val + 7)))
      iprop((Ow c 60 ∗ XX I c) ∗ (fZS c ⟨t.val + 8, by omega⟩ ∗ fJH c (t.val + 7)))
      (four fun d u => gLeft2 c d u t) := by
  have h1 := four_same (fun d u => step_left2 (I := I) (K := K) (c := c) d u t)
  refine TT.conseq (h1.frame (XX I c)) (Entails.of_eq ?_) (Entails.of_eq ?_)
  · simp only [fSC, fAP, fLF, X4_sep]; ac_rfl
  · simp only [fZS, fJH, X4_sep]; ac_rfl

/-! ### The phases in sequence -/

def aStep (c : Dev nD) (σ : Fin 15) (s : ℕ) : sProp 𝕄 := iprop(fNS c s ∗ fST c σ ∗ fJ c (s + 1) ∗ fWC c σ)
def dStep (c : Dev nD) (σ : Fin 15) (s : ℕ) : sProp 𝕄 := iprop(fSC c σ ∗ fSS c s ∗ fZR c σ)

theorem run_first :
    TT I K c iprop((Ow c 0 ∗ XX I c ∗ fCore I c 0) ∗ (aStep c 0 0 ∗ aStep c 1 1 ∗ aStep c 2 2 ∗ aStep c 3 3 ∗ aStep c 4 4 ∗ aStep c 5 5))
      iprop((Ow c 24 ∗ XX I c ∗ fCore I c 6) ∗ (dStep c 0 0 ∗ dStep c 1 1 ∗ dStep c 2 2 ∗ dStep c 3 3 ∗ dStep c 4 4 ∗ dStep c 5 5))
      (fun Q => gStep c (KV I c) (WV I c) 0 <| gStep c (KV I c) (WV I c) 1 <| gStep c (KV I c) (WV I c) 2 <| gStep c (KV I c) (WV I c) 3 <|
        gStep c (KV I c) (WV I c) 4 <| gStep c (KV I c) (WV I c) 5 Q) := by
  have h : ∀ (σ : Fin 15) (s : Fin 7), σ = ⟨s.val, by omega⟩ → TT I K c iprop((Ow c (4 * s.val) ∗ XX I c ∗ fCore I c s.val) ∗ aStep c σ s.val)
      iprop((Ow c (4 * s.val + 4) ∗ XX I c ∗ fCore I c (s.val + 1)) ∗ dStep c σ s.val) (gStep c (KV I c) (WV I c) s) := by
    rintro σ s rfl; exact ph_step s
  exact (h 0 0 rfl).chain ((h 1 1 rfl).chain ((h 2 2 rfl).chain ((h 3 3 rfl).chain ((h 4 4 rfl).chain (h 5 5 rfl)))))

def aNext (c : Dev nD) (σ σ' : Fin 15) (n : ℕ) : sProp 𝕄 := iprop(fWC c σ ∗ fST c σ' ∗ fO c n)
def dNext (I : Inp F) (c : Dev nD) (σ σ' : Fin 15) (n : ℕ) : sProp 𝕄 := iprop(fSC c σ' ∗ fZR c σ ∗ fLF I c n ∗ fR I c n)

theorem run_second :
    TT I K c iprop((Ow c 36 ∗ XX I c) ∗ (aNext c 8 9 8 ∗ aNext c 9 10 9 ∗ aNext c 10 11 10 ∗ aNext c 11 12 11 ∗ aNext c 12 13 12 ∗ aNext c 13 14 13))
      iprop((Ow c 60 ∗ XX I c) ∗ (dNext I c 8 9 8 ∗ dNext I c 9 10 9 ∗ dNext I c 10 11 10 ∗ dNext I c 11 12 11 ∗ dNext I c 12 13 12 ∗ dNext I c 13 14 13))
      (fun Q => gNext c 0 <| gNext c 1 <| gNext c 2 <| gNext c 3 <| gNext c 4 <| gNext c 5 Q) := by
  have h : ∀ (σ σ' : Fin 15) (t : Fin 6), σ = ⟨t.val + 8, by omega⟩ → σ' = ⟨t.val + 9, by omega⟩ → TT I K c iprop((Ow c (4 * (t.val + 9)) ∗ XX I c) ∗ aNext c σ σ' (t.val + 8))
      iprop((Ow c (4 * (t.val + 9) + 4) ∗ XX I c) ∗ dNext I c σ σ' (t.val + 8)) (gNext c t) := by
    rintro σ σ' t rfl rfl; exact ph_next t
  exact (h 8 9 0 rfl rfl).chain ((h 9 10 1 rfl rfl).chain ((h 10 11 2 rfl rfl).chain ((h 11 12 3 rfl rfl).chain ((h 12 13 4 rfl rfl).chain (h 13 14 5 rfl rfl)))))

theorem run_left :
    TT I K c iprop((Ow c 60 ∗ XX I c) ∗ ((fSC c 0 ∗ fAP c 0) ∗ (fSC c 1 ∗ fAP c 1) ∗ (fSC c 2 ∗ fAP c 2) ∗ (fSC c 3 ∗ fAP c 3) ∗ (fSC c 4 ∗ fAP c 4) ∗ (fSC c 5 ∗ fAP c 5) ∗ (fSC c 6 ∗ fAP c 6)))
      iprop((Ow c 60 ∗ XX I c) ∗ (fZS c 0 ∗ fZS c 1 ∗ fZS c 2 ∗ fZS c 3 ∗ fZS c 4 ∗ fZS c 5 ∗ fZS c 6))
      (fun Q => four (fun d u => gLeft c d u 0) <| four (fun d u => gLeft c d u 1) <| four (fun d u => gLeft c d u 2) <| four (fun d u => gLeft c d u 3) <|
        four (fun d u => gLeft c d u 4) <| four (fun d u => gLeft c d u 5) <| four (fun d u => gLeft c d u 6) Q) := by
  have h : ∀ (σ : Fin 15) (s : Fin 7), σ = ⟨s.val, by omega⟩ → TT I K c iprop((Ow c 60 ∗ XX I c) ∗ (fSC c σ ∗ fAP c σ)) iprop((Ow c 60 ∗ XX I c) ∗ fZS c σ)
      (four fun d u => gLeft c d u s) := by
    rintro σ s rfl; exact ph_left s
  exact (h 0 0 rfl).chain ((h 1 1 rfl).chain ((h 2 2 rfl).chain ((h 3 3 rfl).chain ((h 4 4 rfl).chain ((h 5 5 rfl).chain (h 6 6 rfl))))))

def aLeft (I : Inp F) (c : Dev nD) (σ : Fin 15) (n : ℕ) : sProp 𝕄 := iprop(fSC c σ ∗ fAP c σ ∗ fLF I c n)
def dLeft (c : Dev nD) (σ : Fin 15) (n : ℕ) : sProp 𝕄 := iprop(fZS c σ ∗ fJH c n)

theorem run_left2 :
    TT I K c iprop((Ow c 60 ∗ XX I c) ∗ (aLeft I c 8 7 ∗ aLeft I c 9 8 ∗ aLeft I c 10 9 ∗ aLeft I c 11 10 ∗ aLeft I c 12 11 ∗ aLeft I c 13 12 ∗ aLeft I c 14 13))
      iprop((Ow c 60 ∗ XX I c) ∗ (dLeft c 8 7 ∗ dLeft c 9 8 ∗ dLeft c 10 9 ∗ dLeft c 11 10 ∗ dLeft c 12 11 ∗ dLeft c 13 12 ∗ dLeft c 14 13))
      (fun Q => four (fun d u => gLeft2 c d u 0) <| four (fun d u => gLeft2 c d u 1) <| four (fun d u => gLeft2 c d u 2) <| four (fun d u => gLeft2 c d u 3) <|
        four (fun d u => gLeft2 c d u 4) <| four (fun d u => gLeft2 c d u 5) <| four (fun d u => gLeft2 c d u 6) Q) := by
  have h : ∀ (σ : Fin 15) (t : Fin 7), σ = ⟨t.val + 8, by omega⟩ → TT I K c iprop((Ow c 60 ∗ XX I c) ∗ aLeft I c σ (t.val + 7)) iprop((Ow c 60 ∗ XX I c) ∗ dLeft c σ (t.val + 7))
      (four fun d u => gLeft2 c d u t) := by
    rintro σ t rfl; exact ph_left2 t
  exact (h 8 0 rfl).chain ((h 9 1 rfl).chain ((h 10 2 rfl).chain ((h 11 3 rfl).chain ((h 12 4 rfl).chain ((h 13 5 rfl).chain (h 14 6 rfl))))))

end Cert.KernelIdeal.Rings
-- ==== Proof.Body.lean ====
module

public import proofs.«01_k».proof.Proof.Phases

/-!
# The body, after the barrier
-/

@[expose] public section

set_option maxRecDepth 4000

noncomputable section

namespace Cert.KernelIdeal.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {I : Inp F} {K : Dev nD × CI → ℕ} {c : Dev nD}

theorem etr {A B C : sProp 𝕄} (h : A ⊢ B) (h' : B ⊢ C) : A ⊢ C := h.trans h'
theorem smono {A B C D : sProp 𝕄} (h : A ⊢ B) (h' : C ⊢ D) : iprop(A ∗ C) ⊢ iprop(B ∗ D) := BIClass.sep_mono h h'

def S7 (X : ℕ → sProp 𝕄) (a : ℕ) : sProp 𝕄 := iprop(X a ∗ X (a + 1) ∗ X (a + 2) ∗ X (a + 3) ∗ X (a + 4) ∗ X (a + 5) ∗ X (a + 6))
def S15 (X : Fin 15 → sProp 𝕄) : sProp 𝕄 :=
  iprop(X 0 ∗ X 1 ∗ X 2 ∗ X 3 ∗ X 4 ∗ X 5 ∗ X 6 ∗ X 7 ∗ X 8 ∗ X 9 ∗ X 10 ∗ X 11 ∗ X 12 ∗ X 13 ∗ X 14)

/-- What the steps need besides the travelling half chunks. -/
def needs (c : Dev nD) : sProp 𝕄 :=
  iprop(S7 (fNS c) 0 ∗ S15 (fST c) ∗ S7 (fJ c) 1 ∗ S15 (fWC c) ∗ S15 (fAP c) ∗ fO7 c ∗ fPE c ∗ S7 (fO c) 8)
/-- What they leave. -/
def leaves (I : Inp F) (c : Dev nD) : sProp 𝕄 :=
  iprop(S7 (fSS c) 0 ∗ S15 (fZR c) ∗ S15 (fZS c) ∗ fES c ∗ fR7 I c ∗ S7 (fR I c) 8 ∗ S7 (fJH c) 7 ∗ fJH c 14)

/-- The steps after the first chunk's partial product. -/
def rest (I : Inp F) (c : Dev nD) (Q : PG (F := F)) : PG (F := F) :=
  gStep c (KV I c) (WV I c) 0 <| gStep c (KV I c) (WV I c) 1 <| gStep c (KV I c) (WV I c) 2 <| gStep c (KV I c) (WV I c) 3 <|
  gStep c (KV I c) (WV I c) 4 <| gStep c (KV I c) (WV I c) 5 <| gMid c (KV I c) (WV I c) <|
  gNext c 0 <| gNext c 1 <| gNext c 2 <| gNext c 3 <| gNext c 4 <| gNext c 5 <| gEnd c <|
  four (fun d u => gLeft c d u 0) <| four (fun d u => gLeft c d u 1) <| four (fun d u => gLeft c d u 2) <| four (fun d u => gLeft c d u 3) <|
  four (fun d u => gLeft c d u 4) <| four (fun d u => gLeft c d u 5) <| four (fun d u => gLeft c d u 6) <|
  four (fun d u => gLeft2 c d u 0) <| four (fun d u => gLeft2 c d u 1) <| four (fun d u => gLeft2 c d u 2) <| four (fun d u => gLeft2 c d u 3) <|
  four (fun d u => gLeft2 c d u 4) <| four (fun d u => gLeft2 c d u 5) <| four (fun d u => gLeft2 c d u 6) Q

theorem run_rest : TT I K c iprop((Ow c 0 ∗ XX I c ∗ fCore I c 0) ∗ needs c) iprop((Ow c 60 ∗ XX I c) ∗ leaves I c) (rest I c) := by
  have h1 := (run_first (I := I) (K := K) (c := c)).chain (ph_mid.chain (run_second.chain ph_end))
  have h2 := (run_left (I := I) (K := K) (c := c)).chain run_left2
  have h := (h1.frame iprop(fAP c 0 ∗ fAP c 1 ∗ fAP c 2 ∗ fAP c 3 ∗ fAP c 4 ∗ fAP c 5 ∗ fAP c 6 ∗ fAP c 8 ∗ fAP c 9 ∗ fAP c 10 ∗ fAP c 11 ∗ fAP c 12 ∗ fAP c 13 ∗ fAP c 14)).next
    iprop(S7 (fSS c) 0 ∗ S15 (fZR c) ∗ fZS c 7 ∗ fES c ∗ fR7 I c ∗ S7 (fR I c) 8 ∗ fJH c 14) h2 (by
      simp only [dStep, dNext, aLeft, S7, S15, Nat.reduceAdd]
      ac_rfl)
  refine TT.conseq h (Entails.of_eq ?_) (Entails.of_eq ?_)
  · simp only [needs, aStep, aNext, S7, S15, Nat.reduceAdd]
    ac_rfl
  · simp only [leaves, dLeft, S7, S15, Nat.reduceAdd]
    ac_rfl

/-! ### Whole buffers from their parts -/

section Parts
variable {s : Shape} {e : EltTy} (M : Memref sig .tc .vmem s e)

def bU (S : ℕ → Finset s.Idx) : ℕ → Finset s.Idx
  | 0 => ∅
  | n + 1 => bU S n ∪ S n
def fup (X : ℕ → sProp 𝕄) : ℕ → sProp 𝕄
  | 0 => iprop(emp)
  | n + 1 => iprop(fup X n ∗ X n)
theorem mem_bU {S : ℕ → Finset s.Idx} {i : s.Idx} (n : ℕ) : i ∈ bU S n ↔ ∃ k, k < n ∧ i ∈ S k := by
  induction n with
  | zero => simp [bU]
  | succ n ih =>
    rw [bU, Finset.mem_union, ih]
    constructor
    · rintro (⟨k, hk, hi⟩ | hi)
      · exact ⟨k, by omega, hi⟩
      · exact ⟨n, by omega, hi⟩
    · rintro ⟨k, hk, hi⟩
      by_cases h : k = n
      · subst h; exact Or.inr hi
      · exact Or.inl ⟨k, by omega, hi⟩
theorem bU_disj {S : ℕ → Finset s.Idx} {N : ℕ} (hd : ∀ k < N, ∀ k' < N, ∀ i, i ∈ S k → i ∈ S k' → k = k') {n : ℕ} (hn : n < N) : Disjoint (bU S n) (S n) := by
  rw [Finset.disjoint_left]
  intro i hi hi'
  obtain ⟨k, hk, hi⟩ := (mem_bU n).mp hi
  have := hd k (by omega) n hn i hi hi'
  omega

variable {S : ℕ → Finset s.Idx} {N : ℕ}

theorem pc_parts {q : PosShare TreeShare} {V : s.Idx → Elt F e} (hd : ∀ k < N, ∀ k' < N, ∀ i, i ∈ S k → i ∈ S k' → k = k') (n : ℕ) (hn : n ≤ N) :
    (pc c M (bU S n) q V : sProp 𝕄) ⊢ fup (fun k => pc c M (S k) q V) n := by
  induction n with
  | zero => unfold fup; iintro -; iempintro
  | succ n ih =>
    rw [bU, fup]
    iintro H
    ihave H := (pc_split c M (bU_disj hd (by omega))) $$ H
    icases H with ⟨H1, H2⟩
    isplitl [H1]
    · iapply (ih (by omega)); iexact H1
    iexact H2
theorem jk_parts (hd : ∀ k < N, ∀ k' < N, ∀ i, i ∈ S k → i ∈ S k' → k = k') (n : ℕ) (hn : n ≤ N) :
    (jk c M (bU S n) : sProp 𝕄) ⊢ fup (fun k => jk c M (S k)) n := by
  induction n with
  | zero => unfold fup; iintro -; iempintro
  | succ n ih =>
    rw [bU, fup]
    iintro H
    ihave H := (jk_split c M (bU_disj hd (by omega))) $$ H
    icases H with ⟨H1, H2⟩
    isplitl [H1]
    · iapply (ih (by omega)); iexact H1
    iexact H2
theorem parts_pc {q : PosShare TreeShare} {V : s.Idx → Elt F e} (hd : ∀ k < N, ∀ k' < N, ∀ i, i ∈ S k → i ∈ S k' → k = k') (n : ℕ) (hn : n + 1 ≤ N) :
    (fup (fun k => pc c M (S k) q V) (n + 1) : sProp 𝕄) ⊢ pc c M (bU S (n + 1)) q V := by
  induction n with
  | zero => rw [fup, bU, fup, bU, Finset.empty_union]; iintro ⟨-, H⟩; iexact H
  | succ n ih =>
    rw [fup, bU]
    iintro ⟨H1, H2⟩
    iapply (pc_join c M (bU_disj hd (by omega)))
    isplitl [H1]
    · iapply (ih (by omega)); iexact H1
    iexact H2
theorem parts_jk (hd : ∀ k < N, ∀ k' < N, ∀ i, i ∈ S k → i ∈ S k' → k = k') (n : ℕ) (hn : n + 1 ≤ N) :
    (fup (fun k => jk c M (S k)) (n + 1) : sProp 𝕄) ⊢ jk c M (bU S (n + 1)) := by
  induction n with
  | zero => rw [fup, bU, fup, bU, Finset.empty_union]; iintro ⟨-, H⟩; iexact H
  | succ n ih =>
    rw [fup, bU]
    iintro ⟨H1, H2⟩
    iapply (jk_join c M (bU_disj hd (by omega)))
    isplitl [H1]
    · iapply (ih (by omega)); iexact H1
    iexact H2

end Parts

theorem ck_inj (d : Bool) (a : ℕ) {k k' : ℕ} (h : k < 8) (h' : k' < 8) (he : ck d c (k + a) = ck d c (k' + a)) : k = k' := by
  have := congrArg (stepOf d c) he
  rw [stepOf_ck, stepOf_ck] at this; omega
theorem ck_onto0 (d : Bool) (c : Dev nD) : ∀ κ : Fin 8, ∃ k : Fin 8, ck d c k.val = κ.val := by revert d c; decide +kernel
theorem ck_onto7 (d : Bool) (c : Dev nD) : ∀ κ : Fin 8, ∃ k : Fin 8, ck d c (k.val + 7) = κ.val := by revert d c; decide +kernel

variable (d : Bool)

theorem cs_one {κ κ' : ℕ} {i : S2048x512.Idx} (h : i ∈ cs κ) (h' : i ∈ cs κ') : κ = κ' := by
  simp only [cs, Finset.mem_filter, Finset.mem_univ, true_and] at h h'; omega
theorem ocs_one {κ κ' : ℕ} {i : S4096x512.Idx} (h : i ∈ ocs d κ) (h' : i ∈ ocs d κ') : κ = κ' := by
  simp only [ocs, Finset.mem_filter, Finset.mem_univ, true_and] at h h'; omega
theorem cs_all0 : bU (fun k => cs (ck d c k)) 8 = (Finset.univ : Finset S2048x512.Idx) := by
  ext i; rw [mem_bU]; simp only [Finset.mem_univ, iff_true]
  have hi : (i 0).val < 2048 := (i 0).isLt
  obtain ⟨k, hk⟩ := ck_onto0 d c ⟨(i 0).val / 256, by omega⟩
  refine ⟨k.val, k.isLt, ?_⟩
  rw [hk]; simp only [cs, Finset.mem_filter, Finset.mem_univ, true_and]
theorem cs_all7 : bU (fun k => cs (ck d c (k + 7))) 8 = (Finset.univ : Finset S2048x512.Idx) := by
  ext i; rw [mem_bU]; simp only [Finset.mem_univ, iff_true]
  have hi : (i 0).val < 2048 := (i 0).isLt
  obtain ⟨k, hk⟩ := ck_onto7 d c ⟨(i 0).val / 256, by omega⟩
  refine ⟨k.val, k.isLt, ?_⟩
  rw [hk]; simp only [cs, Finset.mem_filter, Finset.mem_univ, true_and]
/-- The result's rows of a direction. -/
def od (d : Bool) : Finset S4096x512.Idx := Finset.univ.filter fun i => (i 0).val / 2048 = d.toNat
theorem ocs_all7 : bU (fun k => ocs d (ck d c (k + 7))) 8 = od d := by
  ext i; rw [mem_bU]
  have hi : (i 0).val < 4096 := (i 0).isLt
  simp only [od, ocs, Finset.mem_filter, Finset.mem_univ, true_and]
  constructor
  · rintro ⟨k, hk, h⟩
    have := ck_lt d c (k + 7); omega
  · intro h
    obtain ⟨k, hk⟩ := ck_onto7 d c ⟨(i 0).val % 2048 / 256, by omega⟩
    refine ⟨k.val, k.isLt, ?_⟩
    rw [hk]; show _ = _ + (i 0).val % 2048 / 256; omega
theorem od_all : (Finset.univ : Finset S4096x512.Idx) = od false ∪ od true := by
  ext i; have hi : (i 0).val < 4096 := (i 0).isLt
  simp only [od, Finset.mem_union, Finset.mem_filter, Finset.mem_univ, true_and, true_iff, Bool.toNat_false, Bool.toNat_true]; omega
theorem od_disj : Disjoint (od false) (od true) := by
  rw [Finset.disjoint_left]; intro i; simp only [od, Finset.mem_filter, Finset.mem_univ, true_and, Bool.toNat_false, Bool.toNat_true]; omega
/-- A stage slot. -/
def sl (s : ℕ) : Finset S7x256x512.Idx := Finset.univ.filter fun i => (i 0).val = s
theorem sl_halves (s : ℕ) : sl s = ss s false ∪ ss s true := by
  ext i; have h : (i 1).val < 256 := (i 1).isLt
  simp only [sl, ss, Finset.mem_union, Finset.mem_filter, Finset.mem_univ, true_and, Bool.toNat_false, Bool.toNat_true]; omega
theorem ss_disj (s : ℕ) : Disjoint (ss s false) (ss s true) := by
  rw [Finset.disjoint_left]; intro i; simp only [ss, Finset.mem_filter, Finset.mem_univ, true_and, Bool.toNat_false, Bool.toNat_true]; omega
theorem sl_all : bU sl 7 = (Finset.univ : Finset S7x256x512.Idx) := by
  ext i; rw [mem_bU]; simp only [Finset.mem_univ, iff_true]
  exact ⟨(i 0).val, (i 0).isLt, by simp only [sl, Finset.mem_filter, Finset.mem_univ, true_and]⟩

theorem sep_mono4 {A B C D A' B' C' D' : sProp 𝕄} (h1 : A ⊢ A') (h2 : B ⊢ B') (h3 : C ⊢ C') (h4 : D ⊢ D') : iprop(A ∗ B ∗ C ∗ D) ⊢ iprop(A' ∗ B' ∗ C' ∗ D') :=
  smono h1 (smono h2 (smono h3 h4))
theorem S7_mono {X Y : ℕ → sProp 𝕄} (h : ∀ k, X k ⊢ Y k) (a : ℕ) : S7 X a ⊢ S7 Y a :=
  smono (h _) (smono (h _) (smono (h _) (smono (h _) (smono (h _) (smono (h _) (h _))))))
theorem S7_sep (X Y : ℕ → sProp 𝕄) (a : ℕ) : S7 (fun k => iprop(X k ∗ Y k)) a = iprop(S7 X a ∗ S7 Y a) := by
  dsimp only [S7]; ac_rfl
theorem fup7 (X : ℕ → sProp 𝕄) : fup X 7 = S7 X 0 := by simp only [fup, S7, Nat.reduceAdd]; ac_rfl
theorem fup8a (X : ℕ → sProp 𝕄) : fup X 8 = iprop(X 0 ∗ S7 X 1) := by simp only [fup, S7, Nat.reduceAdd]; ac_rfl
theorem fup8b (X : ℕ → sProp 𝕄) : fup X 8 = iprop(S7 X 0 ∗ X 7) := by simp only [fup, S7, Nat.reduceAdd]; ac_rfl

/-- The gather buffers cut into chunks. -/
theorem start_ag : iprop(jk c (agM false) Finset.univ ∗ jk c (agM true) Finset.univ) ⊢ (iprop(fJ c 0 ∗ S7 (fJ c) 1) : sProp 𝕄) := by
  have h : ∀ d, (jk c (agM d) Finset.univ : sProp 𝕄) ⊢ fup (fun k => jk c (agM d) (cs (ck d c k))) 8 := fun d => by
    rw [← cs_all0 (c := c) d]
    exact jk_parts (agM d) (N := 8) (fun k hk k' hk' i hi hi' => ck_inj (c := c) d 0 hk hk' (cs_one hi hi')) 8 le_rfl
  refine (smono (h false) (h true)).trans (Entails.of_eq ?_)
  rw [fup8a, fup8a, show fJ (F := F) c = fun k => iprop(jk c (agM false) (cs (ck false c k)) ∗ jk c (agM true) (cs (ck true c k))) from rfl, S7_sep]
  ac_rfl
theorem end_ag : (iprop(S7 (fJH c) 7 ∗ fJH c 14) : sProp 𝕄) ⊢ iprop(jk c (agM false) Finset.univ ∗ jk c (agM true) Finset.univ) := by
  have h : ∀ d, (fup (fun k => jk c (agM d) (cs (ck d c (k + 7)))) 8 : sProp 𝕄) ⊢ jk c (agM d) Finset.univ := fun d => by
    rw [← cs_all7 (c := c) d]
    exact parts_jk (agM d) (N := 8) (fun k hk k' hk' i hi hi' => ck_inj (c := c) d 7 hk hk' (cs_one hi hi')) 7 le_rfl
  have hj : ∀ n, (fJH c n : sProp 𝕄) ⊢ iprop(jk c (agM false) (cs (ck false c n)) ∗ jk c (agM true) (cs (ck true c n))) := fun n => by
    unfold fJH X4
    rw [cs_halves, cs_halves]
    iintro ⟨H1, H2, H3, H4⟩
    isplitl [H1 H2]
    · iapply (jk_join c (agM false) (hs_disj _)); isplitl [H1] <;> iassumption
    · iapply (jk_join c (agM true) (hs_disj _)); isplitl [H3] <;> iassumption
  refine (smono (S7_mono hj 7) (hj 14)).trans (etr (Entails.of_eq ?_) (smono (h false) (h true)))
  rw [fup8b, fup8b, S7_sep]
  simp only [S7, Nat.reduceAdd]
  ac_rfl

/-- The stages. -/
theorem cut_st (c : Dev nD) : (jk c (stM d) Finset.univ : sProp 𝕄) ⊢ S7 (fun s => iprop(jk c (stM d) (ss s false) ∗ jk c (stM d) (ss s true))) 0 := by
  rw [← sl_all]
  refine (jk_parts (stM d) (N := 7) (fun k hk k' hk' i hi hi' => by
    simp only [sl, Finset.mem_filter, Finset.mem_univ, true_and] at hi hi'; omega) 7 le_rfl).trans ?_
  rw [fup7]
  exact S7_mono (fun s => by rw [sl_halves]; exact jk_split c (stM d) (ss_disj s)) 0
theorem join_st (c : Dev nD) : (S7 (fun s => iprop(jk c (stM d) (ss s false) ∗ jk c (stM d) (ss s true))) 0 : sProp 𝕄) ⊢ jk c (stM d) Finset.univ := by
  rw [← sl_all]
  refine etr ?_ (parts_jk (stM d) (N := 7) (fun k hk k' hk' i hi hi' => by
    simp only [sl, Finset.mem_filter, Finset.mem_univ, true_and] at hi hi'; omega) 6 le_rfl)
  rw [fup7]
  exact S7_mono (fun s => by rw [sl_halves]; exact jk_join c (stM d) (ss_disj s)) 0
theorem start_st : (iprop(jk (nx false c) (stM false) Finset.univ ∗ jk (nx true c) (stM true) Finset.univ) : sProp 𝕄) ⊢ S7 (fNS c) 0 := by
  refine (smono (cut_st false (nx false c)) (cut_st true (nx true c))).trans (Entails.of_eq ?_)
  simp only [S7, fNS, X4, Nat.reduceAdd]; ac_rfl
theorem end_st : (S7 (fSS c) 0 : sProp 𝕄) ⊢ iprop(jk c (stM false) Finset.univ ∗ jk c (stM true) Finset.univ) := by
  refine etr (Entails.of_eq ?_) (smono (join_st false c) (join_st true c))
  simp only [S7, fSS, X4, Nat.reduceAdd]; ac_rfl

/-- The exchange buffers. -/
theorem start_ex : (iprop(jk (partner c) (exM false) Finset.univ ∗ jk (partner c) (exM true) Finset.univ) : sProp 𝕄) ⊢ fPE c := by
  rw [es_halves]
  refine (smono (jk_split (partner c) (exM false) es_disj) (jk_split (partner c) (exM true) es_disj)).trans (Entails.of_eq ?_)
  simp only [fPE, X4]; ac_rfl
theorem end_ex : (fES c : sProp 𝕄) ⊢ iprop(jk c (exM false) Finset.univ ∗ jk c (exM true) Finset.univ) := by
  rw [es_halves]
  refine etr (Entails.of_eq ?_) (smono (jk_join c (exM false) es_disj) (jk_join c (exM true) es_disj))
  simp only [fES, X4]; ac_rfl

/-- The result. -/
theorem start_out : (jk c oM Finset.univ : sProp 𝕄) ⊢ iprop(fO7 c ∗ S7 (fO c) 8) := by
  have h : ∀ d, (jk c oM (od d) : sProp 𝕄) ⊢ iprop((jk c oM (ohs d (ck d c 7) false) ∗ jk c oM (ohs d (ck d c 7) true)) ∗ S7 (fun k => jk c oM (ocs d (ck d c (k + 7)))) 1) := fun d => by
    rw [← ocs_all7 (c := c) d]
    refine (jk_parts oM (N := 8) (fun k hk k' hk' i hi hi' => ck_inj (c := c) d 7 hk hk' (ocs_one d hi hi')) 8 le_rfl).trans ?_
    rw [fup8a]
    refine sep_mono_left ?_
    show jk c oM (ocs d (ck d c (0 + 7))) ⊢ _
    rw [ocs_halves]; exact jk_split c oM (ohs_disj d _)
  rw [od_all]
  refine (jk_split c oM od_disj).trans ((smono (h false) (h true)).trans (Entails.of_eq ?_))
  simp only [S7, fO, fO7, X2, X4, Nat.reduceAdd]
  ac_rfl
theorem end_out : (iprop(fR7 I c ∗ S7 (fR I c) 8) : sProp 𝕄) ⊢ pc c oM Finset.univ fullShare (OUT I c) := by
  have h : ∀ d, (iprop((pc c oM (ohs d (ck d c 7) false) fullShare (OUT I c) ∗ pc c oM (ohs d (ck d c 7) true) fullShare (OUT I c)) ∗ S7 (fun k => pc c oM (ocs d (ck d c (k + 7))) fullShare (OUT I c)) 1) : sProp 𝕄)
      ⊢ pc c oM (od d) fullShare (OUT I c) := fun d => by
    rw [← ocs_all7 (c := c) d]
    refine etr ?_ (parts_pc oM (N := 8) (fun k hk k' hk' i hi hi' => ck_inj (c := c) d 7 hk hk' (ocs_one d hi hi')) 7 le_rfl)
    rw [fup8a]
    refine sep_mono_left ?_
    show _ ⊢ pc c oM (ocs d (ck d c (0 + 7))) fullShare (OUT I c)
    rw [ocs_halves]; exact pc_join c oM (ohs_disj d _)
  rw [od_all]
  refine etr (Entails.of_eq ?_) ((smono (h false) (h true)).trans (pc_join c oM od_disj))
  simp only [S7, fR, fR7, X2, X4, Nat.reduceAdd]
  ac_rfl

end Cert.KernelIdeal.Rings
-- ==== Proof.Start.lean ====
module

public import proofs.«01_k».proof.Proof.Body

/-!
# The body from the barrier on
-/

@[expose] public section

set_option maxRecDepth 4000

noncomputable section

namespace Cert.KernelIdeal.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (K : Dev nD × CI → ℕ) (c : Dev nD)

/-- What a device has for the barrier. -/
def barN : sProp 𝕄 :=
  iprop(atPos ER (cell c none) 0 ∅ 0 ∗ cred (tallyAt (cell c none) () 3)
    ∗ dutyTok ER (cell (nx true c) none) 0 0 ∗ dutyTok ER (cell (nx false c) none) 0 1 ∗ dutyTok ER (cell (partner c) none) 0 2)
/-- The scratch buffers of a device. -/
def stB : sProp 𝕄 := iprop(jk c (stM false) Finset.univ ∗ jk c (stM true) Finset.univ)
def exB : sProp 𝕄 := iprop(jk c (exM false) Finset.univ ∗ jk c (exM true) Finset.univ)
def agB : sProp 𝕄 := iprop(jk c (agM false) Finset.univ ∗ jk c (agM true) Finset.univ)
/-- The staged arguments. -/
def kwR : sProp 𝕄 := iprop(pc c kM Finset.univ fullShare (I.k c) ∗ pc c wM Finset.univ fullShare (I.w c))
/-- What the transfers need. -/
def xfer : sProp 𝕄 := iprop(S15 (fST c) ∗ S15 (fWC c) ∗ S15 (fAP c))

variable {I K c}

theorem run_chunk : TT I K c iprop((Ow c 0 ∗ XX I c ∗ fJ c 0) ∗ needs c) iprop((Ow c 60 ∗ XX I c) ∗ leaves I c)
    (fun Q => gComp c (KV I c) (WV I c) false 1 <| gComp c (KV I c) (WV I c) true 1 <| rest I c Q) := by
  have h1 := (ph_comp (I := I) (K := K) (c := c) 1 0 (fun d => ck_add8 d c 0)).frame iprop(Ow c 0 ∗ needs c)
  have h2 : TT I K c iprop((Ow c 0 ∗ XX I c ∗ fJ c 0) ∗ needs c) iprop((Ow c 0 ∗ XX I c ∗ fCore I c 0) ∗ needs c)
      (fun Q => gComp c (KV I c) (WV I c) false 1 <| gComp c (KV I c) (WV I c) true 1 Q) := TT.conseq h1 (Entails.of_eq ?_) (Entails.of_eq ?_)
  · exact TT.comp (g := rest I c) h2 run_rest
  · ac_rfl
  · rw [show fCore I c 0 = fLL I c 0 from ?_]
    · ac_rfl
    · unfold fCore fLL
      refine congrArg X4 (funext fun d => funext fun u => ?_)
      show iprop(pc c (agM d) (hs (ck d c 0) u) fullShare (LL I d c) ∗ emp) = _
      exact sep_emp_eq _

theorem wp_end (Kt : PUnit.{1} → sProp 𝕄) : (iprop(|={Set.univ}=> Kt ⟨⟩) : sProp 𝕄) ⊢ WP c (.ret ⟨⟩) Kt := by
  unfold WP; rw [wp_ret]

set_option maxRecDepth 100000 in
theorem run_prog (W : Waits sig Unit) (Kt : PUnit.{1} → sProp 𝕄) :
    iprop(Rec I K ∗ (owes (c : Thread nD τ) (O0 c) W ∗ barN c ∗ stB c ∗ exB c ∗ agB c ∗ XX I c ∗ kwR I c ∗ jk c oM Finset.univ ∗ xfer c)
      ∗ ((Ow c 60 ∗ S15 (fZR c) ∗ S15 (fZS c) ∗ semVal (cell c none) 0 ∗ stB c ∗ exB c ∗ agB c ∗ XX I c ∗ kwR I c
          ∗ pc c oM Finset.univ fullShare (OUT I c)) -∗ |={Set.univ}=> Kt ⟨⟩))
      ⊢ WP c (prog c) Kt := by
  have e (x : Dev nD) (δ : Fin 3) : barPay x δ = (Rd I).payload ((x : Thread nD τ), SemLoc.reg barS) 0 δ := (payload_bar I x δ).symm
  have hd (x : Dev nD) (δ : Fin 3) : δ ∈ (Rd I).duties ((x : Thread nD τ), SemLoc.reg barS) 0 := by
    rw [show (Rd I).duties ((x : Thread nD τ), SemLoc.reg barS) 0 = Finset.univ from duties_bar I x]; exact Finset.mem_univ _
  have ha (x : Dev nD) (δ : Fin 3) : (Rd I).amount ((x : Thread nD τ), SemLoc.reg barS) 0 δ = 1 := amount_bar I x δ
  have hp0 : (stB c : sProp 𝕄) ⊢ iprop(barPay (nx true c) 0 ∗ barPay (nx false c) 1) := by
    unfold barPay stB
    dsimp only
    rw [show nx false (nx true c) = c from pv_nx true c, show nx true (nx false c) = c from pv_nx false c]
  have hp2 : (exB c : sProp 𝕄) ⊢ barPay (partner c) 2 := by
    unfold barPay exB
    dsimp only
    rw [partner_partner]
  have hw : Rec I K ⊢ MayWait (c : Thread nD τ) (csem none) () (OW c 0) :=
    rec_wait I K c (csem none) 0 (by rw [show lvl ((c : Thread nD τ), csem none) () = _ from lvl_bar c]; omega)
  have ht := run_chunk (I := I) (K := K) (c := c) (.ret ⟨⟩) Kt
  dsimp only [rest] at ht
  unfold KV WV at ht
  have hb0 : barPay (F := F) c 0 = jk (nx false c) (stM false) Finset.univ := rfl
  have hb1 : barPay (F := F) c 1 = jk (nx true c) (stM true) Finset.univ := rfl
  have hb2 : barPay (F := F) c 2 = iprop(jk (partner c) (exM false) Finset.univ ∗ jk (partner c) (exM true) Finset.univ) := rfl
  unfold prog barN kwR xfer
  simp only [dev1_eq c, dev2_eq c, dev3_eq c]
  iintro ⟨#R, ⟨HO, ⟨HatB, HcB, Ht0, Ht1, Ht2⟩, Hst, Hex, Hag, HX, ⟨HK, HW⟩, Ho, HST, HWC, HAP⟩, Hk⟩
  ihave #I0 := (rec_inv I K c none) $$ R
  ihave #I1 := (rec_inv I K (nx true c) none) $$ R
  ihave #I2 := (rec_inv I K (nx false c) none) $$ R
  ihave #I3 := (rec_inv I K (partner c) none) $$ R
  ihave #R1 := (rec_reached I K (nx true c) none) $$ R
  ihave #R2 := (rec_reached I K (nx false c) none) $$ R
  ihave #R3 := (rec_reached I K (partner c) none) $$ R
  ihave Hst := hp0 $$ Hst
  icases Hst with ⟨Hs0, Hs1⟩
  ihave Hex := hp2 $$ Hex
  iapply (Rounds.wp_signal 𝒱₀ ER (Rd I) (c : Thread nD τ) none (dst := (nx true c : Thread nD τ)) (κ := K (nx true c, none))
      (d := 0) (hd (nx true c) 0) ((ha (nx true c) 0).trans (by decide)) () (O1 c) rfl) $$ [HO Ht0 Hs0]
  · isplitr; · iexact I1
    isplitl [HO]; · iexact HO
    isplitl [Ht0]; · iexact Ht0
    isplitl [Hs0]; · iapply (Entails.of_eq (e (nx true c) 0)); iexact Hs0
    iexact R1
  iintro HO
  iapply (Rounds.wp_signal 𝒱₀ ER (Rd I) (c : Thread nD τ) none (dst := (nx false c : Thread nD τ)) (κ := K (nx false c, none))
      (d := 1) (hd (nx false c) 1) ((ha (nx false c) 1).trans (by decide)) () (O2 c) rfl) $$ [HO Ht1 Hs1]
  · isplitr; · iexact I2
    isplitl [HO]; · iexact HO
    isplitl [Ht1]; · iexact Ht1
    isplitl [Hs1]; · iapply (Entails.of_eq (e (nx false c) 1)); iexact Hs1
    iexact R2
  iintro HO
  iapply (Rounds.wp_signal 𝒱₀ ER (Rd I) (c : Thread nD τ) none (dst := (partner c : Thread nD τ)) (κ := K (partner c, none))
      (d := 2) (hd (partner c) 2) ((ha (partner c) 2).trans (by decide)) () (OW c 0) rfl) $$ [HO Ht2 Hex]
  · isplitr; · iexact I3
    isplitl [HO]; · iexact HO
    isplitl [Ht2]; · iexact Ht2
    isplitl [Hex]; · iapply (Entails.of_eq (e (partner c) 2)); iexact Hex
    iexact R3
  iintro HO
  iapply (Rounds.wp_wait_rest_token 𝒱₀ ER (Rd I) (c : Thread nD τ) none (κ := K (c, none))
      (wpE_semWait_eq 𝒱₀ (c : Thread nD τ) none Set.univ) (Set.mem_univ _) () (O := OW c 0) (W := W) (R := 0) (m := 0) (T := ∅)
      (by rw [show (Rd I).expect ((c : Thread nD τ), SemLoc.reg barS) 0 = 3 from expect_bar I c]; decide)) $$ [HcB HO HatB]
  · isplitr; · iexact I0
    isplitl [HcB]; · iexact HcB
    isplitl [HO]; · iexact HO
    isplitr; · iapply hw; iexact R
    iexact HatB
  iintro ⟨HO, HatB, -, Hp⟩
  ihave Hp := (Entails.of_eq (show bigSep ((Rd I).duties ((c : Thread nD τ), SemLoc.reg barS) 0 \ ∅) (fun δ => (Rd I).payload ((c : Thread nD τ), SemLoc.reg barS) 0 δ) = _ from rest_bar I c)) $$ Hp
  icases Hp with ⟨Hs0, Hs1, Hex⟩
  imod (Rounds.cell_close ER (Rd I) (Set.mem_univ (K (c, none))) (fun h => h) (R := 0 + 1) (duties_later I (cell c none))) $$ [HatB] with Hz
  · isplitr; · iexact I0
    iexact HatB
  iapply (pc_load c kM (Rect.unit (s := S4x512) ![0, 0] S4x512.size inb_S4x512_S4x512_0_0) (Finset.subset_univ _))
  isplitl [HK]; · iexact HK
  iintro HK
  iapply (pc_load c wM (Rect.unit (s := S512x512) ![0, 0] S512x512.size inb_S512x512_S512x512_0_0) (Finset.subset_univ _))
  isplitl [HW]; · iexact HW
  iintro HW
  ihave Hag := (show (agB c : sProp 𝕄) ⊢ _ from start_ag (c := c)) $$ Hag
  icases Hag with ⟨Hj0, Hj⟩
  iapply ht
  isplitr; · iexact R
  isplitr [Hz HK HW Hk]
  · isplitl [HO HX Hj0]
    · isplitl [HO]; · unfold Ow; iexists _; iexact HO
      isplitl [HX]; · iexact HX
      iexact Hj0
    unfold needs
    ihave Ho := (start_out (c := c)) $$ Ho
    icases Ho with ⟨Ho7, Ho8⟩
    isplitl [Hs0 Hs1]
    · iapply (start_st (c := c)); isplitl [Hs0]; · iapply (Entails.of_eq hb0); iexact Hs0
      iapply (Entails.of_eq hb1); iexact Hs1
    isplitl [HST]; · iexact HST
    isplitl [Hj]; · iexact Hj
    isplitl [HWC]; · iexact HWC
    isplitl [HAP]; · iexact HAP
    isplitl [Ho7]; · iexact Ho7
    isplitl [Hex]; · iapply (start_ex (c := c)); iapply (Entails.of_eq hb2); iexact Hex
    iexact Ho8
  unfold leaves
  iintro ⟨⟨HO, HX⟩, HSS, HZR, HZS, HES, HR7, HR, HJ7, HJ14⟩
  iapply (wp_end (c := c) Kt)
  iapply Hk
  isplitl [HO]; · iexact HO
  isplitl [HZR]; · iexact HZR
  isplitl [HZS]; · iexact HZS
  isplitl [Hz]; · iexact Hz
  isplitl [HSS]; · iapply (show _ ⊢ stB c from end_st (c := c)); iexact HSS
  isplitl [HES]; · iapply (show _ ⊢ exB c from end_ex (c := c)); iexact HES
  isplitl [HJ7 HJ14]; · iapply (show _ ⊢ agB c from end_ag (c := c)); isplitl [HJ7] <;> iassumption
  isplitl [HX]; · iexact HX
  isplitl [HK HW]; · isplitl [HK] <;> iassumption
  iapply (end_out (c := c)); isplitl [HR7] <;> iassumption

end Cert.KernelIdeal.Rings
-- ==== Proof.Deal.lean ====
module

public import proofs.«01_k».proof.Proof.Start

/-!
# What the launch deals to each device
-/

@[expose] public section

set_option maxRecDepth 4000

noncomputable section

namespace Cert.KernelIdeal.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ### Families as products -/

abbrev YI : Type := Bool × Bool × Fin 15

theorem bigO (Φ : CI → sProp 𝕄) : bigSep Finset.univ Φ = iprop(Φ none ∗ bigSep Finset.univ fun x : XI => Φ (some x)) := by
  rw [bigSep_univ_equiv (Equiv.optionEquivSumPUnit XI).symm Φ, bigSep_univ_sum]
  have h : (bigSep Finset.univ fun b : PUnit.{1} => Φ ((Equiv.optionEquivSumPUnit XI).symm (.inr b))) = Φ none := by
    rw [bigSep_univ_eq_bigSepL [PUnit.unit] (by decide) (by decide), bigSepL_singleton]; rfl
  rw [h]
  have h2 : (bigSep Finset.univ fun a : XI => Φ ((Equiv.optionEquivSumPUnit XI).symm (.inl a))) = bigSep Finset.univ fun x : XI => Φ (some x) := rfl
  rw [h2]
  show iprop(_ ∗ _) = iprop(_ ∗ _)
  ac_rfl

theorem bigB (Φ : Bool → sProp 𝕄) : bigSep Finset.univ Φ = iprop(Φ false ∗ Φ true) := bigSep_univ_eq_bigSepL [false, true] (by decide) (by decide) Φ
theorem big3 (Φ : Fin 3 → sProp 𝕄) : bigSep Finset.univ Φ = iprop(Φ 0 ∗ Φ 1 ∗ Φ 2) := bigSep_univ_eq_bigSepL [0, 1, 2] (by decide) (by decide) Φ
theorem big15 (Φ : Fin 15 → sProp 𝕄) : bigSep Finset.univ Φ = S15 Φ :=
  bigSep_univ_eq_bigSepL [0, 1, 2, 3, 4, 5, 6, 7, 8, 9, 10, 11, 12, 13, 14] (by decide) (by decide) Φ

theorem bigY (Φ : YI → sProp 𝕄) : bigSep Finset.univ Φ = S15 fun σ => X4 fun d u => Φ (d, u, σ) := by
  rw [bigSep_univ_prod, bigB, bigSep_univ_prod, bigSep_univ_prod, bigB, bigB, big15, big15, big15, big15]
  dsimp only [S15, X4]
  ac_rfl
theorem bigX (Φ : XI → sProp 𝕄) : bigSep Finset.univ Φ = iprop((bigSep Finset.univ fun y : YI => Φ (false, y)) ∗ bigSep Finset.univ fun y : YI => Φ (true, y)) := by
  rw [bigSep_univ_prod, bigB]

/-! ### Cells and tokens at launch -/

def ringCells : Finset (GSem nD τ sig) := Finset.univ.map ⟨kcell, kcell_injective⟩
def tokOf (t : Dev nD × (Fin 3 ⊕ XI)) : GSem nD τ sig × ℕ × Fin 3 := match t.2 with
  | .inl δ => (cell t.1 none, 0, δ)
  | .inr x => (cell t.1 (some x), 0, 0)
theorem tokOf_injective : Function.Injective tokOf := by
  rintro ⟨c, j⟩ ⟨c', j'⟩ h
  have h1 : (tokOf (c, j)).1 = (tokOf (c', j')).1 := congrArg Prod.fst h
  have h2 : (tokOf (c, j)).2.2 = (tokOf (c', j')).2.2 := congrArg (fun x => x.2.2) h
  rcases j with δ | x <;> rcases j' with δ' | x'
  · obtain ⟨rfl, _⟩ := cell_inj (show cell c none = cell c' none from h1)
    obtain rfl : δ = δ' := h2; rfl
  · cases (cell_inj (show cell c none = cell c' (some x') from h1)).2
  · cases (cell_inj (show cell c (some x) = cell c' none from h1)).2
  · obtain ⟨rfl, he⟩ := cell_inj (show cell c (some x) = cell c' (some x') from h1)
    cases he; rfl
def ringToks : Finset (GSem nD τ sig × ℕ × Fin 3) := Finset.univ.map ⟨tokOf, tokOf_injective⟩

def u₀ : UU := (initOf (Pipeline.cells cfgs cellOf_inj) (Pipeline.launchToks cfgs cellOf_inj), initOf ringCells ringToks)

/-- The tokens of a device's own cells. -/
def toks (c : Dev nD) : sProp 𝕄 :=
  iprop((dutyTok ER (cell c none) 0 0 ∗ dutyTok ER (cell c none) 0 1 ∗ dutyTok ER (cell c none) 0 2)
    ∗ (bigSep Finset.univ fun y : YI => dutyTok ER (cell c (some (false, y))) 0 0)
    ∗ (bigSep Finset.univ fun y : YI => dutyTok ER (cell c (some (true, y))) 0 0))
/-- The tokens a device pays with. -/
def payToks (c : Dev nD) : sProp 𝕄 :=
  iprop((dutyTok ER (cell (nx true c) none) 0 0 ∗ dutyTok ER (cell (nx false c) none) 0 1 ∗ dutyTok ER (cell (partner c) none) 0 2)
    ∗ (bigSep Finset.univ fun y : YI => dutyTok ER (cell c (some (false, y))) 0 0)
    ∗ (bigSep Finset.univ fun y : YI => dutyTok ER (cell (tgt y.1 y.2.2.val c) (some (true, y))) 0 0))
def linear (c : Dev nD) : sProp 𝕄 := iprop((bigSep Finset.univ fun k : CI => atPos ER (kcell (c, k)) 0 ∅ 0) ∗ payToks c)

def eN (d : Bool) : Dev nD ≃ Dev nD := ⟨nx d, pv d, pv_nx d, nx_pv d⟩
def eP : Dev nD ≃ Dev nD := ⟨partner, partner, partner_partner, partner_partner⟩
def eY : Dev nD × YI ≃ Dev nD × YI :=
  ⟨fun p => (tgt p.2.1 p.2.2.2.val p.1, p.2), fun p => (frm p.2.1 p.2.2.2.val p.1, p.2),
    fun p => Prod.ext (frm_tgt p.2.1 p.2.2.2.val p.1) rfl, fun p => Prod.ext (tgt_frm p.2.1 p.2.2.2.val p.1) rfl⟩

theorem toks_around : (bigSep Finset.univ fun c : Dev nD => (toks c : sProp 𝕄)) ⊢ bigSep Finset.univ fun c : Dev nD => payToks c := by
  have hY : (bigSep Finset.univ fun c : Dev nD => bigSep Finset.univ fun y : YI => (dutyTok ER (cell c (some (true, y))) 0 0 : sProp 𝕄))
      = bigSep Finset.univ fun c : Dev nD => bigSep Finset.univ fun y : YI => dutyTok ER (cell (tgt y.1 y.2.2.val c) (some (true, y))) 0 0 := by
    rw [← bigSep_univ_prod (fun p : Dev nD × YI => (dutyTok ER (cell p.1 (some (true, p.2))) 0 0 : sProp 𝕄)),
      ← bigSep_univ_prod (fun p : Dev nD × YI => (dutyTok ER (cell (tgt p.2.1 p.2.2.2.val p.1) (some (true, p.2))) 0 0 : sProp 𝕄))]
    exact bigSep_univ_equiv eY (fun p : Dev nD × YI => (dutyTok ER (cell p.1 (some (true, p.2))) 0 0 : sProp 𝕄))
  refine Entails.of_eq ?_
  unfold toks payToks
  rw [bigSep_sep', bigSep_sep', bigSep_sep', bigSep_sep', bigSep_sep', bigSep_sep', bigSep_sep', bigSep_sep', hY,
    bigSep_univ_equiv (eN true) (fun c : Dev nD => (dutyTok ER (cell c none) 0 0 : sProp 𝕄)),
    bigSep_univ_equiv (eN false) (fun c : Dev nD => (dutyTok ER (cell c none) 0 1 : sProp 𝕄)),
    bigSep_univ_equiv eP (fun c : Dev nD => (dutyTok ER (cell c none) 0 2 : sProp 𝕄))]
  rfl

variable (I : Inp F)

/-- What the launch element deals a device. -/
def G (c : Dev nD) : sProp 𝕄 :=
  iprop((bigSep Finset.univ fun k : CI => roundState ER (Rd I) (kcell (c, k)) 0)
    ∗ (bigSep Finset.univ fun k : CI => iprop(atPos ER (kcell (c, k)) 0 ∅ 0 ∗ reached ER (kcell (c, k)) 0)) ∗ toks c)
def records (K : Dev nD × CI → ℕ) : sProp 𝕄 :=
  iprop((bigSep Finset.univ fun ck : Dev nD × CI => cellInv ER (Rd I) (K ck) (kcell ck))
    ∗ bigSep Finset.univ fun ck : Dev nD × CI => reached ER (kcell ck) 0)
instance records_persistent (K : Dev nD × CI → ℕ) : BI.Persistent (records I K) := by unfold records; infer_instance
/-- What the global step makes of it. -/
def G' (c : Dev nD) : sProp 𝕄 := iprop(∃ K, records I K ∗ linear c)

theorem fund_ring : BI.own (ER (initOf ringCells ringToks)) ⊢ (|==> bigSep Finset.univ (G I) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, big3, bigX]; rfl
  iintro HX
  imod (Rounds.fund ER (Rd I) ringCells ringToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The semaphores -/

/-- The kernel's own semaphores. -/
abbrev osem (x : XI) : SemLoc sig := .dma (dsem x)
theorem ownSemFacts : Pipeline.OwnSemFacts cfg0.spec osem :=
  ⟨by decide +kernel, fun x y h => dsem_injective x y (SemLoc.dma.inj h), by decide +kernel⟩

theorem ownSems0_eq (c : Dev nD) : (Pipeline.ownSems0 (Ix := Unit) (Name := ℕ) (U := UU) (Lvl := ℕ) (Val := Elt F) (τ := τ) osem c : sProp 𝕄)
    = iprop(S15 (fZS c) ∗ S15 (fZR c)) := by
  unfold Pipeline.ownSems0; rw [bigX, bigY, bigY]; rfl
theorem unscopedSems0_eq (c : Dev nD) : (unscopedSems0 c : sProp 𝕄) = semVal (cell c none) 0 := by
  unfold unscopedSems0; rw [bigSep_eq_bigSepL_of_eq [SemLoc.reg barS] (by decide) (by decide)]; rfl
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [bigO, unscopedSems0_eq]
  unfold Pipeline.ownSems0
  iintro ⟨H1, H2⟩
  isplitl [H2]; · iexact H2
  iexact H1

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (Rd I) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd I) (kcell (c, k)) 0)
      ⊢ (|={Set.univ}=> bigSep Finset.univ fun k => iprop(∃ κ : ℕ, cellInv ER (Rd I) κ (kcell (c, k))) : sProp 𝕄) from by
        rw [← bigSep_sep']
        exact (bigSep_mono fun k _ => (Rounds.body_intro ER (Rd I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CI → ℕ) (c : Dev nD) : iprop(records I K ∗ linear c) ⊢ G' I c := by
  unfold G'
  iintro H; iexists K; iexact H

theorem regroup :
    (bigSep Finset.univ fun c : Dev nD => iprop((bigSep Finset.univ fun k => iprop(∃ κ : ℕ, cellInv ER (Rd I) κ (kcell (c, k))))
          ∗ (bigSep Finset.univ fun k => iprop(atPos ER (kcell (c, k)) 0 ∅ 0 ∗ reached ER (kcell (c, k)) 0)) ∗ toks c) : sProp 𝕄)
      ⊢ bigSep Finset.univ (G' I) := by
  rw [bigSep_sep', bigSep_sep', ← bigSep_univ_prod (fun ck : Dev nD × CI => iprop(∃ κ : ℕ, cellInv ER (Rd I) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd I) κ (kcell ck) : sProp 𝕄))) $$ HI
  icases HK with ⟨%K, #HI⟩
  ihave Htk := (toks_around (F := F)) $$ Htok
  iapply (with_persistent (R := records I K) fun c _ => ghost_intro I K c)
  isplitr
  · unfold records; isplitl; · iexact HI
    iexact HR
  · iapply (Entails.of_eq (bigSep_sep' Finset.univ (fun c : Dev nD => bigSep Finset.univ fun k : CI => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ### The launch credit -/

theorem tcell_ne_bar (c c' : Dev nD) (n : ℕ) : cell c none ≠ tcell c' n := fun h => by cases (cell_inj h).2
theorem bar_if (e : Dev nD ≃ Dev nD) (d c : Dev nD) :
    (tallyAt (cell (e d) none) () 1 : CellTallies nD τ sig Unit) (cell c none) () = if d = e.symm c then 1 else 0 := by
  rw [tallyAt_apply]
  refine if_congr ⟨?_, ?_⟩ rfl rfl
  · rintro ⟨h, _⟩; rw [(cell_inj h).1]; exact (e.symm_apply_apply d).symm
  · rintro rfl; rw [e.apply_symm_apply]; exact ⟨rfl, rfl⟩
theorem bar_ne (x : XI) (d c : Dev nD) : (tallyAt (cell d none) () 1 : CellTallies nD τ sig Unit) (cell c (some x)) () = 0 := by
  rw [tallyAt_apply, if_neg]; rintro ⟨h, _⟩; cases (cell_inj h).2

theorem owed_bar (d c : Dev nD) : O0 d (cell c none) ()
    = (if d = eP.symm c then 1 else 0) + (if d = (eN false).symm c then 1 else 0) + (if d = (eN true).symm c then 1 else 0) := by
  have h0 : OW d 0 (cell c none) () = 0 := by
    by_contra h
    obtain ⟨n, _, _, hn⟩ := OW_pos (Nat.pos_of_ne_zero h)
    exact tcell_ne_bar c d n hn
  unfold O0 O1 O2
  rw [Pi.add_apply, Finsupp.add_apply, Pi.add_apply, Finsupp.add_apply, Pi.add_apply, Finsupp.add_apply, h0, Nat.zero_add]
  exact congrArg₂ (· + ·) (congrArg₂ (· + ·) (bar_if eP d c) (bar_if (eN false) d c)) (bar_if (eN true) d c)
theorem owed_recv (y : YI) (d c : Dev nD) : O0 d (cell c (some (true, y))) () = if d = frm y.1 y.2.2.val c then NN else 0 := by
  unfold O0 O1 O2
  rw [Pi.add_apply, Finsupp.add_apply, Pi.add_apply, Finsupp.add_apply, Pi.add_apply, Finsupp.add_apply, bar_ne, bar_ne, bar_ne, Nat.add_zero]
  unfold OW
  classical
  rw [OWr_apply d _ 60 le_rfl]
  refine if_congr ⟨?_, ?_⟩ rfl rfl
  · rintro ⟨n, _, _, h⟩
    obtain ⟨h1, h2⟩ := cell_inj h
    rw [← Option.some.inj h2] at h1
    rw [h1]; exact (frm_tgt y.1 y.2.2.val d).symm
  · rintro rfl
    obtain ⟨b, u, σ⟩ := y
    refine ⟨ordN b u σ.val, by omega, ?_, ?_⟩
    · have := σ.isLt; have := (jx b u).isLt; unfold ordN; omega
    · rw [tcell_ord]; show _ = cell (tgt b σ.val (frm b σ.val c)) _; rw [tgt_frm]

theorem launch_bar (c : Dev nD) :
    tallyOn (cell c none) (launchCredit (Pipeline.owing O0) 0 (cell c none)) = (tallyAt (cell c none) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ _ fun _ => 1, Finset.sum_ite_eq' Finset.univ _ fun _ => 1, Finset.sum_ite_eq' Finset.univ _ fun _ => 1,
    if_pos (Finset.mem_univ _), if_pos (Finset.mem_univ _), if_pos (Finset.mem_univ _)]
theorem launch_recv (y : YI) (c : Dev nD) :
    tallyOn (cell c (some (true, y))) (launchCredit (Pipeline.owing O0) 0 (cell c (some (true, y)))) = (tallyAt (cell c (some (true, y))) () NN : CellTallies nD τ sig Unit) := by
  unfold tallyAt; refine congrArg _ (Finsupp.ext fun u => ?_); cases u
  rw [Pipeline.launchCredit_owing, Finsupp.single_eq_same, Finset.sum_congr rfl fun d _ => owed_recv y d c, Finset.sum_ite_eq' Finset.univ _ fun _ => NN,
    if_pos (Finset.mem_univ _)]

def recvEmb : YI ↪ SemLoc sig := ⟨fun y => csem (some (true, y)), fun y y' h => congrArg Prod.snd (Option.some.inj (csem_injective h))⟩

theorem creds (c : Dev nD) :
    (Pipeline.launchCred O0 c : sProp 𝕄) ⊢ iprop(cred (tallyAt (cell c none) () 3) ∗ bigSep Finset.univ fun y : YI => cred (tallyAt (cell c (some (true, y))) () NN)) := by
  unfold Pipeline.launchCred
  rw [bigSep_univ_at _ (SemLoc.reg barS)]
  refine smono (Entails.of_eq (congrArg _ (launch_bar c))) ?_
  refine etr (bigSep_subset (t := Finset.univ.map recvEmb) ?_) ?_
  · intro g hg
    obtain ⟨y, _, rfl⟩ := Finset.mem_map.mp hg
    exact Finset.mem_erase.mpr ⟨(fun h => by cases (show (SemLoc.dma (dsem (true, y)) : SemLoc sig) = .reg barS from h)), Finset.mem_univ _⟩
  · rw [bigSep_map]
    exact bigSep_mono fun y _ => Entails.of_eq (congrArg (fun t => (cred t : sProp 𝕄)) (launch_recv y c))

/-! ### Waits of the staging cells -/

theorem lvl_other (c : Dev nD) (sm : SemLoc sig) (h : ∀ k : CI, csem k ≠ sm) : lvl ((c : Thread nD τ), sm) () = 0 := by
  have hd : dec sm = none := by
    by_contra hn
    obtain ⟨k, hk⟩ := Option.ne_none_iff_exists'.mp hn
    exact h k ((Function.partialInv_of_injective csem_injective k sm).mp hk)
  unfold lvl; rw [hd]

theorem O0_pos {c : Dev nD} {g : GSem nD τ sig} {i : Unit} (h : 0 < O0 c g i) : ∃ c' k, g = cell c' k ∧ 0 < lvl (cell c' k) () := by
  by_cases h1 : g = cell (nx true c) none
  · exact ⟨_, _, h1, by rw [lvl_bar]; decide⟩
  by_cases h2 : g = cell (nx false c) none
  · exact ⟨_, _, h2, by rw [lvl_bar]; decide⟩
  by_cases h3 : g = cell (partner c) none
  · exact ⟨_, _, h3, by rw [lvl_bar]; decide⟩
  have hz (c' : Dev nD) (hn : g ≠ cell c' none) : (tallyAt (cell c' none) () 1 : CellTallies nD τ sig Unit) g i = 0 := by
    rw [tallyAt_apply, if_neg (fun h' => hn h'.1)]
  unfold O0 O1 O2 at h
  rw [Pi.add_apply, Finsupp.add_apply, Pi.add_apply, Finsupp.add_apply, Pi.add_apply, Finsupp.add_apply, hz _ h1, hz _ h2, hz _ h3, Nat.add_zero] at h
  obtain ⟨n, _, hn, rfl⟩ := OW_pos (c := c) (n := 0) h
  refine ⟨tgt (nIx n).2.1 (nIx n).2.2.2.val c, some (nIx n), rfl, ?_⟩
  rw [lvl_x, if_pos (show (nIx n).1 = true from rfl)]; omega

theorem mayWait_stage (c : Dev nD) (sm : SemLoc sig) (hq : ∀ k : CI, csem k ≠ sm) (O : CellTallies nD τ sig Unit) (hO : O = O0 c ∨ O = 0) :
    (levAts LL1 lvl : sProp 𝕄) ⊢ MayWait (c : Thread nD τ) sm () O := by
  rcases hO with rfl | rfl
  · refine MayOwe.of_cut (L := LL1) (lev := lvl) 0 (fun p hp => by rw [Finset.mem_singleton.mp hp, LL1_tc]; exact Finset.mem_singleton_self _)
      (fun g u hg => by obtain ⟨c', k, rfl, _⟩ := O0_pos hg; exact Finset.mem_singleton_self _)
      (fun p hp => by rw [Finset.mem_singleton.mp hp]; exact le_of_eq (lvl_other c sm hq))
      (fun g u hg => by obtain ⟨c', k, rfl, h⟩ := O0_pos hg; exact h)
  · rw [MayWait_zero]; iintro -; iempintro

end Cert.KernelIdeal.Rings
-- ==== Proof.ProgEq.lean ====
module

public import proofs.«01_k».proof.Proof.Prog

@[expose] public section

set_option maxRecDepth 100000
set_option synthInstance.maxSize 4096
set_option maxHeartbeats 4000000

noncomputable section

namespace Cert.KernelIdeal.Rings

open Idealize.ShloMosaic Idealize.SL.Sem
open Cert.KernelIdeal Cert.KernelIdeal.Gen

variable {F : FTy → Type} [FloatOps F]

theorem body_eq : cc0_body (F := F) xM (Memref.isWhole_whole _) kM (Memref.isWhole_whole _) wM (Memref.isWhole_whole _) oM (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13
    cc0_scratch14 cc0_scratch15 cc0_scratch16 cc0_scratch17 cc0_scratch18 cc0_scratch19 cc0_scratch20 cc0_scratch21
    cc0_scratch22 cc0_scratch23 = .op .deviceId prog := by
  rfl

end Cert.KernelIdeal.Rings
-- ==== Proof.Run.lean ====
module

public import proofs.«01_k».proof.Proof.Deal
public import proofs.«01_k».proof.Proof.ProgEq
public import Idealize.ShloMosaic.Adequacy
public import Idealize.ShloMosaic.Init
public import Idealize.ShloMosaic.Lib.Pipeline.CollectiveSegs

/-!
# The run of the program
-/

@[expose] public section

set_option maxRecDepth 4000

noncomputable section

namespace Cert.KernelIdeal.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

def xstg (c : Dev nD) : (cc0_stg0_0 : Ref sig .tc).ty.Contents (Elt F) := (win0_0.blk (0 : Fin 1)).view.read (Elt F) (m ((c : Thread nD τ).loc main_arg0))
def kstg (c : Dev nD) : (cc0_stg1_0 : Ref sig .tc).ty.Contents (Elt F) := (win0_1.blk (0 : Fin 1)).view.read (Elt F) (m ((c : Thread nD τ).loc main_arg1))
def wstg (c : Dev nD) : (cc0_stg2_0 : Ref sig .tc).ty.Contents (Elt F) := (win0_2.blk (0 : Fin 1)).view.read (Elt F) (m ((c : Thread nD τ).loc main_arg2))
/-- The arguments of all devices. -/
def inp : Inp F := ⟨xstg m, kstg m, wstg m⟩
/-- The result of a device. -/
def ostg (c : Dev nD) : (cc0_stg3_0 : Ref sig .tc).ty.Contents (Elt F) := OUT (inp m) c

/-! ### The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def credR (c : Dev nD) : sProp 𝕄 := iprop(cred (tallyAt (cell c none) () 3) ∗ bigSep Finset.univ fun y : YI => cred (tallyAt (cell c (some (true, y))) () NN))
def start (c : Dev nD) : sProp 𝕄 := iprop(∃ K, Rec (inp m) K ∗ linear c ∗ credR c)
def bufs (c : Dev nD) : sProp 𝕄 := iprop(stB c ∗ exB c ∗ agB c)
def Φ₀ (c : Dev nD) : sProp 𝕄 := iprop(start m c ∗ bufs c)
def Φ₁ (c : Dev nD) : sProp 𝕄 := iprop(bufs c ∗ (S15 (fZS c) ∗ S15 (fZR c)) ∗ semVal (cell c none) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => kstg m c
    | ⟨2, _⟩ => wstg m c
    | ⟨3, _⟩ => ostg m c
  Φ t := match t with
    | ⟨0, _⟩ => Φ₀ m c
    | ⟨_ + 1, _⟩ => Φ₁ c
  q _ := fullShare
  owed t := match t with
    | ⟨0, _⟩ => O0 c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem whole_set (b : Ref sig .tc) : (Memref.whole b : Memref sig .tc _ _ _).view.setOn Finset.univ = Finset.univ := by
  rw [View.setOn_univ]; exact View.set_whole _

theorem stg_pc (c : Dev nD) (b : Ref sig .tc) (X : b.ty.Contents (Elt F)) : stg c b X ⊢ (pc c (Memref.whole b) Finset.univ fullShare X : sProp 𝕄) := by
  unfold pc; rw [whole_set]
  iintro ⟨%f, %hf, H⟩
  iexists f; isplitr
  · ipureintro; subst hf; exact fun i _ => congrFun (View.read_whole b f) i
  · iexact H
theorem pc_stg (c : Dev nD) (b : Ref sig .tc) (X : b.ty.Contents (Elt F)) : (pc c (Memref.whole b) Finset.univ fullShare X : sProp 𝕄) ⊢ stg c b X := by
  unfold pc; rw [whole_set]
  iintro ⟨%f, %hf, H⟩
  iexists f; isplitr
  · ipureintro; funext i; exact (congrFun (View.read_whole b f) i).symm.trans (hf i (Finset.mem_univ i))
  · iexact H
theorem jk_whole (c : Dev nD) (b : Ref sig .tc) :
    (jk c (Memref.whole b) Finset.univ : sProp 𝕄) = iprop(∃ f : Buf (Elt F) (((c : Dev nD) : Thread nD τ).loc b), (((c : Thread nD τ).loc b) ↦{fullShare} f)) := by
  unfold jk; rw [whole_set]

/-! ### The body -/

def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost (c : Dev nD) : sProp 𝕄 :=
  iprop(Φ₁ c ∗ (dats m ρ 0 c).owesAt () t₀.succ ∗ stg c cc0_stg0_0 (xstg m c) ∗ stg c cc0_stg1_0 (kstg m c) ∗ stg c cc0_stg2_0 (wstg m c) ∗ stg c cc0_stg3_0 (ostg m c))

/-- The families of the transfers from what the launch deals. -/
theorem deal (c : Dev nD) : iprop(linear c ∗ credR c) ⊢ (iprop(barN c ∗ xfer c) : sProp 𝕄) := by
  refine Entails.of_eq ?_
  unfold linear payToks credR
  rw [bigO, bigX, bigY, bigY, bigY, bigY, bigY]
  dsimp only [barN, xfer, fST, fWC, fAP, ST, WC, S15, X4]
  ac_rfl

theorem before_0 (c : Dev nD) (d) : (dats m ρ 0 c).before (0 : Fin 4) t₀ d = xstg m c := by unfold Dat.before; rw [if_pos (fetch_0 t₀)]; rfl
theorem before_1 (c : Dev nD) (d) : (dats m ρ 0 c).before (1 : Fin 4) t₀ d = kstg m c := by unfold Dat.before; rw [if_pos (fetch_1 t₀)]; rfl
theorem before_2 (c : Dev nD) (d) : (dats m ρ 0 c).before (2 : Fin 4) t₀ d = wstg m c := by unfold Dat.before; rw [if_pos (fetch_2 t₀)]; rfl

theorem sound_body (c : Dev nD) : bodyPre m ρ c ⊢ WP c (.op .deviceId prog) (fun _ => bodyPost m ρ c) := by
  unfold WP
  rw [wp_deviceId]
  unfold bodyPre Φ₀ start bufs Dat.owesAt Pipeline.owesWithin
  simp only [before_0, before_1, before_2]
  rw [show (dats m ρ 0 c).owed t₀.castSucc = O0 c from rfl]
  iintro ⟨⟨⟨%K, #R, HL⟩, Hst, Hex, Hag⟩, ⟨%W, %hW, HO⟩, ⟨%d0, Hx⟩, ⟨%d1, Hk⟩, ⟨%d2, Hw⟩, ⟨%d3, %fo, -, Ho⟩⟩
  ihave HL := (deal (F := F) c) $$ HL
  icases HL with ⟨Hb, HX⟩
  iapply (run_prog (I := inp m) (K := K) (c := c) W (fun _ => bodyPost m ρ c))
  isplitr; · iexact R
  isplitl [HO Hb Hst Hex Hag Hx Hk Hw Ho HX]
  · isplitl [HO]; · iexact HO
    isplitl [Hb]; · iexact Hb
    isplitl [Hst]; · iexact Hst
    isplitl [Hex]; · iexact Hex
    isplitl [Hag]; · iexact Hag
    isplitl [Hx]; · iapply (show _ ⊢ XX (inp m) c from stg_pc c cc0_stg0_0 (xstg m c)); iexact Hx
    isplitl [Hk Hw]
    · unfold kwR
      isplitl [Hk]; · iapply (stg_pc c cc0_stg1_0 (kstg m c)); iexact Hk
      iapply (stg_pc c cc0_stg2_0 (wstg m c)); iexact Hw
    isplitl [Ho]; · iapply (Entails.of_eq (jk_whole c cc0_stg3_0).symm); iexists fo; iexact Ho
    iexact HX
  unfold kwR Ow
  iintro ⟨⟨%W', HO⟩, HZR, HZS, HzB, Hst, Hex, Hag, HX, ⟨HK, HW⟩, Ho⟩
  imodintro
  unfold bodyPost Φ₁ bufs Dat.owesAt Pipeline.owesWithin
  rw [show (dats m ρ 0 c).owed t₀.succ = 0 from rfl]
  isplitl [HZR HZS HzB Hst Hex Hag]
  · isplitl [Hst Hex Hag]
    · isplitl [Hst]; · iexact Hst
      isplitl [Hex] <;> iassumption
    isplitl [HZR HZS]
    · isplitl [HZS] <;> iassumption
    iexact HzB
  isplitl [HO]
  · iexists W'
    isplitr; · ipureintro; exact fun _ _ => Or.inl trivial
    iapply (Entails.of_eq (congrArg (fun O => (owes (c : Thread nD τ) O W' : sProp 𝕄)) (OW_end c))); iexact HO
  isplitl [HX]; · iapply (show XX (inp m) c ⊢ _ from pc_stg c cc0_stg0_0 (xstg m c)); iexact HX
  isplitl [HK]; · iapply (pc_stg c cc0_stg1_0 (kstg m c)); iexact HK
  isplitl [HW]; · iapply (pc_stg c cc0_stg2_0 (wstg m c)); iexact HW
  iapply (pc_stg c cc0_stg3_0 (ostg m c)); iexact Ho

set_option maxRecDepth 100000 in
/-- The library's body obligation. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (F := F) xM (Memref.isWhole_whole _) kM (Memref.isWhole_whole _) wM (Memref.isWhole_whole _) oM (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13
    cc0_scratch14 cc0_scratch15 cc0_scratch16 cc0_scratch17 cc0_scratch18 cc0_scratch19 cc0_scratch20 cc0_scratch21
    cc0_scratch22 cc0_scratch23) (fun _ => bodyPost m ρ c)
  rw [body_eq]
  exact sound_body m ρ c

/-! ### The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts LL1 lvl
        ∗ Pipeline.launchCred O0 c ∗ prngReg c (ρ c) ∗ G' (inp m) c)
      ⊢ |={Set.univ}=> iprop(start m c ∗ emp) := by
  iintro ⟨-, Hlev, Hcr, -, HG⟩
  ihave Hc := (creds (F := F) c) $$ Hcr
  imodintro
  unfold start G' records Rec credR
  icases HG with ⟨%K, ⟨H1, H2⟩, H3⟩
  isplitl
  · iexists K
    isplitl [H1 H2 Hlev]
    · isplitl [H1]; · iexact H1
      isplitl [H2] <;> iassumption
    isplitl [H3] <;> iassumption
  · iempintro

theorem bufs_eq (c : Dev nD) : (bufs c : sProp 𝕄) = Pipeline.scopedRest cfg0.spec c := by
  rw [scopedRest0_eq]
  show iprop((jk c (Memref.whole cc0_scratch0) _ ∗ jk c (Memref.whole cc0_scratch1) _) ∗ (jk c (Memref.whole cc0_scratch2) _ ∗ jk c (Memref.whole cc0_scratch3) _)
    ∗ (jk c (Memref.whole cc0_scratch4) _ ∗ jk c (Memref.whole cc0_scratch5) _)) = _
  rw [jk_whole, jk_whole, jk_whole, jk_whole, jk_whole, jk_whole]
  ac_rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← bufs_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← bufs_eq, ownSems0_eq, unscopedSems0_eq]
  unfold Φ₁
  iintro ⟨Hr, Hz, HzB⟩
  isplitl [HzB]; · iexact HzB
  isplitl [Hz] <;> iassumption

theorem waits (c : Dev nD) : (levAts LL1 lvl : sProp 𝕄) ⊢ Pipeline.cellsWaits cfgs (dats m ρ) () 0 c :=
  Pipeline.cellsWaits_intro cfgs (dats m ρ) () 0 c fun w s t =>
    mayWait_stage c _ (fun k => match k with
      | none => fun h => by cases h
      | some x => ownSemFacts.disj x w s) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- Every weakly fair execution ends, with the arrays at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O0) (howed₀ := fun _ => rfl) (howedN := fun _ => rfl)
    (L := LL1) (lv := lvl) (hL := LL1_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (fund_ring (inp m)) $$ HX with HG
      imodintro
      isplitl [HP] <;> iassumption)
    (hglob := glob (inp m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays after the run hold what they held. -/
theorem final_in0 (c : Dev nD) : finalA m ρ c (0 : Fin 4) = m ((c : Thread nD τ).loc main_arg0) := (dats (F := F) m ρ 0 c).arrAt_in (0 : Fin 4) rfl _
theorem final_in1 (c : Dev nD) : finalA m ρ c (1 : Fin 4) = m ((c : Thread nD τ).loc main_arg1) := (dats (F := F) m ρ 0 c).arrAt_in (1 : Fin 4) rfl _
theorem final_in2 (c : Dev nD) : finalA m ρ c (2 : Fin 4) = m ((c : Thread nD τ).loc main_arg2) := (dats (F := F) m ρ 0 c).arrAt_in (2 : Fin 4) rfl _

end Cert.KernelIdeal.Rings
-- ==== Proof.Value.lean ====
module

public import proofs.«01_k».proof.Proof.Cont
public import Idealize.ShloMosaic.Lib.Pointwise
public import Idealize.ShloMosaic.Lib.IdealHost
public import Idealize.ShloMosaic.Lib.Layout

/-!
# The partial products over the reals
-/

@[expose] public section

set_option maxRecDepth 4000

noncomputable section

namespace Cert.KernelIdeal.Rings

open Cert.KernelIdeal Cert.KernelIdeal.Gen
open Idealize.ShloMosaic Idealize.SL.Sem

/-- The activation. -/
def act (a : EReal) : EReal := Ideal.div a (1 + Ideal.exp (-a))
/-- A tap of the convolution over a sequence with zeros in front, and the convolution. -/
def tap (X : ℕ → EReal) (s t : ℕ) : EReal := if s + t < 3 then 0 else X (s + t - 3)
def conv (X K : ℕ → EReal) (s : ℕ) : EReal := tap X s 0 * K 0 + tap X s 1 * K 1 + tap X s 2 * K 2 + tap X s 3 * K 3

/-- A tap as the kernel finds it: in the chunk, or in the rows before it, or zero. -/
theorem tap_eq (X : ℕ → EReal) (b : BitVec 32) (s₀ r t : ℕ) (hb : b = 0#32 ↔ s₀ = 0) (h8 : s₀ ≠ 0 → 8 ≤ s₀) {p : ℕ} (hp : p = t + r)
    {A : p < 3 → EReal} {B : ¬p < 3 → EReal}
    (hA : ∀ h : p < 3, s₀ ≠ 0 → A h = X (s₀ - 8 + (5 + p))) (hB : ∀ h : ¬p < 3, B h = X (s₀ + (p - 3))) :
    (if h : p < 3 then Scalar.select (Scalar.cmpi CmpIPredicate.eq b 0#32) 0 (A h) else B h) = tap X (s₀ + r) t := by
  subst hp
  unfold tap
  by_cases h : t + r < 3
  · rw [dif_pos h]
    by_cases h0 : s₀ = 0
    · have hb' := hb.2 h0
      subst hb' h0
      rw [if_pos (by omega)]
      rfl
    · have hb' : b ≠ 0#32 := fun e => h0 (hb.1 e)
      have h8' := h8 h0
      rw [if_neg (by omega), hA h h0]
      have : Scalar.cmpi CmpIPredicate.eq b 0#32 = 0#1 := by
        show BitVec.ofBool (b == 0#32) = 0#1
        rw [beq_eq_false_iff_ne.2 hb']; rfl
      rw [this]
      show X _ = X _
      congr 1; omega
  · rw [dif_neg h, if_neg (by omega), hB h]
    congr 1; omega

theorem pay_apply (kv : Vec Ideal S4x512 .f32) (wv : Vec Ideal S512x512 .f32) (b : BitVec 32) (xv : Vec Ideal S1x256x512 .f32) (hv : Vec Ideal S1x8x512 .f32)
    (j : S256x512.Idx) (X : ℕ → Fin 512 → EReal) (s₀ : ℕ) (hb : b = 0#32 ↔ s₀ = 0) (h8 : s₀ ≠ 0 → 8 ≤ s₀)
    (hx : ∀ (r : Fin 256) (x : Fin 512), xv (ix3 0 r x) = X (s₀ + r.val) x)
    (hh : s₀ ≠ 0 → ∀ (r : Fin 8) (x : Fin 512), hv (ix3 0 r x) = X (s₀ - 8 + r.val) x)
    (K : ℕ → Fin 512 → EReal) (hk : ∀ (t : Fin 4) (x : Fin 512), kv (ix2 t x) = K t.val x) :
    k0_pay4 (k0_pay3 (k0_pay1 kv) (k0_pay2 wv) b xv hv) j
      = ∑ x : Fin 512, act (conv (fun s => X s x) (fun t => K t x) (s₀ + (j 0).val)) * wv (ix2 x (j 1)) := by
  have hj : (j 0).val < 256 := (j 0).isLt
  pointwise [k0_pay4, k0_pay3, k0_pay1, k0_pay2]
  simp only [zero_sub]
  refine Finset.sum_congr rfl fun x _ => ?_
  change act _ * _ = act _ * _
  refine congrArg (fun a => act a * _) ?_
  unfold conv
  have e3 : tap (fun s => X s x) (s₀ + (j 0).val) 3 = X (s₀ + (j 0).val) x := by
    unfold tap; rw [if_neg (by omega), Nat.add_sub_cancel]
  rw [e3, ← hx (j 0) x]
  have hs : ∀ a b c e : EReal, a + b + c + e = e + a + b + c := fun a b c e => by ac_rfl
  refine Eq.trans ?_ (hs _ _ _ _).symm
  refine Ideal.add_congr (Ideal.add_congr (Ideal.add_congr ?_ ?_) ?_) ?_
  · exact Ideal.mul_congr rfl (hk 3 x)
  · refine Ideal.mul_congr (tap_eq (fun s => X s x) b s₀ (j 0).val 0 hb h8 (Nat.zero_add _).symm ?_ ?_) (hk 0 x)
    · intro h h0; exact hh h0 _ x
    · intro h; exact hx _ x
  · refine Ideal.mul_congr (tap_eq (fun s => X s x) b s₀ (j 0).val 1 hb h8 rfl ?_ ?_) (hk 1 x)
    · intro h h0; exact hh h0 _ x
    · intro h; exact hx _ x
  · refine Ideal.mul_congr (tap_eq (fun s => X s x) b s₀ (j 0).val 2 hb h8 rfl ?_ ?_) (hk 2 x)
    · intro h h0; exact hh h0 _ x
    · intro h; exact hx _ x

variable (I : Inp Ideal)

/-- A device's share of an element of the result: row `s` of batch `b`, column `n`. -/
def share (c : Dev nD) (b s n : ℕ) : EReal :=
  ∑ x : Fin 512, act (conv (fun s => I.x c (at3 4 1024 512 b s x.val)) (fun t => I.k c (at2 4 512 t x.val)) s) * I.w c (at2 512 512 x.val n)

theorem tile_real (d : Bool) (c : Dev nD) (κ : ℕ) (j : S256x512.Idx) :
    tileC I d c κ j = share I c (κ / 4 + if d then 2 else 0) (256 * (κ % 4) + (j 0).val) (j 1).val := by
  unfold tileC share
  rw [pay_apply _ _ _ _ _ j (fun s x => I.x c (at3 4 1024 512 (κ / 4 + if d then 2 else 0) s x.val)) (256 * (κ % 4)) ?_ ?_ (fun _ _ => rfl) (fun _ _ _ => rfl)
    (fun t x => I.k c (at2 4 512 t x.val)) (fun t x => congrArg (I.k c) (at2_eq _ rfl rfl).symm)]
  · refine Finset.sum_congr rfl fun x _ => Ideal.mul_congr rfl (congrArg (I.w c) (at2_eq _ rfl rfl).symm)
  · have h : κ % 4 < 4 := Nat.mod_lt _ (by decide)
    generalize κ % 4 = q at h
    interval_cases q <;> decide
  · omega

theorem LL_real (d : Bool) (c : Dev nD) (i : S2048x512.Idx) :
    LL I d c i = share I c ((i 0).val / 1024 + if d then 2 else 0) ((i 0).val % 1024) (i 1).val := by
  have h0 : (i 0).val < 2048 := (i 0).isLt
  have h1 : (i 1).val < 512 := (i 1).isLt
  unfold LL
  rw [tile_real, at2_val0 (Nat.mod_lt _ (by decide)), at2_val1 h1]
  congr 1 <;> omega

/-! ### The sums over the rings -/

/-- The eight devices behind a device, itself first. -/
def back (d : Bool) (c : Dev nD) (k : ℕ) : Dev nD := (pv d)^[k] c

theorem PP_real (d : Bool) (i : S2048x512.Idx) (s : ℕ) : ∀ c : Dev nD, PP I d s c i = ∑ k ∈ Finset.range (s + 1), LL I d (back d c k) i := by
  induction s with
  | zero => intro c; rw [Finset.sum_range_one]; rfl
  | succ s ih =>
    intro c
    rw [Finset.sum_range_succ']
    refine Eq.trans ?_ (add_comm _ _)
    show (LL I d c i : EReal) + PP I d s (pv d c) i = _
    rw [ih]
    rfl

/-- The two rings from a device and its partner are all devices. -/
theorem all_devs (d : Bool) (c : Dev nD) : (Finset.range 8).image (back d c) ∪ (Finset.range 8).image (back d (partner c)) = Finset.univ := by
  revert d c; decide +kernel
theorem inj_devs (d : Bool) (c : Dev nD) : Set.InjOn (back d c) (Finset.range 8) := by
  have : ∀ d : Bool, ∀ c : Dev nD, ∀ a : Fin 8, ∀ b : Fin 8, back d c a.val = back d c b.val → a = b := by decide +kernel
  intro a ha b hb e
  exact congrArg Fin.val (this d c ⟨a, Finset.mem_range.1 ha⟩ ⟨b, Finset.mem_range.1 hb⟩ e)
theorem disj_devs (d : Bool) (c : Dev nD) : Disjoint ((Finset.range 8).image (back d c)) ((Finset.range 8).image (back d (partner c))) := by
  revert d c; decide +kernel

theorem FS_real (d : Bool) (c : Dev nD) (i : S2048x512.Idx) : FS I d c i = ∑ e : Dev nD, LL I d e i := by
  unfold FS
  show (PP I d 7 (ow d c ((i 0).val / 256)) i : EReal) + PP I d 7 (partner (ow d c ((i 0).val / 256))) i = _
  generalize ow d c ((i 0).val / 256) = c'
  rw [PP_real, PP_real, ← all_devs d c', Finset.sum_union (disj_devs d c'), Finset.sum_image (inj_devs d c'), Finset.sum_image (inj_devs d (partner c'))]

/-- Every device ends with the same result: the sum of all devices' shares. -/
theorem OUT_real (c : Dev nD) (i : S4096x512.Idx) :
    OUT I c i = ∑ e : Dev nD, share I e ((i 0).val / 1024) ((i 0).val % 1024) (i 1).val := by
  have h0 : (i 0).val < 4096 := (i 0).isLt
  have h1 : (i 1).val < 512 := (i 1).isLt
  have key : ∀ d : Bool, d = decide (2048 ≤ (i 0).val) →
      FS I d c (at2 2048 512 ((i 0).val % 2048) (i 1).val) = ∑ e : Dev nD, share I e ((i 0).val / 1024) ((i 0).val % 1024) (i 1).val := by
    intro d hd
    rw [FS_real]
    refine Finset.sum_congr rfl fun e _ => ?_
    rw [LL_real, at2_val0 (Nat.mod_lt _ (by decide)), at2_val1 h1]
    subst hd
    by_cases h : 2048 ≤ (i 0).val
    · simp only [h, decide_true, if_true]; congr 1 <;> omega
    · simp only [h, decide_false, Bool.false_eq_true, if_false]; congr 1 <;> omega
  unfold OUT
  split
  · exact key _ rfl
  · exact key _ rfl

end Cert.KernelIdeal.Rings
-- ==== Proof.RefValue.lean ====
module

public import proofs.«01_k».proof.Proof.Value
public import proofs.«01_k».proof.Proof.Gen.ReferenceIdeal.Read
public import Idealize.ShloMosaic.Lib.Pointwise
public import Idealize.ShloMosaic.Lib.IdealHost
public import Idealize.ShloMosaic.Lib.Layout

/-!
# The reference over the reals
-/

@[expose] public section

set_option maxRecDepth 4000

noncomputable section

namespace Cert.ReferenceIdeal.Rings

open Cert.ReferenceIdeal Cert.ReferenceIdeal.Gen Cert.ReferenceIdeal.Read
open Idealize.ShloMosaic Idealize.SL.Sem
open Cert.KernelIdeal.Rings (act conv tap at2 at3 at2_eq at3_eq)

/-- A tap as the reference reads it out of the rows with zeros in front. -/
theorem tap_ref (X : ℕ → EReal) (s t : ℕ) {p : ℕ} (hp : p = t + s) {B : ¬p < 3 → EReal} (hB : ∀ h, B h = X (p - 3)) :
    (if h : p < 3 then 0 else B h) = tap X s t := by
  subst hp
  unfold tap
  by_cases h : t + s < 3
  · rw [dif_pos h, if_pos (by omega)]
  · rw [dif_neg h, if_neg (by omega), hB h, Nat.add_comm]

theorem tap_last (X : ℕ → EReal) (s : ℕ) : X s = tap X s 3 := by
  unfold tap; rw [if_neg (by omega), Nat.add_sub_cancel]

theorem ref_apply (X : (⟨S4x1024x8192, .f32⟩ : BufTy).Contents (Elt Ideal)) (K : (⟨S4x8192, .f32⟩ : BufTy).Contents (Elt Ideal)) (W : (⟨S8192x512, .f32⟩ : BufTy).Contents (Elt Ideal))
    (i : S4096x512.Idx) :
    val_main_v37 (F := Ideal) X K W i
      = ∑ k : Fin 8192, act (conv (fun s => X (at3 4 1024 8192 ((i 0).val / 1024) s k.val)) (fun t => K (at2 4 8192 t k.val)) ((i 0).val % 1024)) * W (at2 8192 512 k.val (i 1).val) := by
  pointwise [val_main_v37, val_main_v36, val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5, val_main_v4, val_main_v3,
    val_main_v2, val_main_v1, val_main_v0, val_main_cst, val_main_cst_0, val_main_cst_1]
  have hi : (i 0).val < 4096 := (i 0).isLt
  refine Finset.sum_congr rfl fun x _ => ?_
  change act _ * _ = act _ * _
  refine Ideal.mul_congr (congrArg act ?_) (congrArg W (at2_eq _ rfl rfl).symm)
  unfold conv
  refine Ideal.add_congr (Ideal.add_congr (Ideal.add_congr ?_ ?_) ?_) ?_
  · exact Ideal.mul_congr (tap_ref _ _ 0 (Nat.zero_add _).symm fun h => congrArg X (at3_eq _ rfl rfl rfl).symm) (congrArg K (at2_eq _ rfl rfl).symm)
  · exact Ideal.mul_congr (tap_ref _ _ 1 rfl fun h => congrArg X (at3_eq _ rfl rfl rfl).symm) (congrArg K (at2_eq _ rfl rfl).symm)
  · exact Ideal.mul_congr (tap_ref _ _ 2 rfl fun h => congrArg X (at3_eq _ rfl rfl rfl).symm) (congrArg K (at2_eq _ rfl rfl).symm)
  · refine Ideal.mul_congr ?_ (congrArg K (at2_eq _ rfl rfl).symm)
    exact (congrArg X (at3_eq _ rfl rfl rfl).symm).trans (tap_last (fun s => X (at3 4 1024 8192 ((i 0).val / 1024) s x.val)) _)

end Cert.ReferenceIdeal.Rings
-- ==== Proof.Whole.lean ====
module

public import proofs.«01_k».proof.Proof.Run
public import proofs.«01_k».proof.Proof.RefValue
public import Idealize.ShloMosaic.Lib.Pipeline.Value

/-!
# The arrays of the launch, and the sum over the devices
-/

@[expose] public section

set_option maxRecDepth 4000

noncomputable section

namespace Cert.KernelIdeal.Rings

open Cert.KernelIdeal Cert.KernelIdeal.Gen
open Idealize.ShloMosaic Idealize.SL.Sem
open Idealize.ShloMosaic.TcCoe
open Idealize.ShloMosaic.Pipeline (Dat)

section Arrays
variable {F : FTy → Type} [FloatOps F]
variable (m : (ℓ : Loc nD τ sig) → Buf (Elt F) ℓ) (ρ : Dev nD → PrngReg)

/-- The one block of each window is its whole array. -/
theorem wholeE0 (y : S4x1024x512.Idx) : (win0_0.blk (0 : Fin 1)).view.emb y = y := by
  funext a; exact Fin.ext (win0_0.rect_emb_val_of_index_zero (0 : Fin 1) a (by fin_cases a <;> rfl) y)
theorem wholeE1 (y : S4x512.Idx) : (win0_1.blk (0 : Fin 1)).view.emb y = y := by
  funext a; exact Fin.ext (win0_1.rect_emb_val_of_index_zero (0 : Fin 1) a (by fin_cases a <;> rfl) y)
theorem wholeE2 (y : S512x512.Idx) : (win0_2.blk (0 : Fin 1)).view.emb y = y := by
  funext a; exact Fin.ext (win0_2.rect_emb_val_of_index_zero (0 : Fin 1) a (by fin_cases a <;> rfl) y)
theorem wholeE3 (y : S4096x512.Idx) : (win0_3.blk (0 : Fin 1)).view.emb y = y := by
  funext a; exact Fin.ext (win0_3.rect_emb_val_of_index_zero (0 : Fin 1) a (by fin_cases a <;> rfl) y)

theorem xstg_eq (c : Dev nD) : xstg m c = m ((c : Thread nD τ).loc main_arg0) := by
  funext y; exact congrArg (m ((c : Thread nD τ).loc main_arg0)) (wholeE0 y)
theorem kstg_eq (c : Dev nD) : kstg m c = m ((c : Thread nD τ).loc main_arg1) := by
  funext y; exact congrArg (m ((c : Thread nD τ).loc main_arg1)) (wholeE1 y)
theorem wstg_eq (c : Dev nD) : wstg m c = m ((c : Thread nD τ).loc main_arg2) := by
  funext y; exact congrArg (m ((c : Thread nD τ).loc main_arg2)) (wholeE2 y)

theorem read3 (G : S4096x512.Idx → Elt F .f32) : (win0_3.blk (0 : Fin 1)).view.read (Elt F) G = G := by
  funext y; exact congrArg G (wholeE3 y)

theorem cover3 (i : S4096x512.Idx) : i ∈ (win0_3.blk (0 : Fin 1)).view.set := by
  have h := (win0_3.blk (0 : Fin 1)).view.emb_mem_set i
  rwa [wholeE3] at h

set_option maxRecDepth 100000 in
theorem flushed_out (c : Dev nD) : (dats m ρ 0 c).flushed (3 : Fin 4) t₀ = ostg m c := by
  unfold Dat.flushed
  rfl

set_option maxRecDepth 100000 in
/-- The result array after the run. -/
theorem final_out (c : Dev nD) : finalA m ρ c (3 : Fin 4) = OUT (inp m) c := by
  refine (dats (F := F) m ρ 0 c).arrAt_eq_of_cover (3 : Fin 4) (OUT (inp m) c) ?_ ?_
  · intro t _
    rw [fin_N t]
    refine Eq.trans ?_ (read3 (OUT (inp m) c)).symm
    exact flushed_out m ρ c
  · intro i
    exact ⟨t₀, rfl, cover3 i⟩
end Arrays

theorem sum_split (f : Fin 16 → Fin 512 → EReal) (g : Fin 8192 → EReal) (h : ∀ (e : Fin 16) (x : Fin 512) (k : Fin 8192), k.val = e.val * 512 + x.val → f e x = g k) :
    ∑ e, ∑ x, f e x = ∑ k, g k := by
  rw [← Fintype.sum_prod_type']
  refine Fintype.sum_equiv (finProdFinEquiv (m := 16) (n := 512)) _ _ fun p => ?_
  refine h p.1 p.2 _ ?_
  show p.2.val + 512 * p.1.val = _
  omega

/-- The sum of the devices' shares is the reference at the whole arrays. -/
theorem out_eq_ref (I : Inp Ideal) (X : Cert.ReferenceIdeal.S4x1024x8192.Idx → EReal) (K : Cert.ReferenceIdeal.S4x8192.Idx → EReal) (W : Cert.ReferenceIdeal.S8192x512.Idx → EReal)
    (hx : ∀ e : Dev nD, I.x e = Layout.block ⟨3, ![4, 1024, 512]⟩ ⟨3, ![4, 1024, 8192]⟩ 2 16 e X)
    (hk : ∀ e : Dev nD, I.k e = Layout.block ⟨2, ![4, 512]⟩ ⟨2, ![4, 8192]⟩ 1 16 e K)
    (hw : ∀ e : Dev nD, I.w e = Layout.block ⟨2, ![512, 512]⟩ ⟨2, ![8192, 512]⟩ 0 16 e W) (c : Dev nD) :
    OUT I c = Cert.ReferenceIdeal.Read.val_main_v37 (F := Ideal) X K W := by
  funext i
  refine (OUT_real I c i).trans ((sum_split _ _ ?_).trans (Cert.ReferenceIdeal.Rings.ref_apply X K W i).symm)
  intro e x k hkv
  have hX : (fun s => I.x e (at3 4 1024 512 ((i 0).val / 1024) s x.val)) = fun s => X (at3 4 1024 8192 ((i 0).val / 1024) s k.val) := by
    funext s
    rw [hx e, Layout.block_apply]
    refine congrArg X (funext fun a => Fin.ext ?_)
    fin_cases a
    · rfl
    · rfl
    · show e.val * 512 + x.val % 512 = k.val % 8192; omega
  have hK : (fun t => I.k e (at2 4 512 t x.val)) = fun t => K (at2 4 8192 t k.val) := by
    funext t
    rw [hk e, Layout.block_apply]
    refine congrArg K (funext fun a => Fin.ext ?_)
    fin_cases a
    · rfl
    · show e.val * 512 + x.val % 512 = k.val % 8192; omega
  have hW : I.w e (at2 512 512 x.val (i 1).val) = W (at2 8192 512 k.val (i 1).val) := by
    rw [hw e, Layout.block_apply]
    refine congrArg W (funext fun a => Fin.ext ?_)
    fin_cases a
    · show e.val * 512 + x.val % 512 = k.val % 8192; omega
    · rfl
  show act (conv _ _ _) * _ = act (conv _ _ _) * _
  rw [hX, hK, hW]

end Cert.KernelIdeal.Rings
-- ==== Proof.lean ====
/- The proof of the claims: both frames of the kernel from one run, the reference's run, and the equality over the reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Whole
public import Idealize.ShloMosaic.Adequacy
public import Idealize.ShloMosaic.Init

@[expose] public section

noncomputable section

namespace Cert.Proof

open Idealize.ShloMosaic Idealize.SL.Sem

theorem frame_ideal : Cert.quiescent_KernelIdeal := fun m ρ _ =>
  (θ_run Cert.KernelIdeal.defs _ _).mono
    (fun _ h => ⟨fun c => ⟨(h.1 c (0 : Fin 4)).trans (Cert.KernelIdeal.Rings.final_in0 m ρ c), (h.1 c (1 : Fin 4)).trans (Cert.KernelIdeal.Rings.final_in1 m ρ c),
      (h.1 c (2 : Fin 4)).trans (Cert.KernelIdeal.Rings.final_in2 m ρ c)⟩, h.2⟩)
    (Cert.KernelIdeal.Rings.run_main (F := Ideal) m ρ)

set_option maxRecDepth 100000

/-- The two printings of the kernel are one program. -/
theorem defs₀_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl

theorem defs_eq : Cert.Kernel.defs (F := Bits) = Cert.KernelIdeal.defs (F := Bits) := by
  show Pipeline.defs _ _ = Pipeline.defs _ _
  exact congrArg (Pipeline.defs _) defs₀_eq

theorem main_eq : Cert.Kernel.main (F := Bits) = Cert.KernelIdeal.main (F := Bits) := rfl

theorem frame_kernel : Cert.quiescent_Kernel := fun m ρ _ => by
  rw [defs_eq, main_eq]
  exact (θ_run Cert.KernelIdeal.defs _ _).mono
    (fun _ h => ⟨fun c => ⟨(h.1 c (0 : Fin 4)).trans (Cert.KernelIdeal.Rings.final_in0 m ρ c), (h.1 c (1 : Fin 4)).trans (Cert.KernelIdeal.Rings.final_in1 m ρ c),
      (h.1 c (2 : Fin 4)).trans (Cert.KernelIdeal.Rings.final_in2 m ρ c)⟩, h.2⟩)
    (Cert.KernelIdeal.Rings.run_main (F := Bits) m ρ)

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

open Cert.KernelIdeal.Rings in
/-- Every device's result is the reference's at the whole arrays. -/
theorem equal : Cert.algebraic_KernelIdeal_ReferenceIdeal := by
  intro m g m' g' _ hm
  refine ⟨Cert.ReferenceIdeal.Value.res_main_v37 m' 0, ?_, ?_⟩
  · refine (θ_run Cert.KernelIdeal.defs _ _).mono (fun r h c => ⟨?_, (h.1 c (0 : Fin 4)).trans (final_in0 m g c), (h.1 c (1 : Fin 4)).trans (final_in1 m g c),
      (h.1 c (2 : Fin 4)).trans (final_in2 m g c)⟩) (run_main (F := Ideal) m g)
    refine ((h.1 c (3 : Fin 4)).trans (final_out m g c)).trans ?_
    refine (out_eq_ref (inp m) _ _ _ (fun e => (xstg_eq m e).trans (hm e).1) (fun e => (kstg_eq m e).trans (hm e).2.1) (fun e => (wstg_eq m e).trans (hm e).2.2) c).trans ?_
    exact (Cert.ReferenceIdeal.Read.val_main_v37_eq (F := Ideal) m' 0).symm
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, frame_kernel, frame_ideal, frame_reference, trivial, equal⟩

end Cert.Proof

end
